-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 4096, 128, 128]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 4096, 128, 128]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x16384 : Shape := ⟨2, ![1024, 16384]⟩
abbrev S1x4096x8x128 : Shape := ⟨4, ![1, 4096, 8, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .f32) (main_arg1 : FVec F S1024x16384 .f32) (main_arg2 : FVec F S1x4096x8x128 .f32) (main_arg3 : FVec F S1x4096x8x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x4096x128x128 : S_.BroadcastsInDim S1x4096x128x128 (![] : Fin 0 → Fin S1x4096x128x128.rank)
  reducesTo_S1x4096x128x128_S_d0_1_2_3 : S1x4096x128x128.ReducesTo [0, 1, 2, 3] S_

variable [Facts]

def fn {F : FTy → Type} [FloatOps F] (main_arg0 : FVec F S1x256x1024 .f32) (main_arg1 : FVec F S1024x16384 .f32) (main_arg2 : FVec F S1x4096x128x128 .f32) (main_arg3 : FVec F S1x4096x128x128 .f32) (main_arg4 : FVec F S16384x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x4096x128x128 .f32 := Host.absf main_arg2
  let main_cst_2 : FVec F S_ .f32 := constant S_ .f32 0x7F800000#32
  let main_v10 : FVec F S1x4096x128x128 .f32 := broadcastInDim S1x4096x128x128 ![] bcast_S_S1x4096x128x128 main_cst_2
  let main_v11 : IVec S1x4096x128x128 1 := cmpf .olt main_v9 main_v10
  let main_c_3 : IVec S_ 1 := constantI S_ 1 1#1
  let main_v12 : IVec S_ 1 := (fun x v => Host.reduce IntOp.andi x v reducesTo_S1x4096x128x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x16384 : Shape := ⟨2, ![1024, 16384]⟩
abbrev S1x4096x8x128 : Shape := ⟨4, ![1, 4096, 8, 128]⟩
abbrev S16384x1024 : Shape := ⟨2, ![16384, 1024]⟩
abbrev S1024x1024 : Shape := ⟨2, ![1024, 1024]⟩
abbrev S2x4096x128 : Shape := ⟨3, ![2, 4096, 128]⟩
abbrev S256x1024 : Shape := ⟨2, ![256, 1024]⟩
abbrev S16x16x1024 : Shape := ⟨3, ![16, 16, 1024]⟩
abbrev S_ : Shape := ⟨0, ![]⟩
abbrev S2 : Shape := ⟨1, ![2]⟩
abbrev S16 : Shape := ⟨1, ![16]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1x16x1024 : Shape := ⟨3, ![1, 16, 1024]⟩
abbrev S16x1024 : Shape := ⟨2, ![16, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1x4096x8x128, .f32⟩
  | .hbm, ⟨3, _⟩ => ⟨S1x4096x8x128, .f32⟩
  | .hbm, ⟨4, _⟩ => ⟨S16384x1024, .f32⟩
  | .hbm, ⟨5, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S2x4096x128, .f32⟩
  | .local _ .vmem, ⟨5, _⟩ => ⟨S2x4096x128, .f32⟩
  | .local _ .vmem, ⟨6, _⟩ => ⟨S256x1024, .bf16⟩
  | .local _ .vmem, ⟨7, _⟩ => ⟨S16x16x1024, .bf16⟩
  | .local _ .vmem, ⟨8, _⟩ => ⟨S16x16x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_829 : BitVec 32 := 0#32
  let c0_i32_827 : BitVec 32 := 0#32
  let c1_i32_828 : BitVec 32 := 1#32
  let v797 : BitVec 32 := Scalar.muli c0_i32_827 c1_i32_828
  let v798 : BitVec 32 := Scalar.addi c0_i32_829 v797
  v798.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_829 : BitVec 32 := 0#32
  let c1_i32_827 : BitVec 32 := 1#32
  let c1_i32_828 : BitVec 32 := 1#32
  let v797 : BitVec 32 := Scalar.muli c1_i32_827 c1_i32_828
  let v798 : BitVec 32 := Scalar.addi c0_i32_829 v797
  v798.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_829 : BitVec 32 := 0#32
  let c2_i32_827 : BitVec 32 := 2#32
  let c1_i32_828 : BitVec 32 := 1#32
  let v797 : BitVec 32 := Scalar.muli c2_i32_827 c1_i32_828
  let v798 : BitVec 32 := Scalar.addi c0_i32_829 v797
  v798.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_829 : BitVec 32 := 0#32
  let c3_i32_827 : BitVec 32 := 3#32
  let c1_i32_828 : BitVec 32 := 1#32
  let v797 : BitVec 32 := Scalar.muli c3_i32_827 c1_i32_828
  let v798 : BitVec 32 := Scalar.addi c0_i32_829 v797
  v798.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_829 : BitVec 32 := 0#32
  let c4_i32_827 : BitVec 32 := 4#32
  let c1_i32_828 : BitVec 32 := 1#32
  let v797 : BitVec 32 := Scalar.muli c4_i32_827 c1_i32_828
  let v798 : BitVec 32 := Scalar.addi c0_i32_829 v797
  v798.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_829 : BitVec 32 := 0#32
  let c5_i32_827 : BitVec 32 := 5#32
  let c1_i32_828 : BitVec 32 := 1#32
  let v797 : BitVec 32 := Scalar.muli c5_i32_827 c1_i32_828
  let v798 : BitVec 32 := Scalar.addi c0_i32_829 v797
  v798.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_829 : BitVec 32 := 0#32
  let c6_i32_827 : BitVec 32 := 6#32
  let c1_i32_828 : BitVec 32 := 1#32
  let v797 : BitVec 32 := Scalar.muli c6_i32_827 c1_i32_828
  let v798 : BitVec 32 := Scalar.addi c0_i32_829 v797
  v798.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_829 : BitVec 32 := 0#32
  let c7_i32_827 : BitVec 32 := 7#32
  let c1_i32_828 : BitVec 32 := 1#32
  let v797 : BitVec 32 := Scalar.muli c7_i32_827 c1_i32_828
  let v798 : BitVec 32 := Scalar.addi c0_i32_829 v797
  v798.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_829 : BitVec 32 := 0#32
  let c8_i32_827 : BitVec 32 := 8#32
  let c1_i32_828 : BitVec 32 := 1#32
  let v797 : BitVec 32 := Scalar.muli c8_i32_827 c1_i32_828
  let v798 : BitVec 32 := Scalar.addi c0_i32_829 v797
  v798.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_829 : BitVec 32 := 0#32
  let c9_i32_827 : BitVec 32 := 9#32
  let c1_i32_828 : BitVec 32 := 1#32
  let v797 : BitVec 32 := Scalar.muli c9_i32_827 c1_i32_828
  let v798 : BitVec 32 := Scalar.addi c0_i32_829 v797
  v798.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_829 : BitVec 32 := 0#32
  let c10_i32_827 : BitVec 32 := 10#32
  let c1_i32_828 : BitVec 32 := 1#32
  let v797 : BitVec 32 := Scalar.muli c10_i32_827 c1_i32_828
  let v798 : BitVec 32 := Scalar.addi c0_i32_829 v797
  v798.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_829 : BitVec 32 := 0#32
  let c11_i32_827 : BitVec 32 := 11#32
  let c1_i32_828 : BitVec 32 := 1#32
  let v797 : BitVec 32 := Scalar.muli c11_i32_827 c1_i32_828
  let v798 : BitVec 32 := Scalar.addi c0_i32_829 v797
  v798.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_829 : BitVec 32 := 0#32
  let c12_i32_827 : BitVec 32 := 12#32
  let c1_i32_828 : BitVec 32 := 1#32
  let v797 : BitVec 32 := Scalar.muli c12_i32_827 c1_i32_828
  let v798 : BitVec 32 := Scalar.addi c0_i32_829 v797
  v798.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_829 : BitVec 32 := 0#32
  let c13_i32_827 : BitVec 32 := 13#32
  let c1_i32_828 : BitVec 32 := 1#32
  let v797 : BitVec 32 := Scalar.muli c13_i32_827 c1_i32_828
  let v798 : BitVec 32 := Scalar.addi c0_i32_829 v797
  v798.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_829 : BitVec 32 := 0#32
  let c14_i32_827 : BitVec 32 := 14#32
  let c1_i32_828 : BitVec 32 := 1#32
  let v797 : BitVec 32 := Scalar.muli c14_i32_827 c1_i32_828
  let v798 : BitVec 32 := Scalar.addi c0_i32_829 v797
  v798.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_829 : BitVec 32 := 0#32
  let c15_i32_827 : BitVec 32 := 15#32
  let c1_i32_828 : BitVec 32 := 1#32
  let v797 : BitVec 32 := Scalar.muli c15_i32_827 c1_i32_828
  let v798 : BitVec 32 := Scalar.addi c0_i32_829 v797
  v798.toNat
def k0_off1 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v52 : BitVec 32 := Scalar.muli v2 c1024_i32
  ![0, v52.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_18 : BitVec 32 := 1024#32
  let v54 : BitVec 32 := Scalar.muli v2 c1024_i32_18
  let c0_i32_19 : BitVec 32 := 0#32
  ![v54.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_394 : BitVec 32 := 0#32
  let v490 : BitVec 1 := Scalar.cmpi .ne v2 c0_i32_394
  let v491 : BitVec 32 := Scalar.extui v490
  let c0_i32_397 : BitVec 32 := 0#32
  let v492 : BitVec 1 := Scalar.cmpi .ne v491 c0_i32_397
  v492

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev17 : Nat :=
  let c0_i32_828 : BitVec 32 := 0#32
  let c0_i32_826 : BitVec 32 := 0#32
  let c1_i32_827 : BitVec 32 := 1#32
  let v797 : BitVec 32 := Scalar.muli c0_i32_826 c1_i32_827
  let v798 : BitVec 32 := Scalar.addi c0_i32_828 v797
  v798.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_398 : BitVec 32 := 1#32
  let v493 : BitVec 1 := Scalar.cmpi .ne v2 c1_i32_398
  let v494 : BitVec 32 := Scalar.extui v493
  let c0_i32_401 : BitVec 32 := 0#32
  let v495 : BitVec 1 := Scalar.cmpi .ne v494 c0_i32_401
  v495

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev18 : Nat :=
  let c0_i32_828 : BitVec 32 := 0#32
  let c1_i32_826 : BitVec 32 := 1#32
  let c1_i32_827 : BitVec 32 := 1#32
  let v797 : BitVec 32 := Scalar.muli c1_i32_826 c1_i32_827
  let v798 : BitVec 32 := Scalar.addi c0_i32_828 v797
  v798.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_402 : BitVec 32 := 2#32
  let v496 : BitVec 1 := Scalar.cmpi .ne v2 c2_i32_402
  let v497 : BitVec 32 := Scalar.extui v496
  let c0_i32_405 : BitVec 32 := 0#32
  let v498 : BitVec 1 := Scalar.cmpi .ne v497 c0_i32_405
  v498

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev19 : Nat :=
  let c0_i32_828 : BitVec 32 := 0#32
  let c2_i32_826 : BitVec 32 := 2#32
  let c1_i32_827 : BitVec 32 := 1#32
  let v797 : BitVec 32 := Scalar.muli c2_i32_826 c1_i32_827
  let v798 : BitVec 32 := Scalar.addi c0_i32_828 v797
  v798.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_406 : BitVec 32 := 3#32
  let v499 : BitVec 1 := Scalar.cmpi .ne v2 c3_i32_406
  let v500 : BitVec 32 := Scalar.extui v499
  let c0_i32_409 : BitVec 32 := 0#32
  let v501 : BitVec 1 := Scalar.cmpi .ne v500 c0_i32_409
  v501

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev20 : Nat :=
  let c0_i32_828 : BitVec 32 := 0#32
  let c3_i32_826 : BitVec 32 := 3#32
  let c1_i32_827 : BitVec 32 := 1#32
  let v797 : BitVec 32 := Scalar.muli c3_i32_826 c1_i32_827
  let v798 : BitVec 32 := Scalar.addi c0_i32_828 v797
  v798.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_410 : BitVec 32 := 4#32
  let v502 : BitVec 1 := Scalar.cmpi .ne v2 c4_i32_410
  let v503 : BitVec 32 := Scalar.extui v502
  let c0_i32_413 : BitVec 32 := 0#32
  let v504 : BitVec 1 := Scalar.cmpi .ne v503 c0_i32_413
  v504

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev21 : Nat :=
  let c0_i32_828 : BitVec 32 := 0#32
  let c4_i32_826 : BitVec 32 := 4#32
  let c1_i32_827 : BitVec 32 := 1#32
  let v797 : BitVec 32 := Scalar.muli c4_i32_826 c1_i32_827
  let v798 : BitVec 32 := Scalar.addi c0_i32_828 v797
  v798.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_414 : BitVec 32 := 5#32
  let v505 : BitVec 1 := Scalar.cmpi .ne v2 c5_i32_414
  let v506 : BitVec 32 := Scalar.extui v505
  let c0_i32_417 : BitVec 32 := 0#32
  let v507 : BitVec 1 := Scalar.cmpi .ne v506 c0_i32_417
  v507

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev22 : Nat :=
  let c0_i32_828 : BitVec 32 := 0#32
  let c5_i32_826 : BitVec 32 := 5#32
  let c1_i32_827 : BitVec 32 := 1#32
  let v797 : BitVec 32 := Scalar.muli c5_i32_826 c1_i32_827
  let v798 : BitVec 32 := Scalar.addi c0_i32_828 v797
  v798.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_418 : BitVec 32 := 6#32
  let v508 : BitVec 1 := Scalar.cmpi .ne v2 c6_i32_418
  let v509 : BitVec 32 := Scalar.extui v508
  let c0_i32_421 : BitVec 32 := 0#32
  let v510 : BitVec 1 := Scalar.cmpi .ne v509 c0_i32_421
  v510

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev23 : Nat :=
  let c0_i32_828 : BitVec 32 := 0#32
  let c6_i32_826 : BitVec 32 := 6#32
  let c1_i32_827 : BitVec 32 := 1#32
  let v797 : BitVec 32 := Scalar.muli c6_i32_826 c1_i32_827
  let v798 : BitVec 32 := Scalar.addi c0_i32_828 v797
  v798.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_422 : BitVec 32 := 7#32
  let v511 : BitVec 1 := Scalar.cmpi .ne v2 c7_i32_422
  let v512 : BitVec 32 := Scalar.extui v511
  let c0_i32_425 : BitVec 32 := 0#32
  let v513 : BitVec 1 := Scalar.cmpi .ne v512 c0_i32_425
  v513

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev24 : Nat :=
  let c0_i32_828 : BitVec 32 := 0#32
  let c7_i32_826 : BitVec 32 := 7#32
  let c1_i32_827 : BitVec 32 := 1#32
  let v797 : BitVec 32 := Scalar.muli c7_i32_826 c1_i32_827
  let v798 : BitVec 32 := Scalar.addi c0_i32_828 v797
  v798.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_426 : BitVec 32 := 8#32
  let v514 : BitVec 1 := Scalar.cmpi .ne v2 c8_i32_426
  let v515 : BitVec 32 := Scalar.extui v514
  let c0_i32_429 : BitVec 32 := 0#32
  let v516 : BitVec 1 := Scalar.cmpi .ne v515 c0_i32_429
  v516

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev25 : Nat :=
  let c0_i32_828 : BitVec 32 := 0#32
  let c8_i32_826 : BitVec 32 := 8#32
  let c1_i32_827 : BitVec 32 := 1#32
  let v797 : BitVec 32 := Scalar.muli c8_i32_826 c1_i32_827
  let v798 : BitVec 32 := Scalar.addi c0_i32_828 v797
  v798.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_430 : BitVec 32 := 9#32
  let v517 : BitVec 1 := Scalar.cmpi .ne v2 c9_i32_430
  let v518 : BitVec 32 := Scalar.extui v517
  let c0_i32_433 : BitVec 32 := 0#32
  let v519 : BitVec 1 := Scalar.cmpi .ne v518 c0_i32_433
  v519

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev26 : Nat :=
  let c0_i32_828 : BitVec 32 := 0#32
  let c9_i32_826 : BitVec 32 := 9#32
  let c1_i32_827 : BitVec 32 := 1#32
  let v797 : BitVec 32 := Scalar.muli c9_i32_826 c1_i32_827
  let v798 : BitVec 32 := Scalar.addi c0_i32_828 v797
  v798.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_434 : BitVec 32 := 10#32
  let v520 : BitVec 1 := Scalar.cmpi .ne v2 c10_i32_434
  let v521 : BitVec 32 := Scalar.extui v520
  let c0_i32_437 : BitVec 32 := 0#32
  let v522 : BitVec 1 := Scalar.cmpi .ne v521 c0_i32_437
  v522

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev27 : Nat :=
  let c0_i32_828 : BitVec 32 := 0#32
  let c10_i32_826 : BitVec 32 := 10#32
  let c1_i32_827 : BitVec 32 := 1#32
  let v797 : BitVec 32 := Scalar.muli c10_i32_826 c1_i32_827
  let v798 : BitVec 32 := Scalar.addi c0_i32_828 v797
  v798.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_438 : BitVec 32 := 11#32
  let v523 : BitVec 1 := Scalar.cmpi .ne v2 c11_i32_438
  let v524 : BitVec 32 := Scalar.extui v523
  let c0_i32_441 : BitVec 32 := 0#32
  let v525 : BitVec 1 := Scalar.cmpi .ne v524 c0_i32_441
  v525

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev28 : Nat :=
  let c0_i32_828 : BitVec 32 := 0#32
  let c11_i32_826 : BitVec 32 := 11#32
  let c1_i32_827 : BitVec 32 := 1#32
  let v797 : BitVec 32 := Scalar.muli c11_i32_826 c1_i32_827
  let v798 : BitVec 32 := Scalar.addi c0_i32_828 v797
  v798.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_442 : BitVec 32 := 12#32
  let v526 : BitVec 1 := Scalar.cmpi .ne v2 c12_i32_442
  let v527 : BitVec 32 := Scalar.extui v526
  let c0_i32_445 : BitVec 32 := 0#32
  let v528 : BitVec 1 := Scalar.cmpi .ne v527 c0_i32_445
  v528

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev29 : Nat :=
  let c0_i32_828 : BitVec 32 := 0#32
  let c12_i32_826 : BitVec 32 := 12#32
  let c1_i32_827 : BitVec 32 := 1#32
  let v797 : BitVec 32 := Scalar.muli c12_i32_826 c1_i32_827
  let v798 : BitVec 32 := Scalar.addi c0_i32_828 v797
  v798.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_446 : BitVec 32 := 13#32
  let v529 : BitVec 1 := Scalar.cmpi .ne v2 c13_i32_446
  let v530 : BitVec 32 := Scalar.extui v529
  let c0_i32_449 : BitVec 32 := 0#32
  let v531 : BitVec 1 := Scalar.cmpi .ne v530 c0_i32_449
  v531

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev30 : Nat :=
  let c0_i32_828 : BitVec 32 := 0#32
  let c13_i32_826 : BitVec 32 := 13#32
  let c1_i32_827 : BitVec 32 := 1#32
  let v797 : BitVec 32 := Scalar.muli c13_i32_826 c1_i32_827
  let v798 : BitVec 32 := Scalar.addi c0_i32_828 v797
  v798.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_450 : BitVec 32 := 14#32
  let v532 : BitVec 1 := Scalar.cmpi .ne v2 c14_i32_450
  let v533 : BitVec 32 := Scalar.extui v532
  let c0_i32_453 : BitVec 32 := 0#32
  let v534 : BitVec 1 := Scalar.cmpi .ne v533 c0_i32_453
  v534

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev31 : Nat :=
  let c0_i32_828 : BitVec 32 := 0#32
  let c14_i32_826 : BitVec 32 := 14#32
  let c1_i32_827 : BitVec 32 := 1#32
  let v797 : BitVec 32 := Scalar.muli c14_i32_826 c1_i32_827
  let v798 : BitVec 32 := Scalar.addi c0_i32_828 v797
  v798.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_454 : BitVec 32 := 15#32
  let v535 : BitVec 1 := Scalar.cmpi .ne v2 c15_i32_454
  let v536 : BitVec 32 := Scalar.extui v535
  let c0_i32_457 : BitVec 32 := 0#32
  let v537 : BitVec 1 := Scalar.cmpi .ne v536 c0_i32_457
  v537

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev32 : Nat :=
  let c0_i32_828 : BitVec 32 := 0#32
  let c15_i32_826 : BitVec 32 := 15#32
  let c1_i32_827 : BitVec 32 := 1#32
  let v797 : BitVec 32 := Scalar.muli c15_i32_826 c1_i32_827
  let v798 : BitVec 32 := Scalar.addi c0_i32_828 v797
  v798.toNat
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v538 : Index := Scalar.indexCast v2
  let c0_458 : Index := 0#32
  let c0_459 : Index := 0#32
  ![v538.toNat, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_564 : BitVec 32 := 0#32
  let v601 : BitVec 1 := Scalar.cmpi .ne v2 c0_i32_564
  let v602 : BitVec 32 := Scalar.extui v601
  let c0_i32_566 : BitVec 32 := 0#32
  let v603 : BitVec 1 := Scalar.cmpi .ne v602 c0_i32_566
  v603

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev33 : Nat :=
  let c0_i32_828 : BitVec 32 := 0#32
  let c0_i32_826 : BitVec 32 := 0#32
  let c1_i32_827 : BitVec 32 := 1#32
  let v797 : BitVec 32 := Scalar.muli c0_i32_826 c1_i32_827
  let v798 : BitVec 32 := Scalar.addi c0_i32_828 v797
  v798.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_567 : BitVec 32 := 1#32
  let v604 : BitVec 1 := Scalar.cmpi .ne v2 c1_i32_567
  let v605 : BitVec 32 := Scalar.extui v604
  let c0_i32_569 : BitVec 32 := 0#32
  let v606 : BitVec 1 := Scalar.cmpi .ne v605 c0_i32_569
  v606

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev34 : Nat :=
  let c0_i32_828 : BitVec 32 := 0#32
  let c1_i32_826 : BitVec 32 := 1#32
  let c1_i32_827 : BitVec 32 := 1#32
  let v797 : BitVec 32 := Scalar.muli c1_i32_826 c1_i32_827
  let v798 : BitVec 32 := Scalar.addi c0_i32_828 v797
  v798.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_570 : BitVec 32 := 2#32
  let v607 : BitVec 1 := Scalar.cmpi .ne v2 c2_i32_570
  let v608 : BitVec 32 := Scalar.extui v607
  let c0_i32_572 : BitVec 32 := 0#32
  let v609 : BitVec 1 := Scalar.cmpi .ne v608 c0_i32_572
  v609

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev35 : Nat :=
  let c0_i32_828 : BitVec 32 := 0#32
  let c2_i32_826 : BitVec 32 := 2#32
  let c1_i32_827 : BitVec 32 := 1#32
  let v797 : BitVec 32 := Scalar.muli c2_i32_826 c1_i32_827
  let v798 : BitVec 32 := Scalar.addi c0_i32_828 v797
  v798.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_573 : BitVec 32 := 3#32
  let v610 : BitVec 1 := Scalar.cmpi .ne v2 c3_i32_573
  let v611 : BitVec 32 := Scalar.extui v610
  let c0_i32_575 : BitVec 32 := 0#32
  let v612 : BitVec 1 := Scalar.cmpi .ne v611 c0_i32_575
  v612

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev36 : Nat :=
  let c0_i32_828 : BitVec 32 := 0#32
  let c3_i32_826 : BitVec 32 := 3#32
  let c1_i32_827 : BitVec 32 := 1#32
  let v797 : BitVec 32 := Scalar.muli c3_i32_826 c1_i32_827
  let v798 : BitVec 32 := Scalar.addi c0_i32_828 v797
  v798.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_576 : BitVec 32 := 4#32
  let v613 : BitVec 1 := Scalar.cmpi .ne v2 c4_i32_576
  let v614 : BitVec 32 := Scalar.extui v613
  let c0_i32_578 : BitVec 32 := 0#32
  let v615 : BitVec 1 := Scalar.cmpi .ne v614 c0_i32_578
  v615

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev37 : Nat :=
  let c0_i32_828 : BitVec 32 := 0#32
  let c4_i32_826 : BitVec 32 := 4#32
  let c1_i32_827 : BitVec 32 := 1#32
  let v797 : BitVec 32 := Scalar.muli c4_i32_826 c1_i32_827
  let v798 : BitVec 32 := Scalar.addi c0_i32_828 v797
  v798.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_579 : BitVec 32 := 5#32
  let v616 : BitVec 1 := Scalar.cmpi .ne v2 c5_i32_579
  let v617 : BitVec 32 := Scalar.extui v616
  let c0_i32_581 : BitVec 32 := 0#32
  let v618 : BitVec 1 := Scalar.cmpi .ne v617 c0_i32_581
  v618

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev38 : Nat :=
  let c0_i32_828 : BitVec 32 := 0#32
  let c5_i32_826 : BitVec 32 := 5#32
  let c1_i32_827 : BitVec 32 := 1#32
  let v797 : BitVec 32 := Scalar.muli c5_i32_826 c1_i32_827
  let v798 : BitVec 32 := Scalar.addi c0_i32_828 v797
  v798.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_582 : BitVec 32 := 6#32
  let v619 : BitVec 1 := Scalar.cmpi .ne v2 c6_i32_582
  let v620 : BitVec 32 := Scalar.extui v619
  let c0_i32_584 : BitVec 32 := 0#32
  let v621 : BitVec 1 := Scalar.cmpi .ne v620 c0_i32_584
  v621

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev39 : Nat :=
  let c0_i32_828 : BitVec 32 := 0#32
  let c6_i32_826 : BitVec 32 := 6#32
  let c1_i32_827 : BitVec 32 := 1#32
  let v797 : BitVec 32 := Scalar.muli c6_i32_826 c1_i32_827
  let v798 : BitVec 32 := Scalar.addi c0_i32_828 v797
  v798.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_585 : BitVec 32 := 7#32
  let v622 : BitVec 1 := Scalar.cmpi .ne v2 c7_i32_585
  let v623 : BitVec 32 := Scalar.extui v622
  let c0_i32_587 : BitVec 32 := 0#32
  let v624 : BitVec 1 := Scalar.cmpi .ne v623 c0_i32_587
  v624

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev40 : Nat :=
  let c0_i32_828 : BitVec 32 := 0#32
  let c7_i32_826 : BitVec 32 := 7#32
  let c1_i32_827 : BitVec 32 := 1#32
  let v797 : BitVec 32 := Scalar.muli c7_i32_826 c1_i32_827
  let v798 : BitVec 32 := Scalar.addi c0_i32_828 v797
  v798.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_588 : BitVec 32 := 8#32
  let v625 : BitVec 1 := Scalar.cmpi .ne v2 c8_i32_588
  let v626 : BitVec 32 := Scalar.extui v625
  let c0_i32_590 : BitVec 32 := 0#32
  let v627 : BitVec 1 := Scalar.cmpi .ne v626 c0_i32_590
  v627

def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev41 : Nat :=
  let c0_i32_828 : BitVec 32 := 0#32
  let c8_i32_826 : BitVec 32 := 8#32
  let c1_i32_827 : BitVec 32 := 1#32
  let v797 : BitVec 32 := Scalar.muli c8_i32_826 c1_i32_827
  let v798 : BitVec 32 := Scalar.addi c0_i32_828 v797
  v798.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_591 : BitVec 32 := 9#32
  let v628 : BitVec 1 := Scalar.cmpi .ne v2 c9_i32_591
  let v629 : BitVec 32 := Scalar.extui v628
  let c0_i32_593 : BitVec 32 := 0#32
  let v630 : BitVec 1 := Scalar.cmpi .ne v629 c0_i32_593
  v630

def k0_off54 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev42 : Nat :=
  let c0_i32_828 : BitVec 32 := 0#32
  let c9_i32_826 : BitVec 32 := 9#32
  let c1_i32_827 : BitVec 32 := 1#32
  let v797 : BitVec 32 := Scalar.muli c9_i32_826 c1_i32_827
  let v798 : BitVec 32 := Scalar.addi c0_i32_828 v797
  v798.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_594 : BitVec 32 := 10#32
  let v631 : BitVec 1 := Scalar.cmpi .ne v2 c10_i32_594
  let v632 : BitVec 32 := Scalar.extui v631
  let c0_i32_596 : BitVec 32 := 0#32
  let v633 : BitVec 1 := Scalar.cmpi .ne v632 c0_i32_596
  v633

def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev43 : Nat :=
  let c0_i32_828 : BitVec 32 := 0#32
  let c10_i32_826 : BitVec 32 := 10#32
  let c1_i32_827 : BitVec 32 := 1#32
  let v797 : BitVec 32 := Scalar.muli c10_i32_826 c1_i32_827
  let v798 : BitVec 32 := Scalar.addi c0_i32_828 v797
  v798.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_597 : BitVec 32 := 11#32
  let v634 : BitVec 1 := Scalar.cmpi .ne v2 c11_i32_597
  let v635 : BitVec 32 := Scalar.extui v634
  let c0_i32_599 : BitVec 32 := 0#32
  let v636 : BitVec 1 := Scalar.cmpi .ne v635 c0_i32_599
  v636

def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev44 : Nat :=
  let c0_i32_828 : BitVec 32 := 0#32
  let c11_i32_826 : BitVec 32 := 11#32
  let c1_i32_827 : BitVec 32 := 1#32
  let v797 : BitVec 32 := Scalar.muli c11_i32_826 c1_i32_827
  let v798 : BitVec 32 := Scalar.addi c0_i32_828 v797
  v798.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_600 : BitVec 32 := 12#32
  let v637 : BitVec 1 := Scalar.cmpi .ne v2 c12_i32_600
  let v638 : BitVec 32 := Scalar.extui v637
  let c0_i32_602 : BitVec 32 := 0#32
  let v639 : BitVec 1 := Scalar.cmpi .ne v638 c0_i32_602
  v639

def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev45 : Nat :=
  let c0_i32_828 : BitVec 32 := 0#32
  let c12_i32_826 : BitVec 32 := 12#32
  let c1_i32_827 : BitVec 32 := 1#32
  let v797 : BitVec 32 := Scalar.muli c12_i32_826 c1_i32_827
  let v798 : BitVec 32 := Scalar.addi c0_i32_828 v797
  v798.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_603 : BitVec 32 := 13#32
  let v640 : BitVec 1 := Scalar.cmpi .ne v2 c13_i32_603
  let v641 : BitVec 32 := Scalar.extui v640
  let c0_i32_605 : BitVec 32 := 0#32
  let v642 : BitVec 1 := Scalar.cmpi .ne v641 c0_i32_605
  v642

def k0_off62 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev46 : Nat :=
  let c0_i32_828 : BitVec 32 := 0#32
  let c13_i32_826 : BitVec 32 := 13#32
  let c1_i32_827 : BitVec 32 := 1#32
  let v797 : BitVec 32 := Scalar.muli c13_i32_826 c1_i32_827
  let v798 : BitVec 32 := Scalar.addi c0_i32_828 v797
  v798.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_606 : BitVec 32 := 14#32
  let v643 : BitVec 1 := Scalar.cmpi .ne v2 c14_i32_606
  let v644 : BitVec 32 := Scalar.extui v643
  let c0_i32_608 : BitVec 32 := 0#32
  let v645 : BitVec 1 := Scalar.cmpi .ne v644 c0_i32_608
  v645

def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev47 : Nat :=
  let c0_i32_828 : BitVec 32 := 0#32
  let c14_i32_826 : BitVec 32 := 14#32
  let c1_i32_827 : BitVec 32 := 1#32
  let v797 : BitVec 32 := Scalar.muli c14_i32_826 c1_i32_827
  let v798 : BitVec 32 := Scalar.addi c0_i32_828 v797
  v798.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_609 : BitVec 32 := 15#32
  let v646 : BitVec 1 := Scalar.cmpi .ne v2 c15_i32_609
  let v647 : BitVec 32 := Scalar.extui v646
  let c0_i32_611 : BitVec 32 := 0#32
  let v648 : BitVec 1 := Scalar.cmpi .ne v647 c0_i32_611
  v648

def k0_off66 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_829 : BitVec 32 := 0#32
  let c0_i32_830 : BitVec 32 := 0#32
  ![v2.toNat, 0, 0]
def k0_dev48 : Nat :=
  let c0_i32_828 : BitVec 32 := 0#32
  let c15_i32_826 : BitVec 32 := 15#32
  let c1_i32_827 : BitVec 32 := 1#32
  let v797 : BitVec 32 := Scalar.muli c15_i32_826 c1_i32_827
  let v798 : BitVec 32 := Scalar.addi c0_i32_828 v797
  v798.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_708 : BitVec 32 := 0#32
  let v697 : BitVec 1 := Scalar.cmpi .ne v2 c0_i32_708
  let v698 : BitVec 32 := Scalar.extui v697
  let c0_i32_711 : BitVec 32 := 0#32
  let v699 : BitVec 1 := Scalar.cmpi .ne v698 c0_i32_711
  v699

def k0_off68 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_712 : BitVec 32 := 1#32
  let v700 : BitVec 1 := Scalar.cmpi .ne v2 c1_i32_712
  let v701 : BitVec 32 := Scalar.extui v700
  let c0_i32_715 : BitVec 32 := 0#32
  let v702 : BitVec 1 := Scalar.cmpi .ne v701 c0_i32_715
  v702

def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_716 : BitVec 32 := 2#32
  let v703 : BitVec 1 := Scalar.cmpi .ne v2 c2_i32_716
  let v704 : BitVec 32 := Scalar.extui v703
  let c0_i32_719 : BitVec 32 := 0#32
  let v705 : BitVec 1 := Scalar.cmpi .ne v704 c0_i32_719
  v705

def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_720 : BitVec 32 := 3#32
  let v706 : BitVec 1 := Scalar.cmpi .ne v2 c3_i32_720
  let v707 : BitVec 32 := Scalar.extui v706
  let c0_i32_723 : BitVec 32 := 0#32
  let v708 : BitVec 1 := Scalar.cmpi .ne v707 c0_i32_723
  v708

def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_724 : BitVec 32 := 4#32
  let v709 : BitVec 1 := Scalar.cmpi .ne v2 c4_i32_724
  let v710 : BitVec 32 := Scalar.extui v709
  let c0_i32_727 : BitVec 32 := 0#32
  let v711 : BitVec 1 := Scalar.cmpi .ne v710 c0_i32_727
  v711

def k0_off72 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_728 : BitVec 32 := 5#32
  let v712 : BitVec 1 := Scalar.cmpi .ne v2 c5_i32_728
  let v713 : BitVec 32 := Scalar.extui v712
  let c0_i32_731 : BitVec 32 := 0#32
  let v714 : BitVec 1 := Scalar.cmpi .ne v713 c0_i32_731
  v714

def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_732 : BitVec 32 := 6#32
  let v715 : BitVec 1 := Scalar.cmpi .ne v2 c6_i32_732
  let v716 : BitVec 32 := Scalar.extui v715
  let c0_i32_735 : BitVec 32 := 0#32
  let v717 : BitVec 1 := Scalar.cmpi .ne v716 c0_i32_735
  v717

def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_736 : BitVec 32 := 7#32
  let v718 : BitVec 1 := Scalar.cmpi .ne v2 c7_i32_736
  let v719 : BitVec 32 := Scalar.extui v718
  let c0_i32_739 : BitVec 32 := 0#32
  let v720 : BitVec 1 := Scalar.cmpi .ne v719 c0_i32_739
  v720

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_740 : BitVec 32 := 8#32
  let v721 : BitVec 1 := Scalar.cmpi .ne v2 c8_i32_740
  let v722 : BitVec 32 := Scalar.extui v721
  let c0_i32_743 : BitVec 32 := 0#32
  let v723 : BitVec 1 := Scalar.cmpi .ne v722 c0_i32_743
  v723

def k0_off76 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_744 : BitVec 32 := 9#32
  let v724 : BitVec 1 := Scalar.cmpi .ne v2 c9_i32_744
  let v725 : BitVec 32 := Scalar.extui v724
  let c0_i32_747 : BitVec 32 := 0#32
  let v726 : BitVec 1 := Scalar.cmpi .ne v725 c0_i32_747
  v726

def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_748 : BitVec 32 := 10#32
  let v727 : BitVec 1 := Scalar.cmpi .ne v2 c10_i32_748
  let v728 : BitVec 32 := Scalar.extui v727
  let c0_i32_751 : BitVec 32 := 0#32
  let v729 : BitVec 1 := Scalar.cmpi .ne v728 c0_i32_751
  v729

def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_752 : BitVec 32 := 11#32
  let v730 : BitVec 1 := Scalar.cmpi .ne v2 c11_i32_752
  let v731 : BitVec 32 := Scalar.extui v730
  let c0_i32_755 : BitVec 32 := 0#32
  let v732 : BitVec 1 := Scalar.cmpi .ne v731 c0_i32_755
  v732

def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_756 : BitVec 32 := 12#32
  let v733 : BitVec 1 := Scalar.cmpi .ne v2 c12_i32_756
  let v734 : BitVec 32 := Scalar.extui v733
  let c0_i32_759 : BitVec 32 := 0#32
  let v735 : BitVec 1 := Scalar.cmpi .ne v734 c0_i32_759
  v735

def k0_off80 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_760 : BitVec 32 := 13#32
  let v736 : BitVec 1 := Scalar.cmpi .ne v2 c13_i32_760
  let v737 : BitVec 32 := Scalar.extui v736
  let c0_i32_763 : BitVec 32 := 0#32
  let v738 : BitVec 1 := Scalar.cmpi .ne v737 c0_i32_763
  v738

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_764 : BitVec 32 := 14#32
  let v739 : BitVec 1 := Scalar.cmpi .ne v2 c14_i32_764
  let v740 : BitVec 32 := Scalar.extui v739
  let c0_i32_767 : BitVec 32 := 0#32
  let v741 : BitVec 1 := Scalar.cmpi .ne v740 c0_i32_767
  v741

def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_768 : BitVec 32 := 15#32
  let v742 : BitVec 1 := Scalar.cmpi .ne v2 c15_i32_768
  let v743 : BitVec 32 := Scalar.extui v742
  let c0_i32_771 : BitVec 32 := 0#32
  let v744 : BitVec 1 := Scalar.cmpi .ne v743 c0_i32_771
  v744

def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_830 : BitVec 32 := 0#32
  let c0_i32_831 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_772 : BitVec 32 := 0#32
  let v745 : BitVec 1 := Scalar.cmpi .ne v2 c0_i32_772
  let v746 : BitVec 32 := Scalar.extui v745
  let c0_i32_774 : BitVec 32 := 0#32
  let v747 : BitVec 1 := Scalar.cmpi .ne v746 c0_i32_774
  v747

def k0_off84 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_775 : BitVec 32 := 1#32
  let v748 : BitVec 1 := Scalar.cmpi .ne v2 c1_i32_775
  let v749 : BitVec 32 := Scalar.extui v748
  let c0_i32_777 : BitVec 32 := 0#32
  let v750 : BitVec 1 := Scalar.cmpi .ne v749 c0_i32_777
  v750

def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_778 : BitVec 32 := 2#32
  let v751 : BitVec 1 := Scalar.cmpi .ne v2 c2_i32_778
  let v752 : BitVec 32 := Scalar.extui v751
  let c0_i32_780 : BitVec 32 := 0#32
  let v753 : BitVec 1 := Scalar.cmpi .ne v752 c0_i32_780
  v753

def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_781 : BitVec 32 := 3#32
  let v754 : BitVec 1 := Scalar.cmpi .ne v2 c3_i32_781
  let v755 : BitVec 32 := Scalar.extui v754
  let c0_i32_783 : BitVec 32 := 0#32
  let v756 : BitVec 1 := Scalar.cmpi .ne v755 c0_i32_783
  v756

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_784 : BitVec 32 := 4#32
  let v757 : BitVec 1 := Scalar.cmpi .ne v2 c4_i32_784
  let v758 : BitVec 32 := Scalar.extui v757
  let c0_i32_786 : BitVec 32 := 0#32
  let v759 : BitVec 1 := Scalar.cmpi .ne v758 c0_i32_786
  v759

def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_787 : BitVec 32 := 5#32
  let v760 : BitVec 1 := Scalar.cmpi .ne v2 c5_i32_787
  let v761 : BitVec 32 := Scalar.extui v760
  let c0_i32_789 : BitVec 32 := 0#32
  let v762 : BitVec 1 := Scalar.cmpi .ne v761 c0_i32_789
  v762

def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_790 : BitVec 32 := 6#32
  let v763 : BitVec 1 := Scalar.cmpi .ne v2 c6_i32_790
  let v764 : BitVec 32 := Scalar.extui v763
  let c0_i32_792 : BitVec 32 := 0#32
  let v765 : BitVec 1 := Scalar.cmpi .ne v764 c0_i32_792
  v765

def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_793 : BitVec 32 := 7#32
  let v766 : BitVec 1 := Scalar.cmpi .ne v2 c7_i32_793
  let v767 : BitVec 32 := Scalar.extui v766
  let c0_i32_795 : BitVec 32 := 0#32
  let v768 : BitVec 1 := Scalar.cmpi .ne v767 c0_i32_795
  v768

def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_796 : BitVec 32 := 8#32
  let v769 : BitVec 1 := Scalar.cmpi .ne v2 c8_i32_796
  let v770 : BitVec 32 := Scalar.extui v769
  let c0_i32_798 : BitVec 32 := 0#32
  let v771 : BitVec 1 := Scalar.cmpi .ne v770 c0_i32_798
  v771

def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_799 : BitVec 32 := 9#32
  let v772 : BitVec 1 := Scalar.cmpi .ne v2 c9_i32_799
  let v773 : BitVec 32 := Scalar.extui v772
  let c0_i32_801 : BitVec 32 := 0#32
  let v774 : BitVec 1 := Scalar.cmpi .ne v773 c0_i32_801
  v774

def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_802 : BitVec 32 := 10#32
  let v775 : BitVec 1 := Scalar.cmpi .ne v2 c10_i32_802
  let v776 : BitVec 32 := Scalar.extui v775
  let c0_i32_804 : BitVec 32 := 0#32
  let v777 : BitVec 1 := Scalar.cmpi .ne v776 c0_i32_804
  v777

def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_805 : BitVec 32 := 11#32
  let v778 : BitVec 1 := Scalar.cmpi .ne v2 c11_i32_805
  let v779 : BitVec 32 := Scalar.extui v778
  let c0_i32_807 : BitVec 32 := 0#32
  let v780 : BitVec 1 := Scalar.cmpi .ne v779 c0_i32_807
  v780

def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_808 : BitVec 32 := 12#32
  let v781 : BitVec 1 := Scalar.cmpi .ne v2 c12_i32_808
  let v782 : BitVec 32 := Scalar.extui v781
  let c0_i32_810 : BitVec 32 := 0#32
  let v783 : BitVec 1 := Scalar.cmpi .ne v782 c0_i32_810
  v783

def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_811 : BitVec 32 := 13#32
  let v784 : BitVec 1 := Scalar.cmpi .ne v2 c13_i32_811
  let v785 : BitVec 32 := Scalar.extui v784
  let c0_i32_813 : BitVec 32 := 0#32
  let v786 : BitVec 1 := Scalar.cmpi .ne v785 c0_i32_813
  v786

def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_814 : BitVec 32 := 14#32
  let v787 : BitVec 1 := Scalar.cmpi .ne v2 c14_i32_814
  let v788 : BitVec 32 := Scalar.extui v787
  let c0_i32_816 : BitVec 32 := 0#32
  let v789 : BitVec 1 := Scalar.cmpi .ne v788 c0_i32_816
  v789

def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_817 : BitVec 32 := 15#32
  let v790 : BitVec 1 := Scalar.cmpi .ne v2 c15_i32_817
  let v791 : BitVec 32 := Scalar.extui v790
  let c0_i32_819 : BitVec 32 := 0#32
  let v792 : BitVec 1 := Scalar.cmpi .ne v791 c0_i32_819
  v792

def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_828 : BitVec 32 := 0#32
  let c0_i32_829 : BitVec 32 := 0#32
  ![v2.toNat, 0, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S1x256x16384 : Shape := ⟨3, ![1, 256, 16384]⟩
abbrev S1x256x128x128 : Shape := ⟨4, ![1, 256, 128, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S1x128x256x4096 : Shape := ⟨4, ![1, 128, 256, 4096]⟩
abbrev S1x1x256x4096 : Shape := ⟨4, ![1, 1, 256, 4096]⟩
abbrev S1x128x256 : Shape := ⟨3, ![1, 128, 256]⟩
abbrev S1x128x256x1 : Shape := ⟨4, ![1, 128, 256, 1]⟩
abbrev S1x1x256x1 : Shape := ⟨4, ![1, 1, 256, 1]⟩
abbrev S1x128x128x256 : Shape := ⟨4, ![1, 128, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1x4096x128x128, .f32⟩
  | .hbm, ⟨3, _⟩ => ⟨S1x4096x128x128, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S1x128x256x4096, .f32⟩
  | .hbm, ⟨85, _⟩ => ⟨S_, .f32⟩
  | .hbm, ⟨86, _⟩ => ⟨S1x128x256x4096, .f32⟩
  | .hbm, ⟨87, _⟩ => ⟨S1x128x256x4096, .f32⟩
  | .hbm, ⟨88, _⟩ => ⟨S1x1x256x4096, .i1⟩
  | .hbm, ⟨89, _⟩ => ⟨S_, .f32⟩
  | .hbm, ⟨90, _⟩ => ⟨S_, .f32⟩
  | .hbm, ⟨91, _⟩ => ⟨S1x128x256x4096, .i1⟩
  | .hbm, ⟨92, _⟩ => ⟨S1x128x256x4096, .f32⟩
  | .hbm, ⟨93, _⟩ => ⟨S1x128x256x4096, .f32⟩
  | .hbm, ⟨94, _⟩ => ⟨S_, .f32⟩
  | .hbm, ⟨95, _⟩ => ⟨S1x128x256, .f32⟩
  | .hbm, ⟨96, _⟩ => ⟨S1x128x256x1, .f32⟩
  | .hbm, ⟨97, _⟩ => ⟨S1x128x256x4096, .f32⟩
  | .hbm, ⟨98, _⟩ => ⟨S1x128x256x4096, .f32⟩
  | .hbm, ⟨99, _⟩ => ⟨S1x128x256x4096, .f32⟩
  | .hbm, ⟨100, _⟩ => ⟨S_, .i1⟩
  | .hbm, ⟨101, _⟩ => ⟨S256, .i1⟩
  | .hbm, ⟨102, _⟩ => ⟨S1x1x256x1, .i1⟩
  | .hbm, ⟨103, _⟩ => ⟨S_, .f32⟩
  | .hbm, ⟨104, _⟩ => ⟨S1x128x256, .f32⟩
  | .hbm, ⟨105, _⟩ => ⟨S1x128x256x1, .f32⟩
  | .hbm, ⟨106, _⟩ => ⟨S_, .f32⟩
  | .hbm, ⟨107, _⟩ => ⟨S_, .f32⟩
  | .hbm, ⟨108, _⟩ => ⟨S1x128x256x1, .i1⟩
  | .hbm, ⟨109, _⟩ => ⟨S1x128x256x1, .f32⟩
  | .hbm, ⟨110, _⟩ => ⟨S1x128x256x1, .f32⟩
  | .hbm, ⟨111, _⟩ => ⟨S1x128x256x4096, .f32⟩
  | .hbm, ⟨112, _⟩ => ⟨S1x128x256x4096, .f32⟩
  | .hbm, ⟨113, _⟩ => ⟨S1x1x256x1, .i1⟩
  | .hbm, ⟨114, _⟩ => ⟨S_, .f32⟩
  | .hbm, ⟨115, _⟩ => ⟨S_, .f32⟩
  | .hbm, ⟨116, _⟩ => ⟨S1x128x256x4096, .i1⟩
  | .hbm, ⟨117, _⟩ => ⟨S1x128x256x4096, .f32⟩
  | .hbm, ⟨118, _⟩ => ⟨S1x128x256x4096, .f32⟩
  | .hbm, ⟨119, _⟩ => ⟨S1x128x128x256, .f32⟩
  | .hbm, ⟨120, _⟩ => ⟨S1x256x128x128, .f32⟩
  | .hbm, ⟨121, _⟩ => ⟨S1x256x16384, .f32⟩
  | .hbm, ⟨122, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Protocol.lean ====
/-
# The exchange protocol of the kernel, written down

Sixteen devices; device `c` computes a partial result of sixteen chunks (one per device) in its buffer `cacc`.

* The runtime's barrier cell of `c`: every other device `d` signals one unit, and hands over its own landing slot `c`
  (slot `c` of `d`'s receive buffer, any contents), which `c` will write.
* Reduce-scatter: `c` copies chunk `j` of its `cacc` into slot `c` of `j`'s receive buffer. The landing (receive cell
  `c` on `j`) hands `j` that slot, holding `c`'s chunk `j`, AND the region it was copied from: chunk `j` of `c`'s `cacc`,
  which `j` will overwrite in the second stage. The send cell hands nothing.
* All-gather: `c` writes the sum of its slots into chunk `c` of its `cacc` and copies it into chunk `c` of `j`'s `cacc`,
  for every `j`, each copy reading a share of the source. The landing (receive cell `c` on `j`) hands `j` its chunk `c`,
  reduced; the send cell gives the source's share back.

Every cell has one round, round 0. Levels: barrier 1, reduce-scatter receive 2, all-gather receive 3, all else 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Rounds.Family
public import Idealize.ShloMosaic.Lib.Tactic

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Dev nD)
abbrev UU : Type := UR sig nD τ × (UB × Counters)

local notation "𝕄" => MT nD τ sig Unit (Elt F) ℕ UU ℕ

/-- The pipeline library's copy of the rounds, and this kernel's (beside the local transfers' counters). -/
abbrev EP : Emb (UR sig nD τ) (MT nD τ sig Unit (Elt F) ℕ UU ℕ) := embL
abbrev EX : Emb (UB × Counters) (MT nD τ sig Unit (Elt F) ℕ UU ℕ) := embR
def ER : Emb UB (MT nD τ sig Unit (Elt F) ℕ UU ℕ) := (Emb.inl : Emb UB (UB × Counters)).trans EX

instance ER_landsIn : (ER (F := F)).LandsIn (upEmb : UEmb _ 𝕄) := by
  unfold ER EX embR; infer_instance

abbrev 𝒱₀ : Variants := Variants.none

/-! ## The buffers' slots -/

theorem off3_inb (j : Dev nD) : ∀ a, (![j.val, 0, 0] : Fin 3 → ℕ) a + S1x16x1024.size a ≤ S16x16x1024.size a := by
  revert j; decide
theorem off1_inb (j : Dev nD) : ∀ a, (![j.val] : Fin 1 → ℕ) a + S1.size a ≤ S16.size a := by
  revert j; decide

abbrev slotRect (j : Dev nD) : Rect S16x16x1024 := Rect.unit (s := S16x16x1024) ![j.val, 0, 0] S1x16x1024.size (off3_inb j)

/-- Chunk `j` of the partial-result buffer, slot `j` of the receive buffer. -/
abbrev cSlot (j : Dev nD) : Memref sig .tc .vmem S16x1024 .bf16 :=
  ((Memref.whole cc0_scratch5).slice (slotRect j) (fun _ => rfl)).squeeze S16x1024 squeezes_S1x16x1024_S16x1024
abbrev rSlot (j : Dev nD) : Memref sig .tc .vmem S16x1024 .bf16 :=
  ((Memref.whole cc0_scratch6).slice (slotRect j) (fun _ => rfl)).squeeze S16x1024 squeezes_S1x16x1024_S16x1024

/-! ## The semaphores and their cells -/

abbrev semAt (A : DmaSems sig S16) (j : Dev nD) : DmaSem sig :=
  ((A.slice (Rect.unit (s := S16) ![j.val] S1.size (off1_inb j))).squeeze S_ squeezes_S1_S_).sem
abbrev barS : Sem sig := (SemArray.scalar (sig.barrier 0 rfl) : Sems sig S_).sem

/-- Which of the four families of transfer semaphores: 0 reduce-scatter send, 1 its receive, 2 all-gather send, 3 its receive. -/
def fam : Fin 4 → DmaSems sig S16 := fun | 0 => cc0_scratch11 | 1 => cc0_scratch12 | 2 => cc0_scratch13 | 3 => cc0_scratch14

abbrev barCell (c : Dev nD) : GSem nD τ sig := ((c : Thread nD τ), .reg barS)
abbrev cell (k : Fin 4) (c j : Dev nD) : GSem nD τ sig := ((c : Thread nD τ), .dma (semAt (fam k) j))

theorem semAt_val (k : Fin 4) (j : Dev nD) : (semAt (fam k) j).val = 8 + 16 * k.val + j.val := by
  revert k j; decide

/-- The family and the index of a transfer semaphore, read back. -/
def kOf (q : DmaSem sig) : ℕ := (q.val - 8) / 16
def jOf (q : DmaSem sig) : Dev nD := ⟨(q.val - 8) % 16, Nat.mod_lt _ (by decide)⟩

theorem kOf_semAt (k : Fin 4) (j : Dev nD) : kOf (semAt (fam k) j) = k.val := by
  unfold kOf; rw [semAt_val]; have : j.val < 16 := j.isLt; omega
theorem jOf_semAt (k : Fin 4) (j : Dev nD) : jOf (semAt (fam k) j) = j := by
  unfold jOf; refine Fin.ext ?_; show ((semAt (fam k) j).val - 8) % 16 = j.val; rw [semAt_val]; have : j.val < 16 := j.isLt; omega
theorem le_semAt (k : Fin 4) (j : Dev nD) : 8 ≤ (semAt (fam k) j).val := by rw [semAt_val]; omega

theorem dma_ne_bar (q : DmaSem sig) : (SemLoc.dma q : SemLoc sig) ≠ .reg barS := fun h => by cases h

/-- One chunk's transfer credit. -/
@[irreducible] def N : ℕ := (rSlot 0).view.dmaCredit
theorem N_pos : 0 < N := by unfold N; exact View.dmaCredit_pos _ (by decide)
theorem credit_r (j : Dev nD) : (rSlot j).view.dmaCredit = N := by unfold N; rfl
theorem credit_c (j : Dev nD) : (cSlot j).view.dmaCredit = N := by unfold N; rfl

/-! ## Contents -/

/-- The contents of a buffer of sixteen chunks. -/
abbrev CB (F : FTy → Type) : Type := (cc0_scratch5 : Ref sig .tc).ty.Contents (Elt F)

/-- A buffer of sixteen chunks, index by index. -/
def at3 (a : Dev nD) (i : S16x16x1024.Idx) : S16x16x1024.Idx := fun x => match x with
  | ⟨0, _⟩ => (⟨a.val, a.isLt⟩ : Fin 16) | ⟨1, h⟩ => i ⟨1, h⟩ | ⟨2, h⟩ => i ⟨2, h⟩

/-- The device of a chunk index. -/
def devOf (i : S16x16x1024.Idx) : Dev nD := ⟨(i 0).val, (i 0).isLt⟩

variable (P : Dev nD → CB F)

/-- What device `c`'s receive buffer holds after the reduce-scatter: slot `p` is device `p`'s chunk `c`. -/
def rsAll (c : Dev nD) : CB F := fun i => P (devOf i) (at3 c i)

/-- The reduced chunk of device `c`: the sum of its slots. -/
def red (c : Dev nD) : FVec F S1x16x1024 .bf16 := k0_pay39 (rsAll P c)

def at1 (i : S16x16x1024.Idx) : S1x16x1024.Idx := fun x => match x with
  | ⟨0, _⟩ => (0 : Fin 1) | ⟨1, h⟩ => i ⟨1, h⟩ | ⟨2, h⟩ => i ⟨2, h⟩

/-- What every device's buffer holds after the all-gather: chunk `j` is device `j`'s reduced chunk. -/
def agAll : CB F := fun i => red P (devOf i) (at1 i)

/-! ## Points-tos -/

def cPts (c j : Dev nD) (q : PosShare TreeShare) (f : CB F) : sProp 𝕄 :=
  (cSlot j).view.loc (c : Thread nD τ) ↦[(cSlot j).view.set]{q} f
def rPts (c j : Dev nD) (f : CB F) : sProp 𝕄 :=
  (rSlot j).view.loc (c : Thread nD τ) ↦[(rSlot j).view.set]{fullShare} f

instance cPts_storable (c j : Dev nD) (q) (f : CB F) : BI.Storable (upEmb : UEmb _ 𝕄) (cPts c j q f) := by unfold cPts; infer_instance
instance rPts_storable (c j : Dev nD) (f : CB F) : BI.Storable (upEmb : UEmb _ 𝕄) (rPts c j f) := by unfold rPts; infer_instance

/-- The share of its reduced chunk device `c` lends the copy to `j`. -/
def shareOf (j : Dev nD) : PosShare TreeShare := ShareLeaves.leaf 4 fullShare j

/-! ## The schedule -/

def pay (c d : Dev nD) (k : ℕ) : sProp 𝕄 :=
  if k = 1 then iprop(rPts c d (rsAll P c) ∗ ∃ f, cPts d c fullShare f)
  else if k = 2 then cPts c c (shareOf d) (agAll P)
  else if k = 3 then cPts c d fullShare (agAll P)
  else iprop(emp)

instance pay_storable (c d : Dev nD) (k : ℕ) : BI.Storable (upEmb : UEmb _ 𝕄) (pay (F := F) P c d k) := by
  unfold pay; (repeat' split) <;> infer_instance

def sched : Rounds.Schedule (GSem nD τ sig) (Dev nD) 𝕄 where
  duties g r := if r = 0 ∧ g.1.2 = .tc then
      (match g.2 with
        | .reg s => if s = barS then Finset.univ.erase g.1.1 else ∅
        | .dma q => if 8 ≤ q.val then ({jOf q} : Finset (Dev nD)).erase g.1.1 else ∅)
    else ∅
  unitless _ := False
  amount g _ _ := match g.2 with
    | .reg _ => 1
    | .dma _ => N
  payload g _ d := match g.2 with
    | .reg _ => iprop(∃ f, rPts d g.1.1 f)
    | .dma q => pay P g.1.1 d (kOf q)
  amount_pos g _ _ _ := by
    cases g.2
    · exact Nat.one_pos
    · exact N_pos

instance sched_payload_storable (g : GSem nD τ sig) (r : ℕ) (d : Dev nD) :
    BI.Storable (upEmb : UEmb _ 𝕄) ((sched (F := F) P).payload g r d) := by
  show BI.Storable upEmb (match g.2 with | .reg _ => iprop(∃ f, rPts d g.1.1 f) | .dma q => pay P g.1.1 d (kOf q))
  split <;> infer_instance

section Sched
variable (c j : Dev nD) (k : Fin 4)

theorem duties_bar : (sched (F := F) P).duties (barCell c) 0 = Finset.univ.erase c := by
  dsimp only [sched]; rw [if_pos ⟨rfl, rfl⟩, if_pos rfl]
theorem duties_cell : (sched (F := F) P).duties (cell k c j) 0 = ({j} : Finset (Dev nD)).erase c := by
  dsimp only [sched]; rw [if_pos ⟨rfl, rfl⟩, if_pos (le_semAt k j), jOf_semAt]
theorem duties_cell_ne (h : j ≠ c) : (sched (F := F) P).duties (cell k c j) 0 = {j} := by
  rw [duties_cell, Finset.erase_eq_of_notMem (by rw [Finset.mem_singleton]; exact fun e => h e.symm)]
theorem duties_cell_self : (sched (F := F) P).duties (cell k c c) 0 = ∅ := by
  rw [duties_cell]; simp
theorem duties_later (g : GSem nD τ sig) : ∀ r, 1 ≤ r → (sched (F := F) P).duties g r = ∅ :=
  fun r hr => by dsimp only [sched]; rw [if_neg fun h => by omega]
theorem duties_self_all : ∀ r, 0 ≤ r → (sched (F := F) P).duties (cell k c c) r = ∅ := fun r _ => by
  rcases Nat.eq_zero_or_pos r with rfl | h
  · exact duties_cell_self P c k
  · exact duties_later P _ r h
theorem amount_bar (d : Dev nD) : (sched (F := F) P).amount (barCell c) 0 d = 1 := rfl
theorem amount_cell (d : Dev nD) : (sched (F := F) P).amount (cell k c j) 0 d = N := rfl
theorem expect_bar : (sched (F := F) P).expect (barCell c) 0 = 15 := by
  unfold Schedule.expect Schedule.amountOf
  rw [duties_bar, Finset.sum_congr rfl fun d _ => amount_bar P c d, Finset.sum_const, Finset.card_erase_of_mem (Finset.mem_univ _),
    Finset.card_univ, Fintype.card_fin, smul_eq_mul]; rfl
theorem expect_cell (h : j ≠ c) : (sched (F := F) P).expect (cell k c j) 0 = N := by
  unfold Schedule.expect Schedule.amountOf; rw [duties_cell_ne P c j k h, Finset.sum_singleton, amount_cell]
theorem payload_bar (d : Dev nD) : (sched (F := F) P).payload (barCell c) 0 d = iprop(∃ f, rPts d c f) := rfl
theorem payload_cell (d : Dev nD) : (sched (F := F) P).payload (cell k c j) 0 d = pay P c d k.val := by
  show pay P c d (kOf (semAt (fam k) j)) = _; rw [kOf_semAt]
theorem rest_bar : bigSep ((sched (F := F) P).duties (barCell c) 0 \ ∅) (fun d => (sched (F := F) P).payload (barCell c) 0 d)
    = bigSep (Finset.univ.erase c) fun d => iprop(∃ f, rPts d c f) := by
  rw [Finset.sdiff_empty, duties_bar]; rfl
theorem rest_cell (h : j ≠ c) : bigSep ((sched (F := F) P).duties (cell k c j) 0 \ ∅) (fun d => (sched (F := F) P).payload (cell k c j) 0 d)
    = pay P c j k.val := by
  rw [Finset.sdiff_empty, duties_cell_ne P c j k h, bigSep_singleton, payload_cell]

end Sched

/-! ## What each core owes; the levels -/

/-- The devices other than `c` from `n` on. -/
def others (c : Dev nD) (n : ℕ) : Finset (Dev nD) := Finset.univ.filter fun j => j ≠ c ∧ n ≤ j.val

/-- What is owed along a family of cells, one per device other than `c`, from `n` on. -/
def owed (c : Dev nD) (g : Dev nD → GSem nD τ sig) (a : ℕ) (n : ℕ) : CellTallies nD τ sig Unit :=
  ∑ j ∈ others c n, tallyAt (g j) () a

theorem owed_skip (c : Dev nD) (g : Dev nD → GSem nD τ sig) (a : ℕ) : owed c g a c.val = owed c g a (c.val + 1) := by
  unfold owed; refine Finset.sum_congr (Finset.ext fun j => ?_) fun _ _ => rfl
  simp only [others, Finset.mem_filter, Finset.mem_univ, true_and]
  constructor
  · rintro ⟨h, h'⟩; exact ⟨h, Nat.lt_of_le_of_ne h' fun e => h (Fin.ext e.symm)⟩
  · rintro ⟨h, h'⟩; exact ⟨h, by omega⟩

theorem owed_take (c j : Dev nD) (h : j ≠ c) (g : Dev nD → GSem nD τ sig) (a : ℕ) :
    owed c g a j.val = owed c g a (j.val + 1) + tallyAt (g j) () a := by
  unfold owed
  have : others c j.val = insert j (others c (j.val + 1)) := by
    ext i; simp only [others, Finset.mem_filter, Finset.mem_univ, true_and, Finset.mem_insert]
    constructor
    · rintro ⟨h1, h2⟩
      rcases Nat.eq_or_lt_of_le h2 with e | e
      · exact Or.inl (Fin.ext e.symm)
      · exact Or.inr ⟨h1, e⟩
    · rintro (rfl | ⟨h1, h2⟩)
      · exact ⟨h, le_refl _⟩
      · exact ⟨h1, by omega⟩
  rw [this, Finset.sum_insert (by simp [others]), add_comm]

theorem owed_done (c : Dev nD) (g : Dev nD → GSem nD τ sig) (a : ℕ) : owed c g a 16 = 0 := by
  unfold owed
  rw [show others c 16 = ∅ from Finset.filter_eq_empty_iff.mpr fun j _ h => by have : j.val < 16 := j.isLt; omega, Finset.sum_empty]

theorem owed_pos {c : Dev nD} {g : Dev nD → GSem nD τ sig} {a n : ℕ} {x : GSem nD τ sig} {u : Unit} (h : 0 < owed c g a n x u) :
    ∃ j, j ≠ c ∧ x = g j := by
  unfold owed at h
  rw [Finset.sum_apply, Finsupp.finset_sum_apply] at h
  obtain ⟨j, hj, hp⟩ := Finset.exists_ne_zero_of_sum_ne_zero (Nat.pos_iff_ne_zero.mp h)
  refine ⟨j, (Finset.mem_filter.mp hj).2.1, ?_⟩
  rw [tallyAt_apply] at hp
  by_contra hne
  exact hp (if_neg fun h' => hne h'.1)

abbrev OB (c : Dev nD) : ℕ → CellTallies nD τ sig Unit := owed c barCell 1
abbrev OR (c : Dev nD) : ℕ → CellTallies nD τ sig Unit := owed c (fun j => cell 1 j c) N
abbrev OA (c : Dev nD) : ℕ → CellTallies nD τ sig Unit := owed c (fun j => cell 3 j c) N

/-- What device `c` owes at launch: a unit to every other device's barrier, a chunk's credit to every other device's two receive cells `c`. -/
def O₀ (c : Dev nD) : CellTallies nD τ sig Unit := OA c 0 + OR c 0 + OB c 0

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- barrier 1, reduce-scatter receive 2, all-gather receive 3, everything else 0. -/
def lv (g : GSem nD τ sig) (_ : Unit) : ℕ := match g.2 with
  | .reg _ => 1
  | .dma q => if q.val < 8 then 0 else if kOf q = 1 then 2 else if kOf q = 3 then 3 else 0

theorem lv_bar (c : Dev nD) : lv (barCell c) () = 1 := rfl
theorem lv_cell (k : Fin 4) (c j : Dev nD) : lv (cell k c j) () = if k = 1 then 2 else if k = 3 then 3 else 0 := by
  show (if (semAt (fam k) j).val < 8 then 0 else if kOf (semAt (fam k) j) = 1 then 2 else if kOf (semAt (fam k) j) = 3 then 3 else 0) = _
  rw [kOf_semAt, if_neg (by have := le_semAt k j; omega)]
  revert k; decide

/-- A core waits on a cell below everything it owes. -/
theorem mayWait_of (c : Dev nD) (sm : SemLoc sig) (O : CellTallies nD τ sig Unit) (n : ℕ) (hn : lv ((c : Thread nD τ), sm) () ≤ n)
    (hO : ∀ (g : GSem nD τ sig) (u : Unit), 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have h := (hO g u hg).1
      unfold L; rw [if_pos h]; exact Finset.mem_singleton_self _)
    (fun p hp => by rw [Finset.mem_singleton.mp hp]; exact hn)
    (fun g u hg => (hO g u hg).2)

theorem OB_pos {c : Dev nD} {n : ℕ} {g : GSem nD τ sig} {u : Unit} (h : 0 < OB c n g u) : g.1.2 = .tc ∧ lv g () = 1 := by
  obtain ⟨j, _, rfl⟩ := owed_pos h; exact ⟨rfl, rfl⟩
theorem OR_pos {c : Dev nD} {n : ℕ} {g : GSem nD τ sig} {u : Unit} (h : 0 < OR c n g u) : g.1.2 = .tc ∧ lv g () = 2 := by
  obtain ⟨j, _, rfl⟩ := owed_pos h; exact ⟨rfl, by rw [lv_cell]; rfl⟩
theorem OA_pos {c : Dev nD} {n : ℕ} {g : GSem nD τ sig} {u : Unit} (h : 0 < OA c n g u) : g.1.2 = .tc ∧ lv g () = 3 := by
  obtain ⟨j, _, rfl⟩ := owed_pos h; exact ⟨rfl, by rw [lv_cell]; rfl⟩

theorem add_pos_or {A B : CellTallies nD τ sig Unit} {g : GSem nD τ sig} {u : Unit} (h : 0 < (A + B) g u) : 0 < A g u ∨ 0 < B g u := by
  rw [Pi.add_apply, Finsupp.add_apply] at h; omega

/-- Owing transfers only (after its signals), a core waits at level 1; -/
theorem mayWait_one (c : Dev nD) (sm : SemLoc sig) (h : lv ((c : Thread nD τ), sm) () ≤ 1) (n n' : ℕ) :
    (levAts L lv : sProp 𝕄) ⊢ MayWait (c : Thread nD τ) sm () (OA c n + OR c n') :=
  mayWait_of c sm _ 1 h fun g u hg => by
    rcases add_pos_or hg with h | h
    · have := OA_pos h; exact ⟨this.1, by omega⟩
    · have := OR_pos h; exact ⟨this.1, by omega⟩
/-- owing the all-gather only, at level 2; -/
theorem mayWait_two (c : Dev nD) (sm : SemLoc sig) (h : lv ((c : Thread nD τ), sm) () ≤ 2) (n : ℕ) :
    (levAts L lv : sProp 𝕄) ⊢ MayWait (c : Thread nD τ) sm () (OA c n) :=
  mayWait_of c sm _ 2 h fun g u hg => by have := OA_pos hg; exact ⟨this.1, by omega⟩
/-- owing what it owes at launch, at level 0. -/
theorem mayWait_zero (c : Dev nD) (sm : SemLoc sig) (h : lv ((c : Thread nD τ), sm) () ≤ 0) :
    (levAts L lv : sProp 𝕄) ⊢ MayWait (c : Thread nD τ) sm () (O₀ c) :=
  mayWait_of c sm _ 0 h fun g u hg => by
    rcases add_pos_or hg with h | h
    · rcases add_pos_or h with h | h
      · have := OA_pos h; exact ⟨this.1, by omega⟩
      · have := OR_pos h; exact ⟨this.1, by omega⟩
    · have := OB_pos h; exact ⟨this.1, by omega⟩

end Cert.KernelIdeal.Body

end
-- ==== Proof.Stages.lean ====
/-
# The exchange, statement by statement

Each communication statement of the kernel is guarded by "the peer is another device". A stage is a family of sixteen of
them, one per peer `j` in order; `stage c pre post k` is what the family holds after the first `k`: `post j` for the
peers below `k`, `pre j` for the rest, nothing for `c` itself.
-/
module

public import proofs.«01_k».proof.Proof.Protocol

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F)

/-! ## Slots, index by index -/

/-- A slot's elements sit at its number, then at the index within the chunk. -/
theorem cSlot_emb (j : Dev nD) (x : S16x1024.Idx) (a : Fin 3) :
    (((cSlot j).view.emb x : S16x16x1024.Idx) a).val
      = (![j.val, 0, 0] : Fin 3 → ℕ) a + ((Shape.reshapeEquiv (s := S1x16x1024) (s' := S16x1024) (by decide) x : S1x16x1024.Idx) a).val := by
  refine ((slotRect j).emb_apply _ a).trans ?_
  show _ + 1 * _ = _
  rw [one_mul]; rfl

theorem first_zero (y : S1x16x1024.Idx) : (y 0).val = 0 := by have : (y 0).val < 1 := (y 0).isLt; omega

theorem emb_zero (j : Dev nD) (x : S16x1024.Idx) : devOf ((cSlot j).view.emb x) = j := by
  refine Fin.ext ((cSlot_emb j x 0).trans ?_)
  rw [first_zero]; rfl

theorem emb_at3 (c j : Dev nD) (x : S16x1024.Idx) : at3 c ((cSlot j).view.emb x) = (cSlot c).view.emb x := by
  funext a
  match a with
  | ⟨0, _⟩ => exact Fin.ext (((cSlot_emb c x 0).trans (by rw [first_zero]; rfl)).symm)
  | ⟨1, _⟩ => exact Fin.ext ((cSlot_emb j x 1).trans (cSlot_emb c x 1).symm)
  | ⟨2, _⟩ => exact Fin.ext ((cSlot_emb j x 2).trans (cSlot_emb c x 2).symm)

theorem write_r (c j : Dev nD) (fd : CB F) :
    ∀ i ∈ (rSlot c).view.set, (rSlot c).view.write (Elt F) fd ((cSlot j).view.read (Elt F) (P c)) Finset.univ i = rsAll P j i := by
  intro i hi
  obtain ⟨x, -, rfl⟩ := Finset.mem_map.mp hi
  rw [View.write_emb_of_mem (h := Finset.mem_univ x)]
  show P c ((cSlot j).view.emb x) = P (devOf ((cSlot c).view.emb x)) (at3 j ((cSlot c).view.emb x))
  rw [emb_zero, emb_at3]

theorem write_c (c : Dev nD) (fd : CB F) :
    ∀ i ∈ (cSlot c).view.set, (cSlot c).view.write (Elt F) fd ((cSlot c).view.read (Elt F) (agAll P)) Finset.univ i = agAll P i := by
  intro i hi
  obtain ⟨x, -, rfl⟩ := Finset.mem_map.mp hi
  rw [View.write_emb_of_mem (h := Finset.mem_univ x)]
  rfl

/-! ## The persistent context -/

abbrev CellIx : Type := Dev nD × Option (Fin 4 × Dev nD)
abbrev kcell : CellIx → GSem nD τ sig := fun i => match i.2 with
  | none => barCell i.1
  | some (k, j) => cell k i.1 j

/-- Every cell's invariant, that every cell's round 0 is open, and the levels. -/
def Ctx (K : CellIx → ℕ) : sProp 𝕄 :=
  iprop((bigSep Finset.univ fun i => cellInv ER (sched P) (K i) (kcell i)) ∗ (bigSep Finset.univ fun i => reached ER (kcell i) 0) ∗ levAts L lv)

variable (K : CellIx → ℕ)

instance Ctx_persistent : BI.Persistent (Ctx P K) := by unfold Ctx; infer_instance

theorem inv_at (i : CellIx) : Ctx P K ⊢ (cellInv ER (sched P) (K i) (kcell i) : sProp 𝕄) := by
  unfold Ctx; iintro ⟨H, -, -⟩
  iapply (show (bigSep Finset.univ fun i => cellInv ER (sched P) (K i) (kcell i) : sProp 𝕄) ⊢ cellInv ER (sched P) (K i) (kcell i) from bigSep_elim (Finset.mem_univ i)) $$ H
theorem reached_at (i : CellIx) : Ctx P K ⊢ (reached ER (kcell i) 0 : sProp 𝕄) := by
  unfold Ctx; iintro ⟨-, H, -⟩
  iapply (show (bigSep Finset.univ fun i => reached ER (kcell i) 0 : sProp 𝕄) ⊢ reached ER (kcell i) 0 from bigSep_elim (Finset.mem_univ i)) $$ H
theorem lev_at : Ctx P K ⊢ (levAts L lv : sProp 𝕄) := by
  unfold Ctx; iintro ⟨-, -, H⟩; iexact H

/-! ## Stages -/

def stage (c : Dev nD) (pre post : Dev nD → sProp 𝕄) (k : ℕ) : sProp 𝕄 :=
  bigSep Finset.univ fun j : Dev nD => if j = c then iprop(emp) else if j.val < k then post j else pre j

theorem stage_skip {pre post : Dev nD → sProp 𝕄} (c : Dev nD) : stage c pre post c.val = stage c pre post (c.val + 1) :=
  bigSep_congr fun j _ => by
    by_cases h : j = c
    · rw [if_pos h, if_pos h]
    · rw [if_neg h, if_neg h]
      have hv : j.val ≠ c.val := fun e => h (Fin.ext e)
      by_cases h' : j.val < c.val
      · rw [if_pos h', if_pos (by omega)]
      · rw [if_neg h', if_neg (by omega)]

theorem stage_take {pre post : Dev nD → sProp 𝕄} (c j : Dev nD) (h : j ≠ c) : stage c pre post j.val ⊢ iprop(pre j ∗ (post j -∗ stage c pre post (j.val + 1))) := by
  have e1 : stage c pre post j.val = iprop(pre j ∗ bigSep (Finset.univ.erase j) fun i : Dev nD => if i = c then iprop(emp) else if i.val < j.val then post i else pre i) := by
    unfold stage; rw [bigSep_erase (Finset.mem_univ j), if_neg h, if_neg (Nat.lt_irrefl _)]; rfl
  have e2 : stage c pre post (j.val + 1) = iprop(post j ∗ bigSep (Finset.univ.erase j) fun i : Dev nD => if i = c then iprop(emp) else if i.val < j.val then post i else pre i) := by
    unfold stage; rw [bigSep_erase (Finset.mem_univ j), if_neg h, if_pos (Nat.lt_succ_self _)]
    congr 1
    refine bigSep_congr fun i hi => ?_
    have hv : i.val ≠ j.val := fun e => Finset.ne_of_mem_erase hi (Fin.ext e)
    by_cases hc : i = c
    · rw [if_pos hc, if_pos hc]
    · rw [if_neg hc, if_neg hc]
      by_cases h' : i.val < j.val
      · rw [if_pos h', if_pos (by omega)]
      · rw [if_neg h', if_neg (by omega)]
  rw [e1, e2]
  iintro ⟨H, HR⟩
  isplitl [H]; · iexact H
  iintro H'
  isplitl [H'] <;> iassumption

theorem stage_start {pre post : Dev nD → sProp 𝕄} (c : Dev nD) : stage c pre post 0 = bigSep (Finset.univ.erase c) pre := by
  unfold stage
  rw [bigSep_erase (Finset.mem_univ c), if_pos rfl, show ∀ X : sProp 𝕄, BI.sep iprop(emp) X = X from fun X => emp_sep_eq X]
  exact bigSep_congr fun j hj => by rw [if_neg (Finset.ne_of_mem_erase hj), if_neg (Nat.not_lt_zero _)]
theorem stage_end {pre post : Dev nD → sProp 𝕄} (c : Dev nD) : stage c pre post 16 = bigSep (Finset.univ.erase c) post := by
  unfold stage
  rw [bigSep_erase (Finset.mem_univ c), if_pos rfl, show ∀ X : sProp 𝕄, BI.sep iprop(emp) X = X from fun X => emp_sep_eq X]
  exact bigSep_congr fun j hj => by rw [if_neg (Finset.ne_of_mem_erase hj), if_pos j.isLt]

/-! ## One guarded statement -/

def owesE (c : Dev nD) (O : CellTallies nD τ sig Unit) : sProp 𝕄 := iprop(∃ W, owes (c : Thread nD τ) O W)

/-- What a family's statements hold between two of them. -/
def St (c : Dev nD) (O : ℕ → CellTallies nD τ sig Unit) (pre post : Dev nD → sProp 𝕄) (k : ℕ) : sProp 𝕄 :=
  iprop(owesE c (O k) ∗ stage c pre post k)

theorem step {pre post : Dev nD → sProp 𝕄} (c j : Dev nD) {O : ℕ → CellTallies nD τ sig Unit} {cond : BitVec 1} (hO : O c.val = O (c.val + 1)) (hc : cond = 1#1 ↔ j ≠ c)
    {OP : cond = 1#1 → Prog (TpuEff nD τ sig (Elt F) Λ₀ .tc) PUnit} {α : Type} {r : Prog (TpuEff nD τ sig (Elt F) Λ₀ .tc) α} {Q : α → sProp 𝕄}
    {FR : sProp 𝕄}
    (hop : ∀ h, j ≠ c → iprop(Ctx P K ∗ owesE c (O j.val) ∗ pre j) ⊢ wp frame (wpE (defs₀ (F := F)) 𝒱₀ (c : Thread nD τ) none) Set.univ (OP h)
      fun _ => iprop(owesE c (O (j.val + 1)) ∗ post j))
    (H : iprop(Ctx P K ∗ St c O pre post (j.val + 1) ∗ FR) ⊢ wp frame (wpE (defs₀ (F := F)) 𝒱₀ (c : Thread nD τ) none) Set.univ r Q) :
    iprop(Ctx P K ∗ St c O pre post j.val ∗ FR) ⊢ wp frame (wpE (defs₀ (F := F)) 𝒱₀ (c : Thread nD τ) none) Set.univ
      (if h : cond = 1#1 then (OP h >>= fun _ => r) else r) Q := by
  split
  · next h =>
    have hj := hc.mp h
    rw [wp_bind]
    unfold St
    iintro ⟨#HC, ⟨HO, HS⟩, HF⟩
    ihave HS := (stage_take c j hj) $$ HS
    icases HS with ⟨Hp, HS⟩
    ihave Hw := (hop h hj) $$ [HO Hp]
    · isplitr; · iexact HC
      isplitl [HO] <;> iassumption
    iapply (wp_wand _ _ _) $$ Hw
    iintro %_ ⟨HO, Hp⟩
    iapply H
    isplitr; · iexact HC
    isplitr [HF]
    · unfold St; isplitl [HO]; · iexact HO
      iapply HS; iexact Hp
    iexact HF
  · next h =>
    have hj : j = c := by by_contra e; exact h (hc.mpr e)
    subst hj
    unfold St at H ⊢
    rw [hO, stage_skip]; exact H

/-! ## The statements -/

/-- The barrier signal to `j`: it hands `j` the landing slot `j` of this device's receive buffer. -/
def sigPre (c j : Dev nD) : sProp 𝕄 := iprop(dutyTok ER (barCell j) 0 c ∗ ∃ f, rPts c j f)

theorem op_signal (c j : Dev nD) (hj : j ≠ c) (dev : Dev nD) (hd : dev = j) (O' : CellTallies nD τ sig Unit) :
    iprop(Ctx P K ∗ owesE c (O' + OB c j.val) ∗ sigPre c j) ⊢ wp frame (wpE (defs₀ (F := F)) 𝒱₀ (c : Thread nD τ) none) Set.univ
      (semSignalWord dev barS 1#32) fun _ => iprop(owesE c (O' + OB c (j.val + 1)) ∗ emp) := by
  subst hd
  unfold semSignalWord sigPre owesE
  iintro ⟨#HC, ⟨%W, HO⟩, Ht, Hs⟩
  ihave #HI := (inv_at P K (dev, none)) $$ HC
  ihave #HR := (reached_at P K (dev, none)) $$ HC
  iapply (Rounds.wp_signal 𝒱₀ ER (sched P) (c : Thread nD τ) none (O₀ := O' + OB c dev.val) (dst := (dev : Thread nD τ)) (κ := K (dev, none))
      (d := c) (by rw [duties_bar]; exact Finset.mem_erase.mpr ⟨hj.symm, Finset.mem_univ _⟩) ((amount_bar P dev c).trans (by decide)) ()
      (O' + OB c (dev.val + 1)) ((congrArg (O' + ·) (owed_take c dev hj barCell 1)).trans (add_assoc _ _ _).symm)) $$ [HO Ht Hs]
  · isplitr; · iexact HI
    isplitl [HO]; · iexact HO
    isplitl [Ht]; · iexact Ht
    isplitl [Hs]; · rw [payload_bar]; iexact Hs
    iexact HR
  iintro HO
  rw [wp_ret]
  imodintro
  isplitl [HO]; · iexists W; iexact HO
  iempintro

/-! ### Waits -/

/-- Before the wait on cell `j` of family `k`: its credit, and that nothing of its round is taken; after it, the round is over. -/
def waitPre (k : Fin 4) (c j : Dev nD) : sProp 𝕄 := iprop(cred (tallyAt (cell k c j) () N) ∗ atPos ER (cell k c j) 0 ∅ 0)
def waitPost (k : Fin 4) (c j : Dev nD) : sProp 𝕄 := iprop(atPos ER (cell k c j) 1 ∅ 0 ∗ pay P c j k.val)

set_option maxRecDepth 20000 in
theorem op_wait (k : Fin 4) (c j : Dev nD) (hj : j ≠ c) (O' : CellTallies nD τ sig Unit)
    (n : ℕ) (hn : lv (cell k c j) () ≤ n) (hO : ∀ (g : GSem nD τ sig) (u : Unit), 0 < O' g u → g.1.2 = .tc ∧ n < lv g ())
    (sem : DmaSem sig) (hsem : sem = semAt (fam k) j) {sp sp' : Space} {s s' : Shape} {e e' : EltTy}
    {src : Memref sig .tc sp' s' e'} {dst : Memref sig .tc sp s e} (hN : dst.view.dmaCredit = N)
    {hsrc : src.view.WordExact} {hdst : dst.view.WordExact} :
    iprop(Ctx P K ∗ owesE c O' ∗ waitPre k c j) ⊢ wp frame (wpE (defs₀ (F := F)) 𝒱₀ (c : Thread nD τ) none) Set.univ
      (Prog.lift (.waitDma2 sem src dst hsrc hdst)) fun _ => iprop(owesE c O' ∗ waitPost P k c j) := by
  subst hsem
  unfold Prog.lift waitPre waitPost owesE
  iintro ⟨#HC, ⟨%W, HO⟩, Hc, Hat⟩
  ihave #HI := (inv_at P K (c, some (k, j))) $$ HC
  ihave #HL := (lev_at (F := F) P K) $$ HC
  ihave HM := (mayWait_of c (.dma (semAt (fam k) j)) O' n hn hO) $$ HL
  iapply (Rounds.wp_wait_rest_token 𝒱₀ ER (sched P) (c : Thread nD τ) none (κ := K (c, some (k, j)))
      (wpE_waitDma2_eq 𝒱₀ (c : Thread nD τ) none Set.univ) (Set.mem_univ _) () (O := O') (W := W) (R := 0) (m := 0) (T := ∅)
      (by rw [expect_cell P c j k hj, hN, zero_add])) $$ [Hc HO Hat HM]
  · isplitr; · iexact HI
    isplitl [Hc]; · rw [hN]; iexact Hc
    isplitl [HO]; · iexact HO
    isplitl [HM]; · iexact HM
    iexact Hat
  iintro ⟨HO, Hat, -, Hp⟩
  rw [wp_ret]
  imodintro
  isplitl [HO]; · iexists _; iexact HO
  isplitl [Hat]; · iexact Hat
  iapply (Entails.of_eq (rest_cell P c j k hj)) $$ Hp

/-! ### The reduce-scatter's copies -/

def rsPre (c j : Dev nD) : sProp 𝕄 :=
  iprop(dutyTok ER (cell 0 c j) 0 j ∗ dutyTok ER (cell 1 j c) 0 c ∗ cPts c j fullShare (P c) ∗ ∃ f, rPts j c f)
def rsPost (c j : Dev nD) : sProp 𝕄 := cred (tallyAt (cell 0 c j) () N)

theorem op_rs (c j : Dev nD) (hj : j ≠ c) (O' : CellTallies nD τ sig Unit) (dev : Dev nD) (hd : dev = j)
    (sS sR : DmaSem sig) (hS : sS = semAt (fam 0) j) (hR : sR = semAt (fam 1) c)
    {src : Memref sig .tc .vmem S16x1024 .bf16} (hs : src = cSlot j) {dst : Memref sig .tc .vmem S16x1024 .bf16} (ht : dst = rSlot c)
    {hsc : dst.view.ref.isScScratch = false} {hsrc : src.view.WordExact} {hdst : dst.view.WordExact}
    {hsem : DmaTarget.Typed .vmem (.dma sR) (.remote (Dev.tc dev : Thread nD τ) dst (.dma sS) hsc)} :
    iprop(Ctx P K ∗ owesE c (O' + OR c j.val) ∗ rsPre P c j) ⊢ wp frame (wpE (defs₀ (F := F)) 𝒱₀ (c : Thread nD τ) none) Set.univ
      (Prog.lift (.enqueueDma src (.remote (Dev.tc dev : Thread nD τ) dst (.dma sS) hsc) (.dma sR) hsrc hdst hsem))
      fun _ => iprop(owesE c (O' + OR c (j.val + 1)) ∗ rsPost c j) := by
  subst hd hS hR hs ht
  unfold Prog.lift rsPre rsPost owesE cPts rPts
  iintro ⟨#HC, ⟨%W, HO⟩, Ht0, Ht1, Hs, ⟨%fd, Hd⟩⟩
  ihave #HI0 := (inv_at P K (c, some (0, dev))) $$ HC
  ihave #HI1 := (inv_at P K (dev, some (1, c))) $$ HC
  ihave #HR0 := (reached_at P K (c, some (0, dev))) $$ HC
  ihave #HR1 := (reached_at P K (dev, some (1, c))) $$ HC
  iapply (Rounds.wp_send_landing_pointsTo 𝒱₀ ER (sched P) (c : Thread nD τ) none (κ₁ := K (c, some (0, dev))) (κ₂ := K (dev, some (1, c)))
    (r₁ := 0) (r₂ := 0) (d₁ := dev) (d₂ := c) (fd := fd) (O₀ := O' + OR c dev.val)
    (by rw [duties_cell_ne P c dev 0 hj]; exact Finset.mem_singleton_self _)
    (by rw [duties_cell_ne P dev c 1 hj.symm]; exact Finset.mem_singleton_self _)
    () () N (show (rSlot c).view.amount (.dma (semAt (fam 1) c)) = N from credit_r c) (amount_cell P c dev 0 dev) (amount_cell P dev c 1 c) (O' + OR c (dev.val + 1))
    ((congrArg (O' + ·) (owed_take c dev hj (fun j => cell 1 j c) N)).trans (add_assoc _ _ _).symm) (W := W)
    (by rw [payload_cell]; exact BI.Entails.refl _)
    (by
      rw [payload_cell]
      show _ ⊢ iprop(rPts dev c (rsAll P dev) ∗ ∃ f, cPts c dev fullShare f)
      unfold rPts cPts
      rw [pointsTo_congr (write_r P c dev fd)]
      iintro ⟨H, H'⟩
      isplitl [H]; · iexact H
      iexists (P c); iexact H')) $$ [HO Ht0 Ht1 Hs Hd]
  · isplitr; · iexact HI0
    isplitr; · iexact HI1
    isplitl [Hs]; · iexact Hs
    isplitl [Hd]; · iexact Hd
    isplitl [HO]; · iexact HO
    isplitl [Ht0]; · iexact Ht0
    isplitr; · iexact HR0
    isplitl [Ht1]; · iexact Ht1
    iexact HR1
  iintro ⟨Hc, HO⟩
  rw [wp_ret]
  imodintro
  isplitl [HO]; · iexists _; iexact HO
  iexact Hc

/-! ### The all-gather's copies -/

def agPre (c j : Dev nD) : sProp 𝕄 :=
  iprop(dutyTok ER (cell 2 c j) 0 j ∗ dutyTok ER (cell 3 j c) 0 c ∗ cPts c c (shareOf j) (agAll P) ∗ ∃ f, cPts j c fullShare f)
def agPost (c j : Dev nD) : sProp 𝕄 := cred (tallyAt (cell 2 c j) () N)

theorem op_ag (c j : Dev nD) (hj : j ≠ c) (dev : Dev nD) (hd : dev = j)
    (sS sR : DmaSem sig) (hS : sS = semAt (fam 2) j) (hR : sR = semAt (fam 3) c)
    {src : Memref sig .tc .vmem S16x1024 .bf16} (hs : src = cSlot c) {dst : Memref sig .tc .vmem S16x1024 .bf16} (ht : dst = cSlot c)
    {hsc : dst.view.ref.isScScratch = false} {hsrc : src.view.WordExact} {hdst : dst.view.WordExact}
    {hsem : DmaTarget.Typed .vmem (.dma sR) (.remote (Dev.tc dev : Thread nD τ) dst (.dma sS) hsc)} :
    iprop(Ctx P K ∗ owesE c (OA c j.val) ∗ agPre P c j) ⊢ wp frame (wpE (defs₀ (F := F)) 𝒱₀ (c : Thread nD τ) none) Set.univ
      (Prog.lift (.enqueueDma src (.remote (Dev.tc dev : Thread nD τ) dst (.dma sS) hsc) (.dma sR) hsrc hdst hsem))
      fun _ => iprop(owesE c (OA c (j.val + 1)) ∗ agPost c j) := by
  subst hd hS hR hs ht
  unfold Prog.lift agPre agPost owesE cPts
  iintro ⟨#HC, ⟨%W, HO⟩, Ht0, Ht1, Hs, ⟨%fd, Hd⟩⟩
  ihave #HI0 := (inv_at P K (c, some (2, dev))) $$ HC
  ihave #HI1 := (inv_at P K (dev, some (3, c))) $$ HC
  ihave #HR0 := (reached_at P K (c, some (2, dev))) $$ HC
  ihave #HR1 := (reached_at P K (dev, some (3, c))) $$ HC
  iapply (Rounds.wp_send_pointsTo 𝒱₀ ER (sched P) (c : Thread nD τ) none (κ₁ := K (c, some (2, dev))) (κ₂ := K (dev, some (3, c)))
    (r₁ := 0) (r₂ := 0) (d₁ := dev) (d₂ := c) (fd := fd) (O₀ := OA c dev.val)
    (by rw [duties_cell_ne P c dev 2 hj]; exact Finset.mem_singleton_self _)
    (by rw [duties_cell_ne P dev c 3 hj.symm]; exact Finset.mem_singleton_self _)
    () () N (show (cSlot c).view.amount (.dma (semAt (fam 3) c)) = N from credit_c c) (amount_cell P c dev 2 dev) (amount_cell P dev c 3 c) (OA c (dev.val + 1))
    (owed_take c dev hj (fun j => cell 3 j c) N) (W := W)
    (by rw [payload_cell]; exact BI.Entails.refl _)
    (by
      rw [payload_cell]
      show _ ⊢ cPts dev c fullShare (agAll P)
      unfold cPts
      rw [pointsTo_congr (write_c P c fd)])) $$ [HO Ht0 Ht1 Hs Hd]
  · isplitr; · iexact HI0
    isplitr; · iexact HI1
    isplitl [Hs]; · iexact Hs
    isplitl [Hd]; · iexact Hd
    isplitl [HO]; · iexact HO
    isplitl [Ht0]; · iexact Ht0
    isplitr; · iexact HR0
    isplitl [Ht1]; · iexact Ht1
    iexact HR1
  iintro ⟨Hc, HO⟩
  rw [wp_ret]
  imodintro
  isplitl [HO]; · iexists _; iexact HO
  iexact Hc

end Cert.KernelIdeal.Body

end
-- ==== Proof.Steps.lean ====
/-
# One guarded statement of each stage, as the program prints it
-/
module

public import proofs.«01_k».proof.Proof.Stages

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi

/-- The device's number, as the program computes it. -/
abbrev mw (c : Dev nD) : BitVec 32 := Scalar.remsi (Scalar.divsi (Dev.word c) 1#32) 16#32

theorem sem_of_off (A : DmaSems sig S16) (j : Dev nD) (off : Fin 1 → ℕ) (h : off = ![j.val]) (inb) :
    ((A.slice (Rect.unit (s := S16) off S1.size inb)).squeeze S_ squeezes_S1_S_).sem = semAt A j := by
  subst h; rfl
theorem cSlot_of_off (j : Dev nD) (off : Fin 3 → ℕ) (h : off = ![j.val, 0, 0]) (inb) :
    ((Memref.whole cc0_scratch5).slice (Rect.unit (s := S16x16x1024) off S1x16x1024.size inb) (fun _ => rfl)).squeeze S16x1024 squeezes_S1x16x1024_S16x1024
      = (cSlot j : Memref sig .tc .vmem S16x1024 .bf16) := by
  subst h; rfl
theorem rSlot_of_off (j : Dev nD) (off : Fin 3 → ℕ) (h : off = ![j.val, 0, 0]) (inb) :
    ((Memref.whole cc0_scratch6).slice (Rect.unit (s := S16x16x1024) off S1x16x1024.size inb) (fun _ => rfl)).squeeze S16x1024 squeezes_S1x16x1024_S16x1024
      = (rSlot j : Memref sig .tc .vmem S16x1024 .bf16) := by
  subst h; rfl
theorem credit_c_of_off (off : Fin 3 → ℕ) (inb) :
    (((Memref.whole cc0_scratch5).slice (Rect.unit (s := S16x16x1024) off S1x16x1024.size inb) (fun _ => rfl)).squeeze S16x1024 squeezes_S1x16x1024_S16x1024
      : Memref sig .tc .vmem S16x1024 .bf16).view.dmaCredit = N := by unfold N; rfl
theorem credit_r_of_off (off : Fin 3 → ℕ) (inb) :
    (((Memref.whole cc0_scratch6).slice (Rect.unit (s := S16x16x1024) off S1x16x1024.size inb) (fun _ => rfl)).squeeze S16x1024 squeezes_S1x16x1024_S16x1024
      : Memref sig .tc .vmem S16x1024 .bf16).view.dmaCredit = N := by unfold N; rfl

/-! ## The signals -/

abbrev SigSt (c : Dev nD) : ℕ → sProp 𝕄 := St c (fun k => OA c 0 + OR c 0 + OB c k) (sigPre c) (fun _ => iprop(emp))

theorem step_signal (c j : Dev nD) {cond : BitVec 1} (hc : cond = 1#1 ↔ j ≠ c) (dev : cond = 1#1 → Dev nD) (hd : ∀ h, dev h = j)
    {α : Type} {r : Prog (TpuEff nD τ sig (Elt F) Λ₀ .tc) α} {Q : α → sProp 𝕄} {FR : sProp 𝕄}
    (H : iprop(Ctx P K ∗ SigSt c (j.val + 1) ∗ FR) ⊢ wp frame (wpE (defs₀ (F := F)) 𝒱₀ (c : Thread nD τ) none) Set.univ r Q) :
    iprop(Ctx P K ∗ SigSt c j.val ∗ FR) ⊢ wp frame (wpE (defs₀ (F := F)) 𝒱₀ (c : Thread nD τ) none) Set.univ
      (if h : cond = 1#1 then (semSignalWord (dev h) barS 1#32 >>= fun _ => r) else r) Q :=
  step P K c j (congrArg (OA c 0 + OR c 0 + ·) (owed_skip c barCell 1)) hc (fun h hj => op_signal P K c j hj (dev h) (hd h) (OA c 0 + OR c 0)) H

/-- A program that reads its own device. -/
theorem step_device (c : Dev nD) {α : Type} {k : Dev nD → Prog (TpuEff nD τ sig (Elt F) Λ₀ .tc) α} {Q : α → sProp 𝕄} {R : sProp 𝕄}
    (H : R ⊢ wp frame (wpE (defs₀ (F := F)) 𝒱₀ (c : Thread nD τ) none) Set.univ (k c) Q) :
    R ⊢ wp frame (wpE (defs₀ (F := F)) 𝒱₀ (c : Thread nD τ) none) Set.univ (Prog.lift .deviceId >>= k) Q := by
  simp only [Prog.lift, Prog.bind_op, Prog.bind_ret, wp_deviceId]
  exact H

/-- A program that is over. -/
theorem step_ret (c : Dev nD) {α : Type} {a : α} {Q : α → sProp 𝕄} {R : sProp 𝕄} (H : R ⊢ Q a) :
    R ⊢ wp frame (wpE (defs₀ (F := F)) 𝒱₀ (c : Thread nD τ) none) Set.univ (pure a : Prog (TpuEff nD τ sig (Elt F) Λ₀ .tc) α) Q := by
  rw [Prog.pure_eq_ret, wp_ret]
  iintro HR
  imodintro
  iapply H $$ HR

/-! ## The reduce-scatter's copies -/

abbrev RsSt (c : Dev nD) : ℕ → sProp 𝕄 := St c (fun k => OA c 0 + OR c k) (rsPre P c) (rsPost c)

theorem step_rs (c j : Dev nD) {cond : BitVec 1} (hc : cond = 1#1 ↔ j ≠ c) (dev : cond = 1#1 → Dev nD) (hd : ∀ h, dev h = j)
    (sS sR : cond = 1#1 → DmaSem sig) (hS : ∀ h, sS h = semAt (fam 0) j) (hR : ∀ h, sR h = semAt (fam 1) c)
    {src dst : cond = 1#1 → Memref sig .tc .vmem S16x1024 .bf16} (hs : ∀ h, src h = cSlot j) (ht : ∀ h, dst h = rSlot c)
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (dev h) : Thread nD τ) (dst h) (.dma (sS h)) (hsc h))}
    {α : Type} {r : Prog (TpuEff nD τ sig (Elt F) Λ₀ .tc) α} {Q : α → sProp 𝕄} {FR : sProp 𝕄}
    (H : iprop(Ctx P K ∗ RsSt P c (j.val + 1) ∗ FR) ⊢ wp frame (wpE (defs₀ (F := F)) 𝒱₀ (c : Thread nD τ) none) Set.univ r Q) :
    iprop(Ctx P K ∗ RsSt P c j.val ∗ FR) ⊢ wp frame (wpE (defs₀ (F := F)) 𝒱₀ (c : Thread nD τ) none) Set.univ
      (if h : cond = 1#1 then (Prog.lift (.enqueueDma (src h) (.remote (Dev.tc (dev h) : Thread nD τ) (dst h) (.dma (sS h)) (hsc h)) (.dma (sR h))
          (hsrc h) (hdst h) (hsem h)) >>= fun _ => r) else r) Q :=
  step P K c j (congrArg (OA c 0 + ·) (owed_skip c (fun j => cell 1 j c) N)) hc
    (fun h hj => op_rs P K c j hj (OA c 0) (dev h) (hd h) (sS h) (sR h) (hS h) (hR h) (hs h) (ht h)) H

/-! ## The all-gather's copies -/

abbrev AgSt (c : Dev nD) : ℕ → sProp 𝕄 := St c (OA c) (agPre P c) (agPost c)

theorem step_ag (c j : Dev nD) {cond : BitVec 1} (hc : cond = 1#1 ↔ j ≠ c) (dev : cond = 1#1 → Dev nD) (hd : ∀ h, dev h = j)
    (sS sR : cond = 1#1 → DmaSem sig) (hS : ∀ h, sS h = semAt (fam 2) j) (hR : ∀ h, sR h = semAt (fam 3) c)
    {src dst : cond = 1#1 → Memref sig .tc .vmem S16x1024 .bf16} (hs : ∀ h, src h = cSlot c) (ht : ∀ h, dst h = cSlot c)
    {hsc : ∀ h, (dst h).view.ref.isScScratch = false} {hsrc : ∀ h, (src h).view.WordExact} {hdst : ∀ h, (dst h).view.WordExact}
    {hsem : ∀ h, DmaTarget.Typed .vmem (.dma (sR h)) (.remote (Dev.tc (dev h) : Thread nD τ) (dst h) (.dma (sS h)) (hsc h))}
    {α : Type} {r : Prog (TpuEff nD τ sig (Elt F) Λ₀ .tc) α} {Q : α → sProp 𝕄} {FR : sProp 𝕄}
    (H : iprop(Ctx P K ∗ AgSt P c (j.val + 1) ∗ FR) ⊢ wp frame (wpE (defs₀ (F := F)) 𝒱₀ (c : Thread nD τ) none) Set.univ r Q) :
    iprop(Ctx P K ∗ AgSt P c j.val ∗ FR) ⊢ wp frame (wpE (defs₀ (F := F)) 𝒱₀ (c : Thread nD τ) none) Set.univ
      (if h : cond = 1#1 then (Prog.lift (.enqueueDma (src h) (.remote (Dev.tc (dev h) : Thread nD τ) (dst h) (.dma (sS h)) (hsc h)) (.dma (sR h))
          (hsrc h) (hdst h) (hsem h)) >>= fun _ => r) else r) Q :=
  step P K c j (owed_skip c (fun j => cell 3 j c) N) hc
    (fun h hj => op_ag P K c j hj (dev h) (hd h) (sS h) (sR h) (hS h) (hR h) (hs h) (ht h)) H

/-! ## The waits -/

/-- What is owed while the waits of a family go on: the all-gather's credits at the reduce-scatter's, nothing later. -/
def wOwed (k : Fin 4) (c : Dev nD) : CellTallies nD τ sig Unit := if k = 1 then OA c 0 else 0

theorem lv_wait (k : Fin 4) (c j : Dev nD) : lv (cell k c j) () ≤ if k = 1 then 2 else 3 := by
  rw [lv_cell]
  have : ∀ k : Fin 4, (if k = 1 then 2 else if k = 3 then 3 else 0) ≤ if k = 1 then 2 else 3 := by decide
  exact this k

theorem wOwed_above (k : Fin 4) (c : Dev nD) (g : GSem nD τ sig) (u : Unit) (hg : 0 < wOwed k c g u) :
    g.1.2 = .tc ∧ (if k = 1 then 2 else 3) < lv g u := by
  unfold wOwed at hg
  by_cases h : k = 1
  · rw [if_pos h] at hg ⊢
    have := OA_pos hg
    exact ⟨this.1, by rw [this.2]; decide⟩
  · rw [if_neg h] at hg
    exact absurd hg (Nat.lt_irrefl 0)

abbrev WtSt (k : Fin 4) (c : Dev nD) : ℕ → sProp 𝕄 := St c (fun _ => wOwed k c) (waitPre k c) (waitPost P k c)

theorem step_wait (k : Fin 4) (c j : Dev nD) {cond : BitVec 1} (hc : cond = 1#1 ↔ j ≠ c)
    (sem : cond = 1#1 → DmaSem sig) (hsem : ∀ h, sem h = semAt (fam k) j)
    {src dst : cond = 1#1 → Memref sig .tc .vmem S16x1024 .bf16} (hN : ∀ h, (dst h).view.dmaCredit = N)
    {hsrc : ∀ h, (src h).view.WordExact} {hdst : ∀ h, (dst h).view.WordExact}
    {α : Type} {r : Prog (TpuEff nD τ sig (Elt F) Λ₀ .tc) α} {Q : α → sProp 𝕄} {FR : sProp 𝕄}
    (H : iprop(Ctx P K ∗ WtSt P k c (j.val + 1) ∗ FR) ⊢ wp frame (wpE (defs₀ (F := F)) 𝒱₀ (c : Thread nD τ) none) Set.univ r Q) :
    iprop(Ctx P K ∗ WtSt P k c j.val ∗ FR) ⊢ wp frame (wpE (defs₀ (F := F)) 𝒱₀ (c : Thread nD τ) none) Set.univ
      (if h : cond = 1#1 then (Prog.lift (.waitDma2 (sem h) (src h) (dst h) (hsrc h) (hdst h)) >>= fun _ => r) else r) Q :=
  step P K c j rfl hc
    (fun h hj => op_wait P K k c j hj (wOwed k c) (if k = 1 then 2 else 3) (lv_wait k c j) (wOwed_above k c)
      (sem h) (hsem h) (hN h)) H

/-! ## The barrier's wait -/

set_option maxRecDepth 20000 in
theorem op_barrier (c : Dev nD) :
    iprop(Ctx P K ∗ owesE c (OA c 0 + OR c 0) ∗ cred (tallyAt (barCell c) () 15) ∗ atPos ER (barCell c) 0 ∅ 0)
      ⊢ wp frame (wpE (defs₀ (F := F)) 𝒱₀ (c : Thread nD τ) none) Set.univ (semWaitWord barS 15#32)
        fun _ => iprop(owesE c (OA c 0 + OR c 0) ∗ atPos ER (barCell c) 1 ∅ 0 ∗ bigSep (Finset.univ.erase c) fun d => iprop(∃ f, rPts d c f)) := by
  unfold semWaitWord owesE
  iintro ⟨#HC, ⟨%W, HO⟩, Hc, Hat⟩
  ihave #HI := (inv_at P K (c, none)) $$ HC
  ihave #HL := (lev_at (F := F) P K) $$ HC
  ihave HM := (mayWait_one c (.reg barS) (le_refl 1) 0 0) $$ HL
  iapply (Rounds.wp_wait_rest_token 𝒱₀ ER (sched P) (c : Thread nD τ) none (κ := K (c, none))
      (wpE_semWait_eq 𝒱₀ (c : Thread nD τ) none Set.univ) (Set.mem_univ _) () (O := OA c 0 + OR c 0) (W := W) (R := 0) (m := 0) (T := ∅)
      (by rw [expect_bar]; decide)) $$ [Hc HO Hat HM]
  · isplitr; · iexact HI
    isplitl [Hc]; · iexact Hc
    isplitl [HO]; · iexact HO
    isplitl [HM]; · iexact HM
    iexact Hat
  iintro ⟨HO, Hat, -, Hp⟩
  rw [wp_ret]
  imodintro
  isplitl [HO]; · iexists _; iexact HO
  isplitl [Hat]; · iexact Hat
  iapply (Entails.of_eq (rest_bar P c)) $$ Hp

end Cert.KernelIdeal.Body

end
-- ==== Proof.Slots.lean ====
/-
# The two chunk buffers: whole, slot by slot, share by share

The buffer of partial results and the receive buffer split into sixteen slots; a slot splits into the shares lent to copies.
-/
module

public import proofs.«01_k».proof.Proof.Steps
public import Idealize.ShloMosaic.Lib.Ring
public import Idealize.ShloMosaic.Lib.Pipeline.Value

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F)

theorem slot_mem (j : Dev nD) (i : S16x16x1024.Idx) : i ∈ (slotRect j).set ↔ devOf i = j := by
  rw [Rect.mem_set_unit]
  constructor
  · intro h
    have h0 := h 0
    refine Fin.ext ?_
    have h1 : j.val ≤ (i 0).val := h0.1
    have h2 : (i 0).val < j.val + 1 := h0.2
    show (i 0).val = j.val
    omega
  · rintro rfl a
    match a with
    | ⟨0, _⟩ => exact ⟨le_refl _, Nat.lt_succ_self _⟩
    | ⟨1, h⟩ => exact ⟨Nat.zero_le _, (Nat.zero_add 16).symm ▸ (i ⟨1, h⟩).isLt⟩
    | ⟨2, h⟩ => exact ⟨Nat.zero_le _, (Nat.zero_add 1024).symm ▸ (i ⟨2, h⟩).isLt⟩

theorem slot_disj (j j' : Dev nD) (h : j ≠ j') : Disjoint (slotRect j).set (slotRect j').set := by
  rw [Finset.disjoint_left]
  intro i hi hi'
  exact h (((slot_mem j i).mp hi).symm.trans ((slot_mem j' i).mp hi'))
theorem slot_cover : (Finset.univ : Finset (Dev nD)).biUnion (fun j => (slotRect j).set) = Finset.univ := by
  ext i
  simp only [Finset.mem_biUnion, Finset.mem_univ, true_and, iff_true]
  exact ⟨devOf i, (slot_mem _ i).mpr rfl⟩

theorem c_set (j : Dev nD) : (cSlot j).view.set = (slotRect j).set :=
  (Memref.set_view_squeeze _ _).trans (View.set_slice_whole _ _)
theorem r_set (j : Dev nD) : (rSlot j).view.set = (slotRect j).set :=
  (Memref.set_view_squeeze _ _).trans (View.set_slice_whole _ _)

/-- The whole buffer of partial results is its sixteen chunks; -/
theorem c_blocks (c : Dev nD) (f : CB F) :
    (((c : Thread nD τ).loc cc0_scratch5 ↦{fullShare} f : sProp 𝕄)) = bigSep Finset.univ fun j : Dev nD => cPts c j fullShare f :=
  (Ring.pointsTo_blocks (ℓ := (c : Thread nD τ).loc cc0_scratch5) (fun j : Dev nD => (slotRect j).set) slot_disj slot_cover f).trans
    (bigSep_congr fun j _ => by unfold cPts; rw [c_set])
/-- so is the receive buffer. -/
theorem r_blocks (c : Dev nD) (f : CB F) :
    (((c : Thread nD τ).loc cc0_scratch6 ↦{fullShare} f : sProp 𝕄)) = bigSep Finset.univ fun j : Dev nD => rPts c j f :=
  (Ring.pointsTo_blocks (ℓ := (c : Thread nD τ).loc cc0_scratch6) (fun j : Dev nD => (slotRect j).set) slot_disj slot_cover f).trans
    (bigSep_congr fun j _ => by unfold rPts; rw [r_set])

theorem leaves {ℓ : Loc nD τ sig} (I : Finset (Idx ℓ)) (f : Buf (Elt F) ℓ) :
    (ℓ ↦[I]{fullShare} f : sProp 𝕄) = bigSep Finset.univ fun j : Dev nD => ℓ ↦[I]{shareOf j} f :=
  ShareLeaves.pointsTo_leaves I f 4 fullShare

/-- A device's own chunk, share by share. -/
theorem c_shares (c : Dev nD) (f : CB F) : (cPts c c fullShare f : sProp 𝕄) = bigSep Finset.univ fun j : Dev nD => cPts c c (shareOf j) f :=
  by unfold cPts; exact leaves _ _

/-! ## What a slot's access reads and writes -/

theorem slot_emb (j : Dev nD) (x : S1x16x1024.Idx) (a : Fin 3) :
    ((slotRect j).emb x a).val = (![j.val, 0, 0] : Fin 3 → ℕ) a + (x a).val := by
  refine ((slotRect j).emb_apply _ a).trans ?_
  show _ + 1 * _ = _
  rw [one_mul]; rfl
theorem slot_dev (j : Dev nD) (x : S1x16x1024.Idx) : devOf ((slotRect j).emb x) = j := by
  refine Fin.ext ((slot_emb j x 0).trans ?_)
  rw [first_zero]; rfl
theorem slot_at1 (j : Dev nD) (x : S1x16x1024.Idx) : at1 ((slotRect j).emb x) = x := by
  funext a
  match a with
  | ⟨0, _⟩ => exact Fin.ext (first_zero x).symm
  | ⟨1, _⟩ => exact Fin.ext ((slot_emb j x 1).trans (Nat.zero_add _))
  | ⟨2, _⟩ => exact Fin.ext ((slot_emb j x 2).trans (Nat.zero_add _))
theorem slot_at3 (j : Dev nD) (x : S1x16x1024.Idx) : at3 j ((slotRect j).emb x) = (slotRect j).emb x := by
  funext a
  match a with
  | ⟨0, _⟩ => exact Fin.ext (((slot_emb j x 0).trans (by rw [first_zero]; rfl)).symm)
  | ⟨1, _⟩ => rfl
  | ⟨2, _⟩ => rfl

/-- What a load of the device's slot reads of contents `f`. -/
abbrev slotOf (c : Dev nD) (f : CB F) : Vec F S1x16x1024 .bf16 := fun x => f ((slotRect c).emb x)

theorem step_load_c (c : Dev nD) {off : Fin 3 → ℕ} (ho : off = ![c.val, 0, 0]) {inb} {hl} {f : CB F} {q}
    {α : Type} {k : Vec F S1x16x1024 .bf16 → Prog (TpuEff nD τ sig (Elt F) Λ₀ .tc) α} {Q : α → sProp 𝕄} {R : sProp 𝕄}
    (H : iprop(cPts c c q f ∗ R) ⊢ wp frame (wpE (defs₀ (F := F)) 𝒱₀ (c : Thread nD τ) none) Set.univ (k (slotOf c f)) Q) :
    iprop(cPts c c q f ∗ R) ⊢ wp frame (wpE (defs₀ (F := F)) 𝒱₀ (c : Thread nD τ) none) Set.univ
      (Prog.lift (.load (Memref.whole cc0_scratch5) (Rect.unit (s := S16x16x1024) off S1x16x1024.size inb).toLoadRect hl) >>= k) Q := by
  subst ho
  show _ ⊢ wp frame _ Set.univ (.op (.load (Memref.whole cc0_scratch5) (slotRect c).toLoadRect hl) k) Q
  iintro ⟨Hp, HR⟩
  unfold cPts at H ⊢
  iapply (wp_load_rect (defs := defs₀ (F := F)) 𝒱₀ (c : Thread nD τ) none Set.univ (m := Memref.whole cc0_scratch5) (r := slotRect c) (k := k) (hl := hl)
    (S := (cSlot c).view.set) (q := q) (f := f) (by rw [c_set]; exact (fun h : _ = (slotRect c).set => h ▸ Finset.Subset.refl _) (View.set_slice_whole _ _))) $$ Hp
  iintro Hp
  iapply H
  isplitl [Hp]; · iexact Hp
  iexact HR

theorem step_load_r (c : Dev nD) {off : Fin 3 → ℕ} (ho : off = ![c.val, 0, 0]) {inb} {hl} {f : CB F}
    {α : Type} {k : Vec F S1x16x1024 .bf16 → Prog (TpuEff nD τ sig (Elt F) Λ₀ .tc) α} {Q : α → sProp 𝕄} {R : sProp 𝕄}
    (H : iprop(rPts c c f ∗ R) ⊢ wp frame (wpE (defs₀ (F := F)) 𝒱₀ (c : Thread nD τ) none) Set.univ (k (slotOf c f)) Q) :
    iprop(rPts c c f ∗ R) ⊢ wp frame (wpE (defs₀ (F := F)) 𝒱₀ (c : Thread nD τ) none) Set.univ
      (Prog.lift (.load (Memref.whole cc0_scratch6) (Rect.unit (s := S16x16x1024) off S1x16x1024.size inb).toLoadRect hl) >>= k) Q := by
  subst ho
  show _ ⊢ wp frame _ Set.univ (.op (.load (Memref.whole cc0_scratch6) (slotRect c).toLoadRect hl) k) Q
  iintro ⟨Hp, HR⟩
  unfold rPts at H ⊢
  iapply (wp_load_rect (defs := defs₀ (F := F)) 𝒱₀ (c : Thread nD τ) none Set.univ (m := Memref.whole cc0_scratch6) (r := slotRect c) (k := k) (hl := hl)
    (S := (rSlot c).view.set) (q := fullShare) (f := f) (by rw [r_set]; exact (fun h : _ = (slotRect c).set => h ▸ Finset.Subset.refl _) (View.set_slice_whole _ _))) $$ Hp
  iintro Hp
  iapply H
  isplitl [Hp]; · iexact Hp
  iexact HR

theorem slot_write_c (c : Dev nD) (f g : CB F) (w : Vec F S1x16x1024 .bf16) (hw : ∀ x, w x = g ((slotRect c).emb x)) :
    ∀ i ∈ (cSlot c).view.set, ((Memref.whole cc0_scratch5 : Memref sig .tc .vmem S16x16x1024 .bf16).access (slotRect c)).write (Elt F) f w Finset.univ i = g i := by
  intro i hi
  rw [c_set] at hi
  replace hi : i ∈ ((Memref.whole cc0_scratch5 : Memref sig .tc .vmem S16x16x1024 .bf16).access (slotRect c)).set := (View.set_slice_whole cc0_scratch5 (slotRect c)).symm ▸ hi
  obtain ⟨x, -, rfl⟩ := Finset.mem_map.mp hi
  exact (View.write_emb_of_mem (h := Finset.mem_univ x) ..).trans (hw x)
theorem slot_write_r (c : Dev nD) (f g : CB F) (w : Vec F S1x16x1024 .bf16) (hw : ∀ x, w x = g ((slotRect c).emb x)) :
    ∀ i ∈ (rSlot c).view.set, ((Memref.whole cc0_scratch6 : Memref sig .tc .vmem S16x16x1024 .bf16).access (slotRect c)).write (Elt F) f w Finset.univ i = g i := by
  intro i hi
  rw [r_set] at hi
  replace hi : i ∈ ((Memref.whole cc0_scratch6 : Memref sig .tc .vmem S16x16x1024 .bf16).access (slotRect c)).set := (View.set_slice_whole cc0_scratch6 (slotRect c)).symm ▸ hi
  obtain ⟨x, -, rfl⟩ := Finset.mem_map.mp hi
  exact (View.write_emb_of_mem (h := Finset.mem_univ x) ..).trans (hw x)

theorem step_store_c (c : Dev nD) {off : Fin 3 → ℕ} (ho : off = ![c.val, 0, 0]) {inb} {w : Vec F S1x16x1024 .bf16} {hx hm} {f : CB F} (g : CB F)
    (hw : ∀ x, w x = g ((slotRect c).emb x))
    {α : Type} {k : PUnit → Prog (TpuEff nD τ sig (Elt F) Λ₀ .tc) α} {Q : α → sProp 𝕄} {R : sProp 𝕄}
    (H : iprop(cPts c c fullShare g ∗ R) ⊢ wp frame (wpE (defs₀ (F := F)) 𝒱₀ (c : Thread nD τ) none) Set.univ (k ⟨⟩) Q) :
    iprop(cPts c c fullShare f ∗ R) ⊢ wp frame (wpE (defs₀ (F := F)) 𝒱₀ (c : Thread nD τ) none) Set.univ
      (Prog.lift (.store (Memref.whole cc0_scratch5) (Rect.unit (s := S16x16x1024) off S1x16x1024.size inb) w Finset.univ hx hm) >>= k) Q := by
  subst ho
  show _ ⊢ wp frame _ Set.univ (.op (.store (Memref.whole cc0_scratch5) (slotRect c) w Finset.univ hx hm) k) Q
  iintro ⟨Hp, HR⟩
  unfold cPts at H ⊢
  iapply (wp_store (defs := defs₀ (F := F)) 𝒱₀ (c : Thread nD τ) none Set.univ (m := Memref.whole cc0_scratch5) (r := slotRect c) (w := w) (k := k) (hx := hx) (hm := hm)
    (S := (cSlot c).view.set) (f := f) (by rw [c_set]; exact (fun h : _ = (slotRect c).set => h ▸ Finset.Subset.refl _) (View.set_slice_whole _ _))) $$ Hp
  iintro Hp
  iapply H
  isplitl [Hp]
  · iapply (Entails.of_eq (pointsTo_congr (slot_write_c c f g w hw))) $$ Hp
  iexact HR

theorem step_store_r (c : Dev nD) {off : Fin 3 → ℕ} (ho : off = ![c.val, 0, 0]) {inb} {w : Vec F S1x16x1024 .bf16} {hx hm} {f : CB F} (g : CB F)
    (hw : ∀ x, w x = g ((slotRect c).emb x))
    {α : Type} {k : PUnit → Prog (TpuEff nD τ sig (Elt F) Λ₀ .tc) α} {Q : α → sProp 𝕄} {R : sProp 𝕄}
    (H : iprop(rPts c c g ∗ R) ⊢ wp frame (wpE (defs₀ (F := F)) 𝒱₀ (c : Thread nD τ) none) Set.univ (k ⟨⟩) Q) :
    iprop(rPts c c f ∗ R) ⊢ wp frame (wpE (defs₀ (F := F)) 𝒱₀ (c : Thread nD τ) none) Set.univ
      (Prog.lift (.store (Memref.whole cc0_scratch6) (Rect.unit (s := S16x16x1024) off S1x16x1024.size inb) w Finset.univ hx hm) >>= k) Q := by
  subst ho
  show _ ⊢ wp frame _ Set.univ (.op (.store (Memref.whole cc0_scratch6) (slotRect c) w Finset.univ hx hm) k) Q
  iintro ⟨Hp, HR⟩
  unfold rPts at H ⊢
  iapply (wp_store (defs := defs₀ (F := F)) 𝒱₀ (c : Thread nD τ) none Set.univ (m := Memref.whole cc0_scratch6) (r := slotRect c) (w := w) (k := k) (hx := hx) (hm := hm)
    (S := (rSlot c).view.set) (f := f) (by rw [r_set]; exact (fun h : _ = (slotRect c).set => h ▸ Finset.Subset.refl _) (View.set_slice_whole _ _))) $$ Hp
  iintro Hp
  iapply H
  isplitl [Hp]
  · iapply (Entails.of_eq (pointsTo_congr (slot_write_r c f g w hw))) $$ Hp
  iexact HR

/-- Storing the device's own chunk into its receive slot: what the reduce-scatter leaves there; -/
theorem store_own (c : Dev nD) (x : S1x16x1024.Idx) : k0_pay38 (F := F) (slotOf c (P c)) x = rsAll P c ((slotRect c).emb x) := by
  show shapeCast S1x16x1024 (slotOf c (P c)) shapeCasts_S1x16x1024_S1x16x1024 x = _
  rw [shapeCast_self]
  unfold rsAll
  rw [slot_dev, slot_at3]
/-- storing the reduced chunk: what the all-gather leaves everywhere. -/
theorem store_red (c : Dev nD) (x : S1x16x1024.Idx) : k0_pay39 (F := F) (rsAll P c) x = agAll P ((slotRect c).emb x) := by
  unfold agAll
  rw [slot_dev, slot_at1]
  rfl

end Cert.KernelIdeal.Body

end
-- ==== Proof.Bundles.lean ====
/-
# From one stage to the next

What a device carries between its stages, and how the end of one stage is the start of the next.
-/
module

public import proofs.«01_k».proof.Proof.Slots

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

/-- Over the other devices. -/
def oth (c : Dev nD) (Φ : Dev nD → sProp 𝕄) : sProp 𝕄 := bigSep (Finset.univ.erase c) Φ

theorem oth_sep (c : Dev nD) (Φ Ψ : Dev nD → sProp 𝕄) : oth c (fun j => iprop(Φ j ∗ Ψ j)) = iprop(oth c Φ ∗ oth c Ψ) := by
  unfold oth; exact bigSep_sep' _ _ _
theorem oth_at (c : Dev nD) (Φ : Dev nD → sProp 𝕄) : bigSep Finset.univ Φ = iprop(Φ c ∗ oth c Φ) := by
  unfold oth; exact bigSep_erase (Finset.mem_univ c)
theorem oth_mono (c : Dev nD) {Φ Ψ : Dev nD → sProp 𝕄} (h : ∀ j, Φ j ⊢ Ψ j) : oth c Φ ⊢ oth c Ψ := by
  unfold oth; exact bigSep_mono fun j _ => h j

/-- The duties of the reduce-scatter's copies, of the all-gather's. -/
def RsTok (c : Dev nD) : sProp 𝕄 := oth c fun j => iprop(dutyTok ER (cell 0 c j) 0 j ∗ dutyTok ER (cell 1 j c) 0 c)
def AgTok (c : Dev nD) : sProp 𝕄 := oth c fun j => iprop(dutyTok ER (cell 2 c j) 0 j ∗ dutyTok ER (cell 3 j c) 0 c)
/-- The credits of a family's cells, and their waiting rights at round 0 and at round 1. -/
def Wcr (k : Fin 4) (c : Dev nD) : sProp 𝕄 := oth c fun j => cred (tallyAt (cell k c j) () N)
def Wat (k : Fin 4) (c : Dev nD) : sProp 𝕄 := oth c fun j => atPos ER (cell k c j) 0 ∅ 0
def Wend (k : Fin 4) (c : Dev nD) : sProp 𝕄 := oth c fun j => atPos ER (cell k c j) 1 ∅ 0

theorem rs_start (c : Dev nD) :
    iprop(owesE c (OA c 0 + OR c 0) ∗ RsTok c ∗ (oth c fun j => cPts c j fullShare (P c)) ∗ (oth c fun j => iprop(∃ f, rPts j c f))) ⊢ RsSt P c 0 := by
  unfold RsSt St
  rw [stage_start]
  show _ ⊢ iprop(_ ∗ oth c (rsPre P c))
  iintro ⟨HO, Ht, Hc, Hr⟩
  isplitl [HO]; · iexact HO
  ihave H := (Entails.of_eq ((congrArg (fun X => iprop(RsTok c ∗ X)) (oth_sep c _ _).symm).trans (oth_sep c _ _).symm)) $$ [Ht Hc Hr]
  · isplitl [Ht]; · iexact Ht
    isplitl [Hc]; · iexact Hc
    iexact Hr
  iapply (oth_mono c (Φ := fun j => iprop((dutyTok ER (cell 0 c j) 0 j ∗ dutyTok ER (cell 1 j c) 0 c) ∗ cPts c j fullShare (P c) ∗ ∃ f, rPts j c f))
    (Ψ := rsPre P c) (fun j => by
      unfold rsPre
      iintro ⟨⟨H1, H2⟩, H3, H4⟩
      isplitl [H1]; · iexact H1
      isplitl [H2]; · iexact H2
      isplitl [H3]; · iexact H3
      iexact H4)) $$ H

theorem rs_end (c : Dev nD) : RsSt P c 16 ⊢ iprop(owesE c (OA c 0) ∗ Wcr 0 c) := by
  unfold RsSt St
  rw [stage_end]
  have e : OA c 0 + OR c 16 = OA c 0 := by rw [show OR c 16 = 0 from owed_done _ _ _, add_zero]
  show iprop(owesE c (OA c 0 + OR c 16) ∗ _) ⊢ _
  rw [e]
  exact .rfl

theorem wt_start (k : Fin 4) (c : Dev nD) : iprop(owesE c (wOwed k c) ∗ Wcr k c ∗ Wat k c) ⊢ WtSt P k c 0 := by
  unfold WtSt St Wcr Wat
  rw [stage_start]
  show _ ⊢ iprop(_ ∗ oth c (fun j => iprop(cred (tallyAt (cell k c j) () N) ∗ atPos ER (cell k c j) 0 ∅ 0)))
  iintro ⟨HO, H⟩
  isplitl [HO]; · iexact HO
  iapply (Entails.of_eq (oth_sep c (fun j => cred (tallyAt (cell k c j) () N)) fun j => atPos ER (cell k c j) 0 ∅ 0).symm) $$ H
theorem wt_end (k : Fin 4) (c : Dev nD) : WtSt P k c 16 ⊢ iprop(owesE c (wOwed k c) ∗ Wend k c ∗ oth c fun j => pay P c j k.val) := by
  unfold WtSt St
  rw [stage_end]
  show iprop(_ ∗ oth c (fun j => iprop(atPos ER (cell k c j) 1 ∅ 0 ∗ pay P c j k.val))) ⊢ _
  iintro ⟨HO, H⟩
  isplitl [HO]; · iexact HO
  iapply (Entails.of_eq (oth_sep c (fun j => atPos ER (cell k c j) 1 ∅ 0) fun j => pay P c j k.val)) $$ H

theorem ag_start (c : Dev nD) :
    iprop(owesE c (OA c 0) ∗ AgTok c ∗ (oth c fun j => cPts c c (shareOf j) (agAll P)) ∗ (oth c fun j => iprop(∃ f, cPts j c fullShare f))) ⊢ AgSt P c 0 := by
  unfold AgSt St
  rw [stage_start]
  show _ ⊢ iprop(_ ∗ oth c (agPre P c))
  iintro ⟨HO, Ht, Hc, Hr⟩
  isplitl [HO]; · iexact HO
  ihave H := (Entails.of_eq ((congrArg (fun X => iprop(AgTok c ∗ X)) (oth_sep c _ _).symm).trans (oth_sep c _ _).symm)) $$ [Ht Hc Hr]
  · isplitl [Ht]; · iexact Ht
    isplitl [Hc]; · iexact Hc
    iexact Hr
  iapply (oth_mono c (Φ := fun j => iprop((dutyTok ER (cell 2 c j) 0 j ∗ dutyTok ER (cell 3 j c) 0 c) ∗ cPts c c (shareOf j) (agAll P) ∗ ∃ f, cPts j c fullShare f))
    (Ψ := agPre P c) (fun j => by
      unfold agPre
      iintro ⟨⟨H1, H2⟩, H3, H4⟩
      isplitl [H1]; · iexact H1
      isplitl [H2]; · iexact H2
      isplitl [H3]; · iexact H3
      iexact H4)) $$ H
theorem ag_end (c : Dev nD) : AgSt P c 16 ⊢ iprop(owesE c (0 : CellTallies nD τ sig Unit) ∗ Wcr 2 c) := by
  unfold AgSt St
  rw [stage_end, show OA c 16 = 0 from owed_done _ _ _]
  exact .rfl

abbrev CW (c : Dev nD) (f : CB F) : sProp 𝕄 := (c : Thread nD τ).loc cc0_scratch5 ↦{fullShare} f
abbrev RW (c : Dev nD) (f : CB F) : sProp 𝕄 := (c : Thread nD τ).loc cc0_scratch6 ↦{fullShare} f

/-- The whole buffer of partial results is the device's own chunk and the others'. -/
theorem c_whole (c : Dev nD) (f : CB F) : (CW c f : sProp 𝕄) = iprop(cPts c c fullShare f ∗ oth c fun j => cPts c j fullShare f) :=
  (c_blocks c f).trans (oth_at c _)
theorem r_whole (c : Dev nD) (f : CB F) : (RW c f : sProp 𝕄) = iprop(rPts c c f ∗ oth c fun j => rPts c j f) :=
  (r_blocks c f).trans (oth_at c _)
theorem c_share (c : Dev nD) (f : CB F) : (cPts c c fullShare f : sProp 𝕄) = iprop(cPts c c (shareOf c) f ∗ oth c fun j => cPts c c (shareOf j) f) :=
  (c_shares c f).trans (oth_at c _)

/-- What the reduce-scatter's waits gave: the receive buffer whole, and the right to write each other device's copy of the chunk; -/
theorem rs_got (c : Dev nD) :
    iprop(rPts c c (rsAll P c) ∗ oth c fun j => pay P c j (1 : Fin 4).val) ⊢ iprop(RW c (rsAll P c) ∗ oth c fun j => iprop(∃ f, cPts j c fullShare f)) := by
  rw [r_whole, show (fun j => pay P c j (1 : Fin 4).val) = fun j => iprop(rPts c j (rsAll P c) ∗ ∃ f, cPts j c fullShare f) from
    funext fun j => by unfold pay; exact if_pos rfl, oth_sep]
  iintro ⟨H1, H2, H3⟩
  isplitl [H1 H2]
  · isplitl [H1]; · iexact H1
    iexact H2
  iexact H3
/-- what the all-gather's gave: the buffer whole. -/
theorem ag_got (c : Dev nD) :
    iprop(cPts c c (shareOf c) (agAll P) ∗ (oth c fun j => pay P c j (2 : Fin 4).val) ∗ oth c fun j => pay P c j (3 : Fin 4).val) ⊢ CW c (agAll P) := by
  rw [c_whole, c_share, show (fun j => pay P c j (2 : Fin 4).val) = fun j => cPts c c (shareOf j) (agAll P) from
    funext fun j => by unfold pay; exact (if_neg (by decide)).trans (if_pos rfl), show (fun j => pay P c j (3 : Fin 4).val) = fun j => cPts c j fullShare (agAll P) from
    funext fun j => by unfold pay; exact (if_neg (by decide)).trans ((if_neg (by decide)).trans (if_pos rfl))]
  iintro ⟨H1, H2, H3⟩
  isplitl [H1 H2]
  · isplitl [H1]; · iexact H1
    iexact H2
  iexact H3

/-! ## Whole loads -/

theorem whole3_emb {s : Shape} {off : Fin s.rank → ℕ} (ho : ∀ a, off a = 0) (inb) (x : s.Idx) :
    (Rect.unit (s := s) off s.size inb).emb x = x := by
  funext a
  refine Fin.ext (((Rect.unit (s := s) off s.size inb).emb_apply x a).trans ?_)
  show off a + 1 * _ = _
  rw [ho, one_mul, zero_add]

theorem step_load_rw (c : Dev nD) {inb} {hl} {f : CB F}
    {α : Type} {k : Vec F S16x16x1024 .bf16 → Prog (TpuEff nD τ sig (Elt F) Λ₀ .tc) α} {Q : α → sProp 𝕄} {R : sProp 𝕄}
    (H : iprop(RW c f ∗ R) ⊢ wp frame (wpE (defs₀ (F := F)) 𝒱₀ (c : Thread nD τ) none) Set.univ (k f) Q) :
    iprop(RW c f ∗ R) ⊢ wp frame (wpE (defs₀ (F := F)) 𝒱₀ (c : Thread nD τ) none) Set.univ
      (Prog.lift (.load (Memref.whole cc0_scratch6) (Rect.unit (s := S16x16x1024) ![0, 0, 0] S16x16x1024.size inb).toLoadRect hl) >>= k) Q := by
  show _ ⊢ wp frame _ Set.univ (.op (.load (Memref.whole cc0_scratch6) (Rect.unit (s := S16x16x1024) ![0, 0, 0] S16x16x1024.size inb).toLoadRect hl) k) Q
  iintro ⟨Hp, HR⟩
  iapply (wp_load_rect (defs := defs₀ (F := F)) 𝒱₀ (c : Thread nD τ) none Set.univ (m := Memref.whole cc0_scratch6)
    (r := Rect.unit (s := S16x16x1024) ![0, 0, 0] S16x16x1024.size inb) (k := k) (hl := hl) (S := Finset.univ) (q := fullShare) (f := f) (Finset.subset_univ _)) $$ Hp
  iintro Hp
  have e : ((Memref.whole cc0_scratch6 : Memref sig .tc .vmem S16x16x1024 .bf16).access (Rect.unit (s := S16x16x1024) ![0, 0, 0] S16x16x1024.size inb)).read (Elt F) f = f :=
    funext fun x => congrArg f (whole3_emb (by decide) inb x)
  rw [e]
  iapply H
  isplitl [Hp]; · iexact Hp
  iexact HR
theorem step_load_cw (c : Dev nD) {inb} {hl} {f : CB F}
    {α : Type} {k : Vec F S16x16x1024 .bf16 → Prog (TpuEff nD τ sig (Elt F) Λ₀ .tc) α} {Q : α → sProp 𝕄} {R : sProp 𝕄}
    (H : iprop(CW c f ∗ R) ⊢ wp frame (wpE (defs₀ (F := F)) 𝒱₀ (c : Thread nD τ) none) Set.univ (k f) Q) :
    iprop(CW c f ∗ R) ⊢ wp frame (wpE (defs₀ (F := F)) 𝒱₀ (c : Thread nD τ) none) Set.univ
      (Prog.lift (.load (Memref.whole cc0_scratch5) (Rect.unit (s := S16x16x1024) ![0, 0, 0] S16x16x1024.size inb).toLoadRect hl) >>= k) Q := by
  show _ ⊢ wp frame _ Set.univ (.op (.load (Memref.whole cc0_scratch5) (Rect.unit (s := S16x16x1024) ![0, 0, 0] S16x16x1024.size inb).toLoadRect hl) k) Q
  iintro ⟨Hp, HR⟩
  iapply (wp_load_rect (defs := defs₀ (F := F)) 𝒱₀ (c : Thread nD τ) none Set.univ (m := Memref.whole cc0_scratch5)
    (r := Rect.unit (s := S16x16x1024) ![0, 0, 0] S16x16x1024.size inb) (k := k) (hl := hl) (S := Finset.univ) (q := fullShare) (f := f) (Finset.subset_univ _)) $$ Hp
  iintro Hp
  have e : ((Memref.whole cc0_scratch5 : Memref sig .tc .vmem S16x16x1024 .bf16).access (Rect.unit (s := S16x16x1024) ![0, 0, 0] S16x16x1024.size inb)).read (Elt F) f = f :=
    funext fun x => congrArg f (whole3_emb (by decide) inb x)
  rw [e]
  iapply H
  isplitl [Hp]; · iexact Hp
  iexact HR

/-- A load whose value nothing reads. -/
theorem step_load_dead (c : Dev nD) {s : Shape} {e : EltTy} {m : Memref sig .tc .vmem s e} {r : Rect s} {hl} {q} {f : Buf (Elt F) (m.view.loc (c : Thread nD τ))}
    {α : Type} {a : Prog (TpuEff nD τ sig (Elt F) Λ₀ .tc) α} {Q : α → sProp 𝕄} {R : sProp 𝕄}
    (H : iprop((m.view.loc (c : Thread nD τ) ↦[m.view.set]{q} f) ∗ R) ⊢ wp frame (wpE (defs₀ (F := F)) 𝒱₀ (c : Thread nD τ) none) Set.univ a Q) :
    iprop((m.view.loc (c : Thread nD τ) ↦[m.view.set]{q} f) ∗ R) ⊢ wp frame (wpE (defs₀ (F := F)) 𝒱₀ (c : Thread nD τ) none) Set.univ
      (Prog.lift (.load m r.toLoadRect hl) >>= fun _ => a) Q := by
  show _ ⊢ wp frame _ Set.univ (.op (.load m r.toLoadRect hl) fun _ => a) Q
  iintro ⟨Hp, HR⟩
  iapply (wp_load_rect (defs := defs₀ (F := F)) 𝒱₀ (c : Thread nD τ) none Set.univ (m := m)
    (r := r) (k := fun _ => a) (hl := hl) (S := m.view.set) (q := q) (f := f) (View.set_slice_subset _ _)) $$ Hp
  iintro Hp
  iapply H
  isplitl [Hp]; · iexact Hp
  iexact HR

/-- The barrier's wait gives every other device's slot. -/
theorem barrier (c : Dev nD) :
    iprop(Ctx P K ∗ owesE c (OA c 0 + OR c 0) ∗ cred (tallyAt (barCell c) () 15) ∗ atPos ER (barCell c) 0 ∅ 0)
      ⊢ wp frame (wpE (defs₀ (F := F)) 𝒱₀ (c : Thread nD τ) none) Set.univ (semWaitWord barS 15#32)
        fun _ => iprop(owesE c (OA c 0 + OR c 0) ∗ atPos ER (barCell c) 1 ∅ 0 ∗ oth c fun d => iprop(∃ f, rPts d c f)) := op_barrier P K c

/-- Through another precondition. -/
theorem via {A C : sProp 𝕄} (B : sProp 𝕄) (h : A ⊢ B) (h' : B ⊢ C) : A ⊢ C := h.trans h'

/-- A first program, then the rest. -/
theorem step_op (c : Dev nD) {α β : Type} {a : Prog (TpuEff nD τ sig (Elt F) Λ₀ .tc) β} {k : β → Prog (TpuEff nD τ sig (Elt F) Λ₀ .tc) α} {Q : α → sProp 𝕄}
    {A R : sProp 𝕄} {B : β → sProp 𝕄} (hop : A ⊢ wp frame (wpE (defs₀ (F := F)) 𝒱₀ (c : Thread nD τ) none) Set.univ a B)
    (H : ∀ b, iprop(B b ∗ R) ⊢ wp frame (wpE (defs₀ (F := F)) 𝒱₀ (c : Thread nD τ) none) Set.univ (k b) Q) :
    iprop(A ∗ R) ⊢ wp frame (wpE (defs₀ (F := F)) 𝒱₀ (c : Thread nD τ) none) Set.univ (a >>= k) Q := by
  rw [wp_bind]
  iintro ⟨HA, HR⟩
  ihave HW := hop $$ HA
  iapply (wp_wand _ _ _) $$ HW
  iintro %b HB
  iapply (H b)
  isplitl [HB]; · iexact HB
  iexact HR

end Cert.KernelIdeal.Body

end
-- ==== Proof.Local.lean ====
/-
# Copies inside one device

A device fetches its two weight blocks whole, and the keys and the values of its heads one head at a time into two
buffers that take turns. This file states what is held before, during and after one such copy.
-/
module

public import proofs.«01_k».proof.Proof.Bundles
public import Idealize.ShloMosaic.Lib.Transfers

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

/-! ## One copy -/

/-- A memory reference is held, and reads `v`. -/
def Has (c : Dev nD) {sp : Space} {s : Shape} {e : EltTy} (m : Memref sig .tc sp s e) (v : s.Idx → Elt F e) : sProp 𝕄 :=
  iprop(∃ f : Buf (Elt F) (m.view.loc (c : Thread nD τ)), (m.view.loc (c : Thread nD τ) ↦[m.view.set]{fullShare} f) ∗ ⌜m.view.read (Elt F) f = v⌝)

/-- A memory reference is held, whatever it reads. -/
def Any (c : Dev nD) {sp : Space} {s : Shape} {e : EltTy} (m : Memref sig .tc sp s e) : sProp 𝕄 :=
  iprop(∃ f : Buf (Elt F) (m.view.loc (c : Thread nD τ)), (m.view.loc (c : Thread nD τ) ↦[m.view.set]{fullShare} f))

theorem any_of_has (c : Dev nD) {sp : Space} {s : Shape} {e : EltTy} (m : Memref sig .tc sp s e) (v : s.Idx → Elt F e) :
    (Has c m v : sProp 𝕄) ⊢ Any c m := by
  unfold Has Any
  iintro ⟨%f, H, -⟩
  iexists f; iexact H

/-- A local semaphore at zero. -/
def Zero (c : Dev nD) (sem : DmaSem sig) : sProp 𝕄 := semVal ((c : Thread nD τ), SemLoc.dma sem) 0

/-- A memory reference held at the contents `f`. -/
def At (c : Dev nD) {sp : Space} {s : Shape} {e : EltTy} (m : Memref sig .tc sp s e) (f : Buf (Elt F) (m.view.loc (c : Thread nD τ))) : sProp 𝕄 :=
  (m.view.loc (c : Thread nD τ) ↦[m.view.set]{fullShare} f)

/-- A copy on its way: its arrival gives the destination reading what the source reads, and the source back. -/
def Fl (c : Dev nD) (sem : DmaSem sig) {sp sp' : Space} {s : Shape} {e : EltTy} (src : Memref sig .tc sp s e)
    (fs : Buf (Elt F) (src.view.loc (c : Thread nD τ))) (dst : Memref sig .tc sp' s e) : sProp 𝕄 :=
  Transfers.Flight (countersEmb : UEmb Counters 𝕄) (c : Thread nD τ) (SemLoc.dma sem) () dst.view.dmaCredit
    iprop(Has c dst (src.view.read (Elt F) fs) ∗ At c src fs)

/-- What a device holds between its signals and the barrier. -/
def Base (c : Dev nD) : sProp 𝕄 := iprop(Ctx P K ∗ owesE c (OA c 0 + OR c 0))

/-- What a copy lands is what its source reads. -/
theorem landed (c : Dev nD) {sp sp' : Space} {s : Shape} {e : EltTy} (src : Memref sig .tc sp s e)
    (fs : Buf (Elt F) (src.view.loc (c : Thread nD τ))) (dst : Memref sig .tc sp' s e) (fd : Buf (Elt F) (dst.view.loc (c : Thread nD τ))) :
    iprop((dst.view.loc (c : Thread nD τ) ↦[dst.view.set]{fullShare} (dst.view.write (Elt F) fd (ReadAs.same.apply (src.view.read (Elt F) fs)) Finset.univ))
        ∗ (src.view.loc (c : Thread nD τ) ↦[src.view.set]{fullShare} fs))
      ⊢ (iprop(Has c dst (src.view.read (Elt F) fs) ∗ At c src fs) : sProp 𝕄) := by
  unfold Has At
  iintro ⟨Hd, Hs⟩
  isplitl [Hd]
  · iexists _
    isplitl [Hd]; · iexact Hd
    ipureintro
    exact View.read_write_univ ..
  iexact Hs

set_option maxRecDepth 20000 in
theorem step_start (c : Dev nD) {sem : DmaSem sig} {sp sp' : Space} {s : Shape} {e : EltTy} {src : Memref sig .tc sp s e}
    {fs : Buf (Elt F) (src.view.loc (c : Thread nD τ))} {dst : Memref sig .tc sp' s e} (h0 : 0 < dst.view.dmaCredit) {hsrc hdst hsem}
    {α : Type} {k : PUnit → Prog (TpuEff nD τ sig (Elt F) Λ₀ .tc) α} {Q : α → sProp 𝕄} {R : sProp 𝕄}
    (H : iprop(Fl c sem src fs dst ∗ R) ⊢ wp frame (wpE (defs₀ (F := F)) 𝒱₀ (c : Thread nD τ) none) Set.univ (k ⟨⟩) Q) :
    iprop((Zero c sem ∗ At c src fs ∗ Any c dst) ∗ R) ⊢ wp frame (wpE (defs₀ (F := F)) 𝒱₀ (c : Thread nD τ) none) Set.univ
      (Prog.lift (.enqueueDma src (.here dst) (.dma sem) hsrc hdst hsem) >>= k) Q := by
  show _ ⊢ wp frame _ Set.univ (.op (.enqueueDmaAs src (.here dst) ReadAs.same (.dma sem) hsrc hdst hsem) k) Q
  unfold Zero At Any
  iintro ⟨⟨Hz, Hs, ⟨%fd, Hd⟩⟩, HR⟩
  have hE : (countersEmb : UEmb Counters 𝕄).LandsIn (upEmb : UEmb _ 𝕄) := inferInstance
  have hA : dst.view.amount (SemLoc.dma sem) = dst.view.dmaCredit := rfl
  have hw := Transfers.wp_dmaLocal (defs := defs₀ (F := F)) (countersEmb : UEmb Counters 𝕄) 𝒱₀ (c : Thread nD τ) none (src := src) (via := ReadAs.same) (dst := dst) (sm := .dma sem)
    (hsrc := hsrc) (hdst := hdst) (hsem := hsem) (k := k) (Q := Q)
    (q := fullShare) (fs := fs) (Sd := dst.view.set) (fd := fd) () dst.view.dmaCredit hA h0 (Finset.Subset.refl _)
  iapply hw $$ [Hz Hs Hd]
  · isplitl [Hs]; · iexact Hs
    isplitl [Hd]; · iexact Hd
    iexact Hz
  iintro HF
  iapply H
  isplitl [HF]
  · unfold Fl
    iapply (Transfers.Flight_mono (countersEmb : UEmb Counters 𝕄) (c : Thread nD τ) (landed c src fs dst fd)) $$ HF
  iexact HR

set_option maxRecDepth 20000 in
theorem step_land (c : Dev nD) {sem : DmaSem sig} (hlv : sem.val < 8) {sp sp' sp'' : Space} {s : Shape} {e : EltTy} {src : Memref sig .tc sp s e}
    {fs : Buf (Elt F) (src.view.loc (c : Thread nD τ))} {dst : Memref sig .tc sp' s e} {srcw : Memref sig .tc sp'' s e} {hsrc hdst}
    {α : Type} {k : PUnit → Prog (TpuEff nD τ sig (Elt F) Λ₀ .tc) α} {Q : α → sProp 𝕄} {R : sProp 𝕄}
    (H : iprop(Base P K c ∗ (Zero c sem ∗ Has c dst (src.view.read (Elt F) fs) ∗ At c src fs) ∗ R)
      ⊢ wp frame (wpE (defs₀ (F := F)) 𝒱₀ (c : Thread nD τ) none) Set.univ (k ⟨⟩) Q) :
    iprop(Base P K c ∗ Fl c sem src fs dst ∗ R) ⊢ wp frame (wpE (defs₀ (F := F)) 𝒱₀ (c : Thread nD τ) none) Set.univ
      (Prog.lift (.waitDma2 sem srcw dst hsrc hdst) >>= k) Q := by
  show _ ⊢ wp frame _ Set.univ (.op (.waitDma2 sem srcw dst hsrc hdst) k) Q
  unfold Fl Base owesE at *
  iintro ⟨⟨#HC, ⟨%W, HO⟩⟩, HF, HR⟩
  ihave #HL := (lev_at (F := F) P K) $$ HC
  ihave HM := (mayWait_one c (.dma sem) (by show (if sem.val < 8 then 0 else _) ≤ 1; rw [if_pos hlv]; exact Nat.zero_le _) 0 0) $$ HL
  iapply (Transfers.wp_waitLocalO (countersEmb : UEmb Counters 𝕄) 𝒱₀ (c : Thread nD τ) none (sem := sem) (srcw := srcw) (dstw := dst) () rfl
    (O := OA c 0 + OR c 0) (W := W)) $$ [HF HO HM]
  · isplitl [HF]; · iexact HF
    isplitl [HO]; · iexact HO
    iexact HM
  iintro ⟨⟨HD, HS⟩, Hz, HO⟩
  iapply H
  isplitl [HO]
  · isplitr; · iexact HC
    iexists _; iexact HO
  isplitr [HR]
  · unfold Zero
    isplitl [Hz]; · iexact Hz
    isplitl [HD]; · iexact HD
    iexact HS
  iexact HR

/-! ## Loads and stores of what is held whole -/

theorem step_load (c : Dev nD) {s : Shape} {e : EltTy} {m : Memref sig .tc .vmem s e} {off : Fin s.rank → ℕ} {inb} (ho : ∀ a, off a = 0) {hl} {v : s.Idx → Elt F e}
    {α : Type} {k : (s.Idx → Elt F e) → Prog (TpuEff nD τ sig (Elt F) Λ₀ .tc) α} {Q : α → sProp 𝕄} {R : sProp 𝕄}
    (H : iprop(Has c m v ∗ R) ⊢ wp frame (wpE (defs₀ (F := F)) 𝒱₀ (c : Thread nD τ) none) Set.univ (k v) Q) :
    iprop(Has c m v ∗ R) ⊢ wp frame (wpE (defs₀ (F := F)) 𝒱₀ (c : Thread nD τ) none) Set.univ
      (Prog.lift (.load m (Rect.unit (s := s) off s.size inb).toLoadRect hl) >>= k) Q := by
  show _ ⊢ wp frame _ Set.univ (.op (.load m (Rect.unit (s := s) off s.size inb).toLoadRect hl) k) Q
  unfold Has at *
  iintro ⟨⟨%f, Hp, %hf⟩, HR⟩
  iapply (wp_load_rect (defs := defs₀ (F := F)) 𝒱₀ (c : Thread nD τ) none Set.univ (m := m)
    (r := Rect.unit (s := s) off s.size inb) (k := k) (hl := hl) (S := m.view.set) (q := fullShare) (f := f) (View.set_slice_subset _ _)) $$ Hp
  iintro Hp
  have e : (m.access (Rect.unit (s := s) off s.size inb)).read (Elt F) f = v :=
    (funext fun x => congrArg (m.view.read (Elt F) f) (whole3_emb ho inb x)).trans hf
  rw [e]
  iapply H
  isplitl [Hp]
  · iexists f
    isplitl [Hp]; · iexact Hp
    ipureintro; exact hf
  iexact HR

theorem step_dead (c : Dev nD) {s : Shape} {e : EltTy} {m : Memref sig .tc .vmem s e} {r : Rect s} {hl}
    {α : Type} {a : Prog (TpuEff nD τ sig (Elt F) Λ₀ .tc) α} {Q : α → sProp 𝕄} {R : sProp 𝕄}
    (H : iprop(Any c m ∗ R) ⊢ wp frame (wpE (defs₀ (F := F)) 𝒱₀ (c : Thread nD τ) none) Set.univ a Q) :
    iprop(Any c m ∗ R) ⊢ wp frame (wpE (defs₀ (F := F)) 𝒱₀ (c : Thread nD τ) none) Set.univ
      (Prog.lift (.load m r.toLoadRect hl) >>= fun _ => a) Q := by
  unfold Any at *
  iintro ⟨⟨%f, Hp⟩, HR⟩
  iapply (step_load_dead c (m := m) (f := f) (R := R) (via _ (sep_mono_left (exists_intro (Φ := fun f => iprop(m.view.loc (c : Thread nD τ) ↦[m.view.set]{fullShare} f)) f)) H))
  isplitl [Hp]; · iexact Hp
  iexact HR

theorem step_store (c : Dev nD) {s : Shape} {e : EltTy} {m : Memref sig .tc .vmem s e} {off : Fin s.rank → ℕ} {inb} (ho : ∀ a, off a = 0) {hx hm} {w : s.Idx → Elt F e}
    {α : Type} {k : PUnit → Prog (TpuEff nD τ sig (Elt F) Λ₀ .tc) α} {Q : α → sProp 𝕄} {R : sProp 𝕄}
    (H : iprop(Has c m w ∗ R) ⊢ wp frame (wpE (defs₀ (F := F)) 𝒱₀ (c : Thread nD τ) none) Set.univ (k ⟨⟩) Q) :
    iprop(Any c m ∗ R) ⊢ wp frame (wpE (defs₀ (F := F)) 𝒱₀ (c : Thread nD τ) none) Set.univ
      (Prog.lift (.store m (Rect.unit (s := s) off s.size inb) w Finset.univ hx hm) >>= k) Q := by
  show _ ⊢ wp frame _ Set.univ (.op (.store m (Rect.unit (s := s) off s.size inb) w Finset.univ hx hm) k) Q
  unfold Any Has at *
  iintro ⟨⟨%f, Hp⟩, HR⟩
  iapply (wp_store (defs := defs₀ (F := F)) 𝒱₀ (c : Thread nD τ) none Set.univ (m := m) (r := Rect.unit (s := s) off s.size inb) (w := w) (k := k) (hx := hx) (hm := hm)
    (S := m.view.set) (f := f) (View.set_slice_subset _ _)) $$ Hp
  iintro Hp
  iapply H
  isplitl [Hp]
  · iexists _
    isplitl [Hp]; · iexact Hp
    ipureintro
    have e : (m.access (Rect.unit (s := s) off s.size inb)).read (Elt F) ((m.access (Rect.unit (s := s) off s.size inb)).write (Elt F) f w Finset.univ) = w :=
      View.read_write_univ ..
    exact (funext fun x => (congrArg (m.view.read (Elt F) _) (whole3_emb ho inb x)).symm).trans e
  iexact HR

/-- Reading through a part with its unit axes dropped, at the matched index. -/
theorem read_squeeze {sp : Space} {s s' : Shape} {e : EltTy} (m : Memref sig .tc sp s e) (r : Rect s) (hr : ∀ a, r.stride a = 1) (hq : r.shape.Squeezes s')
    (g : m.view.ty.Contents (Elt F)) (y : r.shape.Idx) :
    (m.access r).read (Elt F) g y = ((m.slice r hr).squeeze s' hq).view.read (Elt F) g (Shape.reshapeEquiv hq.numel_eq.symm y) := by
  refine congrArg ((m.access r).read (Elt F) g) ?_
  exact ((Shape.reshapeEquiv_reshapeEquiv _ _ y).trans (Shape.reshapeEquiv_self _ y)).symm

/-! ## Two buffers that take turns -/

variable (A : Memref sig .tc .hbm S1x4096x8x128 .f32) (B : Memref sig .tc .vmem S2x4096x128 .f32) (S : DmaSems sig S2)

/-- Head `h` of the keys or the values of a device. -/
abbrev head (h : Fin 8) : Memref sig .tc .hbm S4096x128 .f32 :=
  (A.slice (Rect.unit (s := S1x4096x8x128) ![0, 0, h.val, 0] S1x4096x1x128.size (by revert h; decide)) (fun _ => rfl)).squeeze S4096x128 squeezes_S1x4096x1x128_S4096x128
/-- Buffer `s`. -/
abbrev half (s : Fin 2) : Memref sig .tc .vmem S4096x128 .f32 :=
  (B.slice (Rect.unit (s := S2x4096x128) ![s.val, 0, 0] S1x4096x128.size (by revert s; decide)) (fun _ => rfl)).squeeze S4096x128 squeezes_S1x4096x128_S4096x128
/-- Its semaphore. -/
abbrev turn (s : Fin 2) : DmaSem sig :=
  ((S.slice (Rect.unit (s := S2) ![s.val] S1.size (by revert s; decide))).squeeze S_ squeezes_S1_S_).sem

/-- The buffer of head `h`, and the other one. -/
def mine (h : Fin 8) : Fin 2 := ⟨h.val % 2, Nat.mod_lt _ (by decide)⟩
def other (h : Fin 8) : Fin 2 := ⟨(h.val + 1) % 2, Nat.mod_lt _ (by decide)⟩

/-- What a load of head `h`'s buffer reads, when the keys or values are `f`. -/
def kv {c : Dev nD} (f : Buf (Elt F) (A.view.loc (c : Thread nD τ))) (h : Fin 8) : Vec F S1x4096x128 .f32 :=
  fun y => (head A h).view.read (Elt F) f (Shape.reshapeEquiv (Shape.Squeezes.numel_eq squeezes_S1x4096x128_S4096x128).symm y)

/-- Nothing on its way. -/
def Rest (c : Dev nD) (f : Buf (Elt F) (A.view.loc (c : Thread nD τ))) : sProp 𝕄 :=
  iprop(At c A f ∗ (Zero c (turn S 0) ∗ Any c (half B 0)) ∗ (Zero c (turn S 1) ∗ Any c (half B 1)))
/-- Head `h` on its way. -/
def Going (c : Dev nD) (f : Buf (Elt F) (A.view.loc (c : Thread nD τ))) (h : Fin 8) : sProp 𝕄 :=
  iprop((Fl c (turn S (mine h)) (head A h) f (half B (mine h)) ∗ (A.view.loc (c : Thread nD τ) ↦[A.view.set \ (head A h).view.set]{fullShare} f))
    ∗ (Zero c (turn S (other h)) ∗ Any c (half B (other h))))
/-- Head `h` in its buffer. -/
def Here (c : Dev nD) (f : Buf (Elt F) (A.view.loc (c : Thread nD τ))) (h : Fin 8) : sProp 𝕄 :=
  iprop(At c A f ∗ (Zero c (turn S (mine h)) ∗ Has c (half B (mine h)) ((head A h).view.read (Elt F) f)) ∗ (Zero c (turn S (other h)) ∗ Any c (half B (other h))))

/-- The two buffers, in the order of head `h`. -/
theorem rest_turn (c : Dev nD) (f : Buf (Elt F) (A.view.loc (c : Thread nD τ))) (h : Fin 8) :
    (Rest A B S c f : sProp 𝕄) ⊢ iprop(At c A f ∗ (Zero c (turn S (mine h)) ∗ Any c (half B (mine h))) ∗ (Zero c (turn S (other h)) ∗ Any c (half B (other h)))) := by
  unfold Rest
  rcases (by revert h; decide : (mine h = 0 ∧ other h = 1) ∨ (mine h = 1 ∧ other h = 0)) with ⟨h0, h1⟩ | ⟨h0, h1⟩ <;> rw [h0, h1]
  iintro ⟨HA, H0, H1⟩
  isplitl [HA]; · iexact HA
  isplitl [H1]; · iexact H1
  iexact H0
theorem turn_rest (c : Dev nD) (f : Buf (Elt F) (A.view.loc (c : Thread nD τ))) (h : Fin 8) :
    iprop(At c A f ∗ (Zero c (turn S (mine h)) ∗ Any c (half B (mine h))) ∗ (Zero c (turn S (other h)) ∗ Any c (half B (other h)))) ⊢ (Rest A B S c f : sProp 𝕄) := by
  unfold Rest
  rcases (by revert h; decide : (mine h = 0 ∧ other h = 1) ∨ (mine h = 1 ∧ other h = 0)) with ⟨h0, h1⟩ | ⟨h0, h1⟩ <;> rw [h0, h1]
  iintro ⟨HA, H0, H1⟩
  isplitl [HA]; · iexact HA
  isplitl [H1]; · iexact H1
  iexact H0
theorem rest_of_here (c : Dev nD) (f : Buf (Elt F) (A.view.loc (c : Thread nD τ))) (h : Fin 8) :
    (Here A B S c f h : sProp 𝕄) ⊢ Rest A B S c f := by
  refine via _ ?_ (turn_rest A B S c f h)
  unfold Here
  iintro ⟨HA, ⟨Hz, Hh⟩, H1⟩
  isplitl [HA]; · iexact HA
  isplitr [H1]
  · isplitl [Hz]; · iexact Hz
    iapply (any_of_has c _ _) $$ Hh
  iexact H1

theorem head_sub (h : Fin 8) : (head A h).view.set ⊆ A.view.set := by
  rw [Memref.set_view_squeeze]; exact View.set_slice_subset _ _

theorem step_go (c : Dev nD) (f : Buf (Elt F) (A.view.loc (c : Thread nD τ))) (h : Fin 8)
    {src : Memref sig .tc .hbm S4096x128 .f32} {dst : Memref sig .tc .vmem S4096x128 .f32} {sem : DmaSem sig}
    (hs : src = head A h) (hd : dst = half B (mine h)) (hsem : sem = turn S (mine h)) (h0 : ∀ s, 0 < (half B s).view.dmaCredit) {w1 w2 w3}
    {α : Type} {k : PUnit → Prog (TpuEff nD τ sig (Elt F) Λ₀ .tc) α} {Q : α → sProp 𝕄} {R : sProp 𝕄}
    (H : iprop(Base P K c ∗ Going A B S c f h ∗ R) ⊢ wp frame (wpE (defs₀ (F := F)) 𝒱₀ (c : Thread nD τ) none) Set.univ (k ⟨⟩) Q) :
    iprop(Base P K c ∗ Rest A B S c f ∗ R) ⊢ wp frame (wpE (defs₀ (F := F)) 𝒱₀ (c : Thread nD τ) none) Set.univ
      (Prog.lift (.enqueueDma src (.here dst) (.dma sem) w1 w2 w3) >>= k) Q := by
  subst hs hd hsem
  refine via iprop((Zero c (turn S (mine h)) ∗ At c (head A h) f ∗ Any c (half B (mine h)))
    ∗ (Base P K c ∗ (A.view.loc (c : Thread nD τ) ↦[A.view.set \ (head A h).view.set]{fullShare} f) ∗ (Zero c (turn S (other h)) ∗ Any c (half B (other h))) ∗ R))
    ?_ (step_start c (h0 _) (via _ ?_ H))
  · iintro ⟨HB, HK, HR⟩
    ihave HK := (rest_turn A B S c f h) $$ HK
    icases HK with ⟨HA, ⟨Hz, Hd⟩, Ho⟩
    unfold At
    ihave HA := (pointsTo_split_subset (head_sub A h)).1 $$ HA
    icases HA with ⟨Hs, HA⟩
    isplitl [Hz Hs Hd]
    · isplitl [Hz]; · iexact Hz
      isplitl [Hs]; · iexact Hs
      iexact Hd
    isplitl [HB]; · iexact HB
    isplitl [HA]; · iexact HA
    isplitl [Ho]; · iexact Ho
    iexact HR
  · unfold Going
    iintro ⟨HF, HB, HA, Ho, HR⟩
    isplitl [HB]; · iexact HB
    isplitr [HR]
    · isplitl [HF HA]
      · isplitl [HF]; · iexact HF
        iexact HA
      iexact Ho
    iexact HR

theorem step_come (c : Dev nD) (f : Buf (Elt F) (A.view.loc (c : Thread nD τ))) (h : Fin 8)
    {src : Memref sig .tc .hbm S4096x128 .f32} {dst : Memref sig .tc .vmem S4096x128 .f32} {sem : DmaSem sig}
    (hd : dst = half B (mine h)) (hsem : sem = turn S (mine h)) (hlv : ∀ s, (turn S s).val < 8) {w1 w2}
    {α : Type} {k : PUnit → Prog (TpuEff nD τ sig (Elt F) Λ₀ .tc) α} {Q : α → sProp 𝕄} {R : sProp 𝕄}
    (H : iprop(Base P K c ∗ Here A B S c f h ∗ R) ⊢ wp frame (wpE (defs₀ (F := F)) 𝒱₀ (c : Thread nD τ) none) Set.univ (k ⟨⟩) Q) :
    iprop(Base P K c ∗ Going A B S c f h ∗ R) ⊢ wp frame (wpE (defs₀ (F := F)) 𝒱₀ (c : Thread nD τ) none) Set.univ
      (Prog.lift (.waitDma2 sem src dst w1 w2) >>= k) Q := by
  subst hd hsem
  refine via iprop(Base P K c ∗ Fl c (turn S (mine h)) (head A h) f (half B (mine h))
      ∗ ((A.view.loc (c : Thread nD τ) ↦[A.view.set \ (head A h).view.set]{fullShare} f) ∗ (Zero c (turn S (other h)) ∗ Any c (half B (other h))) ∗ R))
    ?_ (step_land P K c (hlv _) (via _ ?_ H))
  · unfold Going
    iintro ⟨HB, ⟨⟨HF, HA⟩, Ho⟩, HR⟩
    isplitl [HB]; · iexact HB
    isplitl [HF]; · iexact HF
    isplitl [HA]; · iexact HA
    isplitl [Ho]; · iexact Ho
    iexact HR
  · unfold Here At
    iintro ⟨HB, ⟨Hz, Hd, Hs⟩, HA, Ho, HR⟩
    ihave HA := (pointsTo_split_subset (ℓ := A.view.loc (c : Thread nD τ)) (q := fullShare) (f := f) (head_sub A h)).2 $$ [Hs HA]
    · isplitl [Hs]; · iexact Hs
      iexact HA
    isplitl [HB]; · iexact HB
    isplitr [HR]
    · isplitl [HA]; · iexact HA
      isplitr [Ho]
      · isplitl [Hz]; · iexact Hz
        iexact Hd
      iexact Ho
    iexact HR

theorem step_look (c : Dev nD) (f : Buf (Elt F) (A.view.loc (c : Thread nD τ))) (h : Fin 8) {off : Fin 3 → ℕ} (ho : off = ![(mine h).val, 0, 0]) {inb hl}
    {α : Type} {k : Vec F S1x4096x128 .f32 → Prog (TpuEff nD τ sig (Elt F) Λ₀ .tc) α} {Q : α → sProp 𝕄} {R : sProp 𝕄}
    (H : iprop(Base P K c ∗ Here A B S c f h ∗ R) ⊢ wp frame (wpE (defs₀ (F := F)) 𝒱₀ (c : Thread nD τ) none) Set.univ (k (kv A f h)) Q) :
    iprop(Base P K c ∗ Here A B S c f h ∗ R) ⊢ wp frame (wpE (defs₀ (F := F)) 𝒱₀ (c : Thread nD τ) none) Set.univ
      (Prog.lift (.load B (Rect.unit (s := S2x4096x128) off S1x4096x128.size inb).toLoadRect hl) >>= k) Q := by
  subst ho
  show _ ⊢ wp frame _ Set.univ (.op (.load B (Rect.unit (s := S2x4096x128) ![(mine h).val, 0, 0] S1x4096x128.size inb).toLoadRect hl) k) Q
  unfold Here Has at *
  iintro ⟨HB, ⟨HA, ⟨Hz, ⟨%g, Hp, %hg⟩⟩, Ho⟩, HR⟩
  have hS : (B.access (Rect.unit (s := S2x4096x128) ![(mine h).val, 0, 0] S1x4096x128.size inb)).set ⊆ (half B (mine h)).view.set := by
    rw [Memref.set_view_squeeze]
  iapply (wp_load_rect (defs := defs₀ (F := F)) 𝒱₀ (c : Thread nD τ) none Set.univ (m := B)
    (r := Rect.unit (s := S2x4096x128) ![(mine h).val, 0, 0] S1x4096x128.size inb) (k := k) (hl := hl) (S := (half B (mine h)).view.set) (q := fullShare) (f := g) hS) $$ Hp
  iintro Hp
  have e : (B.access (Rect.unit (s := S2x4096x128) ![(mine h).val, 0, 0] S1x4096x128.size inb)).read (Elt F) g = kv A f h := by
    funext y
    exact (read_squeeze B _ _ squeezes_S1x4096x128_S4096x128 g y).trans (congrFun hg _)
  rw [e]
  iapply H
  isplitl [HB]; · iexact HB
  isplitr [HR]
  · isplitl [HA]; · iexact HA
    isplitr [Ho]
    · isplitl [Hz]; · iexact Hz
      iexists g
      isplitl [Hp]; · iexact Hp
      ipureintro; exact hg
    iexact Ho
  iexact HR

/-- The next head may be fetched. -/
theorem step_free (c : Dev nD) (f : Buf (Elt F) (A.view.loc (c : Thread nD τ))) (h : Fin 8) {W R : sProp 𝕄}
    (H : iprop(Base P K c ∗ Rest A B S c f ∗ R) ⊢ W) : iprop(Base P K c ∗ Here A B S c f h ∗ R) ⊢ W :=
  via _ (sep_mono_right (sep_mono_left (rest_of_here A B S c f h))) H

/-- The second thing held, for the first. -/
theorem swap {C X Y R W : sProp 𝕄} (H : iprop(C ∗ Y ∗ X ∗ R) ⊢ W) : iprop(C ∗ X ∗ Y ∗ R) ⊢ W := by
  refine via _ ?_ H
  iintro ⟨HC, HX, HY, HR⟩
  isplitl [HC]; · iexact HC
  isplitl [HY]; · iexact HY
  isplitl [HX]; · iexact HX
  iexact HR

end Cert.KernelIdeal.Body

end
-- ==== Proof.Compute.lean ====
/-
# The attention of one device, part by part
-/
module

public import proofs.«01_k».proof.Proof.Local

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi k0_cond9 k0_cond10 k0_cond11 k0_cond12 k0_cond13 k0_cond14 k0_cond15 k0_cond16

/-- A copy of a head counts. -/
theorem credit_k (s : Fin 2) : 0 < (half (Memref.whole cc0_scratch2) s).view.dmaCredit := by revert s; decide
theorem credit_v (s : Fin 2) : 0 < (half (Memref.whole cc0_scratch3) s).view.dmaCredit := by revert s; decide
theorem credit_q : 0 < (Memref.whole cc0_scratch0 : Memref sig .tc .vmem S1024x1024 .f32).view.dmaCredit := by decide
theorem credit_o : 0 < (Memref.whole cc0_scratch1 : Memref sig .tc .vmem S1024x1024 .f32).view.dmaCredit := by decide
theorem level_k (s : Fin 2) : (turn cc0_scratch9 s).val < 8 := by revert s; decide
theorem level_v (s : Fin 2) : (turn cc0_scratch10 s).val < 8 := by revert s; decide

/-- The device's own columns of the query weights, and rows of the output weights. -/
abbrev wqSrc (c : Dev nD) : Memref sig .tc .hbm S1024x1024 .f32 :=
  (Memref.whole main_arg1).slice (Rect.unit (s := S1024x16384) (k0_off1 c) S1024x1024.size (Cert.KernelIdeal.Gen.facts.k0_off1_inb c)) (fun _ => rfl)
abbrev woSrc (c : Dev nD) : Memref sig .tc .hbm S1024x1024 .f32 :=
  (Memref.whole main_arg4).slice (Rect.unit (s := S16384x1024) (k0_off2 c) S1024x1024.size (Cert.KernelIdeal.Gen.facts.k0_off2_inb c)) (fun _ => rfl)
abbrev wqVal (c : Dev nD) (f1 : Buf (Elt F) ((Memref.whole main_arg1 : Memref sig .tc .hbm S1024x16384 .f32).view.loc (c : Thread nD τ))) : Vec F S1024x1024 .f32 := (wqSrc c).view.read (Elt F) f1
abbrev woVal (c : Dev nD) (f4 : Buf (Elt F) ((Memref.whole main_arg4 : Memref sig .tc .hbm S16384x1024 .f32).view.loc (c : Thread nD τ))) : Vec F S1024x1024 .f32 := (woSrc c).view.read (Elt F) f4

/-- After the last signal nothing of the barrier is owed. -/
theorem sig_end (c : Dev nD) : (SigSt c 16 : sProp 𝕄) ⊢ owesE c (OA c 0 + OR c 0) := by
  unfold SigSt St
  have e : OB c 16 = 0 := owed_done _ _ _
  show iprop(owesE c (OA c 0 + OR c 0 + OB c 16) ∗ _) ⊢ _
  rw [e, add_zero]
  iintro ⟨H, -⟩
  iexact H

set_option maxRecDepth 20000 in
theorem part2 (c : Dev nD) (x0 : Memref sig .tc .vmem S1x256x1024 .f32) (h0 : x0.IsWhole) (x5 : Memref sig .tc .vmem S1x256x1024 .f32) (h5 : x5.IsWhole) {f1 : Buf (Elt F) ((Memref.whole main_arg1 : Memref sig .tc .hbm S1024x16384 .f32).view.loc (c : Thread nD τ))} {f4 : Buf (Elt F) ((Memref.whole main_arg4 : Memref sig .tc .hbm S16384x1024 .f32).view.loc (c : Thread nD τ))} (FR : sProp 𝕄) :
    iprop(Ctx P K ∗ SigSt c 8 ∗ (Zero c cc0_scratch7.sem ∗ At c (wqSrc c) f1 ∗ Any c (Memref.whole cc0_scratch0)) ∗ (Zero c cc0_scratch8.sem ∗ At c (woSrc c) f4 ∗ Any c (Memref.whole cc0_scratch1)) ∗ FR) ⊢ wp frame (wpE (defs₀ (F := F)) 𝒱₀ (c : Thread nD τ) none) Set.univ
      (k0_part2 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (SemArray.scalar (sig.barrier 0 rfl)))
      fun r => iprop(Base P K c ∗ Fl c cc0_scratch7.sem (wqSrc c) f1 (Memref.whole cc0_scratch0) ∗ Fl c cc0_scratch8.sem (woSrc c) f4 (Memref.whole cc0_scratch1) ∗ FR) := by
  rw [k0_part2_eq_skeleton]
  unfold k0_part2_skel
  refine step_signal (F := F) P K c ⟨8, by decide⟩ (by clear f1 f4; revert c; decide +kernel) _ (fun _ => Fin.ext k0_dev9_eq) ?_
  refine step_signal (F := F) P K c ⟨9, by decide⟩ (by clear f1 f4; revert c; decide +kernel) _ (fun _ => Fin.ext k0_dev10_eq) ?_
  refine step_signal (F := F) P K c ⟨10, by decide⟩ (by clear f1 f4; revert c; decide +kernel) _ (fun _ => Fin.ext k0_dev11_eq) ?_
  refine step_signal (F := F) P K c ⟨11, by decide⟩ (by clear f1 f4; revert c; decide +kernel) _ (fun _ => Fin.ext k0_dev12_eq) ?_
  refine step_signal (F := F) P K c ⟨12, by decide⟩ (by clear f1 f4; revert c; decide +kernel) _ (fun _ => Fin.ext k0_dev13_eq) ?_
  refine step_signal (F := F) P K c ⟨13, by decide⟩ (by clear f1 f4; revert c; decide +kernel) _ (fun _ => Fin.ext k0_dev14_eq) ?_
  refine step_signal (F := F) P K c ⟨14, by decide⟩ (by clear f1 f4; revert c; decide +kernel) _ (fun _ => Fin.ext k0_dev15_eq) ?_
  refine step_signal (F := F) P K c ⟨15, by decide⟩ (by clear f1 f4; revert c; decide +kernel) _ (fun _ => Fin.ext k0_dev16_eq) ?_
  refine via (iprop((Zero c cc0_scratch7.sem ∗ At c (wqSrc c) f1 ∗ Any c (Memref.whole cc0_scratch0)) ∗ ((Zero c cc0_scratch8.sem ∗ At c (woSrc c) f4 ∗ Any c (Memref.whole cc0_scratch1)) ∗ Ctx P K ∗ owesE c (OA c 0 + OR c 0) ∗ FR))) ?_ ?_
  · iintro ⟨#HC, HS, HQ, HO, HF⟩
    ihave HS := (sig_end (F := F) c) $$ HS
    isplitl [HQ]; · iexact HQ
    isplitl [HO]; · iexact HO
    isplitr; · iexact HC
    isplitl [HS]; · iexact HS
    iexact HF
  refine step_start c credit_q ?_
  refine via (iprop((Zero c cc0_scratch8.sem ∗ At c (woSrc c) f4 ∗ Any c (Memref.whole cc0_scratch1)) ∗ (Fl c cc0_scratch7.sem (wqSrc c) f1 (Memref.whole cc0_scratch0) ∗ Ctx P K ∗ owesE c (OA c 0 + OR c 0) ∗ FR))) ?_ ?_
  · iintro ⟨HQ, HO, H⟩
    isplitl [HO]; · iexact HO
    isplitl [HQ]; · iexact HQ
    iexact H
  refine step_start c credit_o ?_
  refine step_ret c ?_
  unfold Base
  iintro ⟨HO, HQ, #HC, Ho, HF⟩
  isplitl [Ho]
  · isplitr; · iexact HC
    iexact Ho
  isplitl [HQ]; · iexact HQ
  isplitl [HO]; · iexact HO
  iexact HF

set_option maxRecDepth 20000 in
theorem part3 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} {f1 : Buf (Elt F) ((Memref.whole main_arg1 : Memref sig .tc .hbm S1024x16384 .f32).view.loc (c : Thread nD τ))} (xv : Vec F S1x256x1024 .f32) (FR : sProp 𝕄) :
    iprop(Base P K c ∗ Rest (Memref.whole main_arg2) (Memref.whole cc0_scratch2) cc0_scratch9 c fk ∗ Rest (Memref.whole main_arg3) (Memref.whole cc0_scratch3) cc0_scratch10 c fv ∗ Fl c cc0_scratch7.sem (wqSrc c) f1 (Memref.whole cc0_scratch0) ∗ Has c x0 xv ∗ FR) ⊢ wp frame (wpE (defs₀ (F := F)) 𝒱₀ (c : Thread nD τ) none) Set.univ
      (k0_part3 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c)
      fun r => iprop(⌜r = ⟨k0_pay1 xv (wqVal c f1), iota .tc S256x4096 32 [0] iota_S256x4096_d0_w32, 64#32, k0_pay2, k0_pay3, Scalar.extui (Scalar.cmpi .sgt 64#32 0#32), Scalar.extui (Scalar.cmpi .slt 64#32 0#32)⟩⌝ ∗ Base P K c ∗ Going (Memref.whole main_arg2) (Memref.whole cc0_scratch2) cc0_scratch9 c fk 0 ∗ Going (Memref.whole main_arg3) (Memref.whole cc0_scratch3) cc0_scratch10 c fv 0 ∗ (Zero c cc0_scratch7.sem ∗ Has c (Memref.whole cc0_scratch0) (wqVal c f1) ∗ At c (wqSrc c) f1) ∗ Has c x0 xv ∗ FR) := by
  rw [k0_part3_eq_skeleton]
  unfold k0_part3_skel
  refine step_go P K (Memref.whole main_arg2) (Memref.whole cc0_scratch2) cc0_scratch9 c fk 0 rfl rfl rfl credit_k ?_
  refine swap ?_
  refine step_go P K (Memref.whole main_arg3) (Memref.whole cc0_scratch3) cc0_scratch10 c fv 0 rfl rfl rfl credit_v ?_
  refine swap ?_
  refine via (iprop(Has c x0 xv ∗ (Base P K c ∗ Fl c cc0_scratch7.sem (wqSrc c) f1 (Memref.whole cc0_scratch0) ∗ Going (Memref.whole main_arg2) (Memref.whole cc0_scratch2) cc0_scratch9 c fk 0 ∗ Going (Memref.whole main_arg3) (Memref.whole cc0_scratch3) cc0_scratch10 c fv 0 ∗ FR))) ?_ ?_
  · iintro ⟨HB, HK, HV, HQ, HX, HF⟩
    isplitl [HX]; · iexact HX
    isplitl [HB]; · iexact HB
    isplitl [HQ]; · iexact HQ
    isplitl [HK]; · iexact HK
    isplitl [HV]; · iexact HV
    iexact HF
  refine step_load c (by decide) ?_
  refine via (iprop(Base P K c ∗ Fl c cc0_scratch7.sem (wqSrc c) f1 (Memref.whole cc0_scratch0) ∗ (Has c x0 xv ∗ Going (Memref.whole main_arg2) (Memref.whole cc0_scratch2) cc0_scratch9 c fk 0 ∗ Going (Memref.whole main_arg3) (Memref.whole cc0_scratch3) cc0_scratch10 c fv 0 ∗ FR))) ?_ ?_
  · iintro ⟨HX, HB, HQ, H⟩
    isplitl [HB]; · iexact HB
    isplitl [HQ]; · iexact HQ
    isplitl [HX]; · iexact HX
    iexact H
  refine step_land P K c (by decide) ?_
  refine via (iprop(Has c (Memref.whole cc0_scratch0) (wqVal c f1) ∗ (Base P K c ∗ Going (Memref.whole main_arg2) (Memref.whole cc0_scratch2) cc0_scratch9 c fk 0 ∗ Going (Memref.whole main_arg3) (Memref.whole cc0_scratch3) cc0_scratch10 c fv 0 ∗ Zero c cc0_scratch7.sem ∗ At c (wqSrc c) f1 ∗ Has c x0 xv ∗ FR))) ?_ ?_
  · iintro ⟨HB, ⟨Hz, Hh, Hs⟩, HX, HK, HV, HF⟩
    isplitl [Hh]; · iexact Hh
    isplitl [HB]; · iexact HB
    isplitl [HK]; · iexact HK
    isplitl [HV]; · iexact HV
    isplitl [Hz]; · iexact Hz
    isplitl [Hs]; · iexact Hs
    isplitl [HX]; · iexact HX
    iexact HF
  refine step_load c (by decide) ?_
  refine step_ret c ?_
  iintro ⟨Hh, HB, HK, HV, Hz, Hs, HX, HF⟩
  isplitr; · ipureintro; rfl
  isplitl [HB]; · iexact HB
  isplitl [HK]; · iexact HK
  isplitl [HV]; · iexact HV
  isplitl [Hz Hh Hs]
  · isplitl [Hz]; · iexact Hz
    isplitl [Hh]; · iexact Hh
    iexact Hs
  isplitl [HX]; · iexact HX
  iexact HF

set_option maxRecDepth 20000 in
theorem part4 (c : Dev nD) (x0 : Memref sig .tc .vmem S1x256x1024 .f32) (h0 : x0.IsWhole) (x5 : Memref sig .tc .vmem S1x256x1024 .f32) (h5 : x5.IsWhole) (v77 : IVec S256x4096 32) (c64_i32 : BitVec 32) (v79 : IVec S256x4096 32) (v86 : IVec S256x4096 32) (v88 : BitVec 32) (v90 : BitVec 32) (FR : sProp 𝕄) :
    iprop(FR) ⊢ wp frame (wpE (defs₀ (F := F)) 𝒱₀ (c : Thread nD τ) none) Set.univ
      (k0_part4 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v77 c64_i32 v79 v86 v88 v90)
      fun r => iprop(⌜r = ⟨k0_pay6 v77 c64_i32 v79 v86 v88 v90, (Scalar.select (Scalar.cmpi .eq 3#32 0#32) 1#32 3#32), k0_pay7 v77 c64_i32 v79 v86 v88 v90, k0_pay8⟩⌝ ∗ FR) := by
  rw [k0_part4_eq_skeleton]
  unfold k0_part4_skel
  refine step_ret c ?_
  iintro H
  isplitr; · ipureintro; rfl
  iexact H

set_option maxRecDepth 20000 in
theorem part5 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v130 : IVec S256x4096 1) (v133 : BitVec 32) (v135 : IVec S256x4096 32) (v136 : IVec S256x4096 32) (FR : sProp 𝕄) :
    iprop(Base P K c ∗ Going (Memref.whole main_arg2) (Memref.whole cc0_scratch2) cc0_scratch9 c fk 0 ∗ Going (Memref.whole main_arg3) (Memref.whole cc0_scratch3) cc0_scratch10 c fv 0 ∗ FR) ⊢ wp frame (wpE (defs₀ (F := F)) 𝒱₀ (c : Thread nD τ) none) Set.univ
      (k0_part5 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v130 v133 v135 v136)
      fun r => iprop(⌜r = ⟨k0_pay9 v130 v133 v135 v136, k0_pay10 v76 (kv (Memref.whole main_arg2) fk 0), k0_pay11 (F := F)⟩⌝ ∗ Base P K c ∗ Going (Memref.whole main_arg2) (Memref.whole cc0_scratch2) cc0_scratch9 c fk 1 ∗ Going (Memref.whole main_arg3) (Memref.whole cc0_scratch3) cc0_scratch10 c fv 0 ∗ FR) := by
  rw [k0_part5_eq_skeleton]
  unfold k0_part5_skel
  refine step_come P K (Memref.whole main_arg2) (Memref.whole cc0_scratch2) cc0_scratch9 c fk 0 rfl rfl level_k ?_
  refine step_look P K (Memref.whole main_arg2) (Memref.whole cc0_scratch2) cc0_scratch9 c fk 0 rfl ?_
  refine step_free P K (Memref.whole main_arg2) (Memref.whole cc0_scratch2) cc0_scratch9 c fk 0 ?_
  refine step_go P K (Memref.whole main_arg2) (Memref.whole cc0_scratch2) cc0_scratch9 c fk 1 rfl rfl rfl credit_k ?_
  refine step_ret c ?_
  iintro H
  isplitr; · ipureintro; rfl
  iexact H

set_option maxRecDepth 20000 in
theorem part6 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v150 : IVec S256x4096 1) (v169 : FVec F S256x4096 .f32) (v170 : FVec F S256x4096 .f32) (FR : sProp 𝕄) :
    iprop(Base P K c ∗ Going (Memref.whole main_arg2) (Memref.whole cc0_scratch2) cc0_scratch9 c fk 1 ∗ Going (Memref.whole main_arg3) (Memref.whole cc0_scratch3) cc0_scratch10 c fv 0 ∗ FR) ⊢ wp frame (wpE (defs₀ (F := F)) 𝒱₀ (c : Thread nD τ) none) Set.univ
      (k0_part6 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v150 v169 v170)
      fun r => iprop(⌜r = (k0_pay12 v150 v169 v170 (kv (Memref.whole main_arg3) fv 0))⌝ ∗ Base P K c ∗ Here (Memref.whole main_arg2) (Memref.whole cc0_scratch2) cc0_scratch9 c fk 1 ∗ Going (Memref.whole main_arg3) (Memref.whole cc0_scratch3) cc0_scratch10 c fv 1 ∗ FR) := by
  rw [k0_part6_eq_skeleton]
  unfold k0_part6_skel
  refine swap ?_
  refine step_come P K (Memref.whole main_arg3) (Memref.whole cc0_scratch3) cc0_scratch10 c fv 0 rfl rfl level_v ?_
  refine swap ?_
  refine swap ?_
  refine step_look P K (Memref.whole main_arg3) (Memref.whole cc0_scratch3) cc0_scratch10 c fv 0 rfl ?_
  refine swap ?_
  refine swap ?_
  refine step_free P K (Memref.whole main_arg3) (Memref.whole cc0_scratch3) cc0_scratch10 c fv 0 ?_
  refine swap ?_
  refine swap ?_
  refine step_go P K (Memref.whole main_arg3) (Memref.whole cc0_scratch3) cc0_scratch10 c fv 1 rfl rfl rfl credit_v ?_
  refine swap ?_
  refine step_come P K (Memref.whole main_arg2) (Memref.whole cc0_scratch2) cc0_scratch9 c fk 1 rfl rfl level_k ?_
  refine step_ret c ?_
  iintro H
  isplitr; · ipureintro; rfl
  iexact H

set_option maxRecDepth 20000 in
theorem part7 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v150 : IVec S256x4096 1) (FR : sProp 𝕄) :
    iprop(Base P K c ∗ Here (Memref.whole main_arg2) (Memref.whole cc0_scratch2) cc0_scratch9 c fk 1 ∗ Going (Memref.whole main_arg3) (Memref.whole cc0_scratch3) cc0_scratch10 c fv 1 ∗ FR) ⊢ wp frame (wpE (defs₀ (F := F)) 𝒱₀ (c : Thread nD τ) none) Set.univ
      (k0_part7 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v150)
      fun r => iprop(⌜r = ⟨k0_pay13 v76 v150 (kv (Memref.whole main_arg2) fk 1), k0_pay14 v76 v150 (kv (Memref.whole main_arg2) fk 1), k0_pay15 (kv (Memref.whole main_arg3) fv 1)⟩⌝ ∗ Base P K c ∗ Going (Memref.whole main_arg2) (Memref.whole cc0_scratch2) cc0_scratch9 c fk 2 ∗ Here (Memref.whole main_arg3) (Memref.whole cc0_scratch3) cc0_scratch10 c fv 1 ∗ FR) := by
  rw [k0_part7_eq_skeleton]
  unfold k0_part7_skel
  refine step_look P K (Memref.whole main_arg2) (Memref.whole cc0_scratch2) cc0_scratch9 c fk 1 rfl ?_
  refine step_free P K (Memref.whole main_arg2) (Memref.whole cc0_scratch2) cc0_scratch9 c fk 1 ?_
  refine step_go P K (Memref.whole main_arg2) (Memref.whole cc0_scratch2) cc0_scratch9 c fk 2 rfl rfl rfl credit_k ?_
  refine swap ?_
  refine step_come P K (Memref.whole main_arg3) (Memref.whole cc0_scratch3) cc0_scratch10 c fv 1 rfl rfl level_v ?_
  refine swap ?_
  refine swap ?_
  refine step_look P K (Memref.whole main_arg3) (Memref.whole cc0_scratch3) cc0_scratch10 c fv 1 rfl ?_
  refine swap ?_
  refine step_ret c ?_
  iintro H
  isplitr; · ipureintro; rfl
  iexact H

set_option maxRecDepth 20000 in
theorem part8 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v150 : IVec S256x4096 1) (v213 : FVec F S256x4096 .f32) (v215 : FVec F S256x1 .f32) (v224 : FVec F S4096x128 .bf16) (FR : sProp 𝕄) :
    iprop(Base P K c ∗ Going (Memref.whole main_arg2) (Memref.whole cc0_scratch2) cc0_scratch9 c fk 2 ∗ Here (Memref.whole main_arg3) (Memref.whole cc0_scratch3) cc0_scratch10 c fv 1 ∗ FR) ⊢ wp frame (wpE (defs₀ (F := F)) 𝒱₀ (c : Thread nD τ) none) Set.univ
      (k0_part8 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v150 v213 v215 v224)
      fun r => iprop(⌜r = ⟨k0_pay16 v213 v215 v224, k0_pay17 v76 v150 (kv (Memref.whole main_arg2) fk 2), k0_pay18 v76 v150 (kv (Memref.whole main_arg2) fk 2)⟩⌝ ∗ Base P K c ∗ Going (Memref.whole main_arg2) (Memref.whole cc0_scratch2) cc0_scratch9 c fk 3 ∗ Going (Memref.whole main_arg3) (Memref.whole cc0_scratch3) cc0_scratch10 c fv 2 ∗ FR) := by
  rw [k0_part8_eq_skeleton]
  unfold k0_part8_skel
  refine swap ?_
  refine step_free P K (Memref.whole main_arg3) (Memref.whole cc0_scratch3) cc0_scratch10 c fv 1 ?_
  refine swap ?_
  refine swap ?_
  refine step_go P K (Memref.whole main_arg3) (Memref.whole cc0_scratch3) cc0_scratch10 c fv 2 rfl rfl rfl credit_v ?_
  refine swap ?_
  refine step_come P K (Memref.whole main_arg2) (Memref.whole cc0_scratch2) cc0_scratch9 c fk 2 rfl rfl level_k ?_
  refine step_look P K (Memref.whole main_arg2) (Memref.whole cc0_scratch2) cc0_scratch9 c fk 2 rfl ?_
  refine step_free P K (Memref.whole main_arg2) (Memref.whole cc0_scratch2) cc0_scratch9 c fk 2 ?_
  refine step_go P K (Memref.whole main_arg2) (Memref.whole cc0_scratch2) cc0_scratch9 c fk 3 rfl rfl rfl credit_k ?_
  refine step_ret c ?_
  iintro H
  isplitr; · ipureintro; rfl
  iexact H

set_option maxRecDepth 20000 in
theorem part9 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v255 : FVec F S256x4096 .f32) (v257 : FVec F S256x1 .f32) (FR : sProp 𝕄) :
    iprop(Base P K c ∗ Going (Memref.whole main_arg2) (Memref.whole cc0_scratch2) cc0_scratch9 c fk 3 ∗ Going (Memref.whole main_arg3) (Memref.whole cc0_scratch3) cc0_scratch10 c fv 2 ∗ FR) ⊢ wp frame (wpE (defs₀ (F := F)) 𝒱₀ (c : Thread nD τ) none) Set.univ
      (k0_part9 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v255 v257)
      fun r => iprop(⌜r = ⟨k0_pay19 v255 v257 (kv (Memref.whole main_arg3) fv 2), (kv (Memref.whole main_arg2) fk 3)⟩⌝ ∗ Base P K c ∗ Here (Memref.whole main_arg2) (Memref.whole cc0_scratch2) cc0_scratch9 c fk 3 ∗ Going (Memref.whole main_arg3) (Memref.whole cc0_scratch3) cc0_scratch10 c fv 3 ∗ FR) := by
  rw [k0_part9_eq_skeleton]
  unfold k0_part9_skel
  refine swap ?_
  refine step_come P K (Memref.whole main_arg3) (Memref.whole cc0_scratch3) cc0_scratch10 c fv 2 rfl rfl level_v ?_
  refine swap ?_
  refine swap ?_
  refine step_look P K (Memref.whole main_arg3) (Memref.whole cc0_scratch3) cc0_scratch10 c fv 2 rfl ?_
  refine swap ?_
  refine swap ?_
  refine step_free P K (Memref.whole main_arg3) (Memref.whole cc0_scratch3) cc0_scratch10 c fv 2 ?_
  refine swap ?_
  refine swap ?_
  refine step_go P K (Memref.whole main_arg3) (Memref.whole cc0_scratch3) cc0_scratch10 c fv 3 rfl rfl rfl credit_v ?_
  refine swap ?_
  refine step_come P K (Memref.whole main_arg2) (Memref.whole cc0_scratch2) cc0_scratch9 c fk 3 rfl rfl level_k ?_
  refine step_look P K (Memref.whole main_arg2) (Memref.whole cc0_scratch2) cc0_scratch9 c fk 3 rfl ?_
  refine step_ret c ?_
  iintro H
  isplitr; · ipureintro; rfl
  iexact H

set_option maxRecDepth 20000 in
theorem part10 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v150 : IVec S256x4096 1) (v283 : Vec F S1x4096x128 .f32) (FR : sProp 𝕄) :
    iprop(Base P K c ∗ Here (Memref.whole main_arg2) (Memref.whole cc0_scratch2) cc0_scratch9 c fk 3 ∗ Going (Memref.whole main_arg3) (Memref.whole cc0_scratch3) cc0_scratch10 c fv 3 ∗ FR) ⊢ wp frame (wpE (defs₀ (F := F)) 𝒱₀ (c : Thread nD τ) none) Set.univ
      (k0_part10 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v150 v283)
      fun r => iprop(⌜r = ⟨k0_pay20 v76 v150 v283, k0_pay21 v76 v150 v283, k0_pay22 (kv (Memref.whole main_arg3) fv 3)⟩⌝ ∗ Base P K c ∗ Going (Memref.whole main_arg2) (Memref.whole cc0_scratch2) cc0_scratch9 c fk 4 ∗ Here (Memref.whole main_arg3) (Memref.whole cc0_scratch3) cc0_scratch10 c fv 3 ∗ FR) := by
  rw [k0_part10_eq_skeleton]
  unfold k0_part10_skel
  refine step_free P K (Memref.whole main_arg2) (Memref.whole cc0_scratch2) cc0_scratch9 c fk 3 ?_
  refine step_go P K (Memref.whole main_arg2) (Memref.whole cc0_scratch2) cc0_scratch9 c fk 4 rfl rfl rfl credit_k ?_
  refine swap ?_
  refine step_come P K (Memref.whole main_arg3) (Memref.whole cc0_scratch3) cc0_scratch10 c fv 3 rfl rfl level_v ?_
  refine swap ?_
  refine swap ?_
  refine step_look P K (Memref.whole main_arg3) (Memref.whole cc0_scratch3) cc0_scratch10 c fv 3 rfl ?_
  refine swap ?_
  refine step_ret c ?_
  iintro H
  isplitr; · ipureintro; rfl
  iexact H

set_option maxRecDepth 20000 in
theorem part11 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v150 : IVec S256x4096 1) (v297 : FVec F S256x4096 .f32) (v299 : FVec F S256x1 .f32) (v308 : FVec F S4096x128 .bf16) (FR : sProp 𝕄) :
    iprop(Base P K c ∗ Going (Memref.whole main_arg2) (Memref.whole cc0_scratch2) cc0_scratch9 c fk 4 ∗ Here (Memref.whole main_arg3) (Memref.whole cc0_scratch3) cc0_scratch10 c fv 3 ∗ FR) ⊢ wp frame (wpE (defs₀ (F := F)) 𝒱₀ (c : Thread nD τ) none) Set.univ
      (k0_part11 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v150 v297 v299 v308)
      fun r => iprop(⌜r = ⟨k0_pay23 v297 v299 v308, k0_pay24 v76 v150 (kv (Memref.whole main_arg2) fk 4), k0_pay25 v76 v150 (kv (Memref.whole main_arg2) fk 4)⟩⌝ ∗ Base P K c ∗ Going (Memref.whole main_arg2) (Memref.whole cc0_scratch2) cc0_scratch9 c fk 5 ∗ Going (Memref.whole main_arg3) (Memref.whole cc0_scratch3) cc0_scratch10 c fv 4 ∗ FR) := by
  rw [k0_part11_eq_skeleton]
  unfold k0_part11_skel
  refine swap ?_
  refine step_free P K (Memref.whole main_arg3) (Memref.whole cc0_scratch3) cc0_scratch10 c fv 3 ?_
  refine swap ?_
  refine swap ?_
  refine step_go P K (Memref.whole main_arg3) (Memref.whole cc0_scratch3) cc0_scratch10 c fv 4 rfl rfl rfl credit_v ?_
  refine swap ?_
  refine step_come P K (Memref.whole main_arg2) (Memref.whole cc0_scratch2) cc0_scratch9 c fk 4 rfl rfl level_k ?_
  refine step_look P K (Memref.whole main_arg2) (Memref.whole cc0_scratch2) cc0_scratch9 c fk 4 rfl ?_
  refine step_free P K (Memref.whole main_arg2) (Memref.whole cc0_scratch2) cc0_scratch9 c fk 4 ?_
  refine step_go P K (Memref.whole main_arg2) (Memref.whole cc0_scratch2) cc0_scratch9 c fk 5 rfl rfl rfl credit_k ?_
  refine step_ret c ?_
  iintro H
  isplitr; · ipureintro; rfl
  iexact H

set_option maxRecDepth 20000 in
theorem part12 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v339 : FVec F S256x4096 .f32) (v341 : FVec F S256x1 .f32) (FR : sProp 𝕄) :
    iprop(Base P K c ∗ Going (Memref.whole main_arg2) (Memref.whole cc0_scratch2) cc0_scratch9 c fk 5 ∗ Going (Memref.whole main_arg3) (Memref.whole cc0_scratch3) cc0_scratch10 c fv 4 ∗ FR) ⊢ wp frame (wpE (defs₀ (F := F)) 𝒱₀ (c : Thread nD τ) none) Set.univ
      (k0_part12 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v339 v341)
      fun r => iprop(⌜r = ⟨k0_pay26 v339 v341 (kv (Memref.whole main_arg3) fv 4), k0_pay27 (kv (Memref.whole main_arg2) fk 5)⟩⌝ ∗ Base P K c ∗ Here (Memref.whole main_arg2) (Memref.whole cc0_scratch2) cc0_scratch9 c fk 5 ∗ Going (Memref.whole main_arg3) (Memref.whole cc0_scratch3) cc0_scratch10 c fv 5 ∗ FR) := by
  rw [k0_part12_eq_skeleton]
  unfold k0_part12_skel
  refine swap ?_
  refine step_come P K (Memref.whole main_arg3) (Memref.whole cc0_scratch3) cc0_scratch10 c fv 4 rfl rfl level_v ?_
  refine swap ?_
  refine swap ?_
  refine step_look P K (Memref.whole main_arg3) (Memref.whole cc0_scratch3) cc0_scratch10 c fv 4 rfl ?_
  refine swap ?_
  refine swap ?_
  refine step_free P K (Memref.whole main_arg3) (Memref.whole cc0_scratch3) cc0_scratch10 c fv 4 ?_
  refine swap ?_
  refine swap ?_
  refine step_go P K (Memref.whole main_arg3) (Memref.whole cc0_scratch3) cc0_scratch10 c fv 5 rfl rfl rfl credit_v ?_
  refine swap ?_
  refine step_come P K (Memref.whole main_arg2) (Memref.whole cc0_scratch2) cc0_scratch9 c fk 5 rfl rfl level_k ?_
  refine step_look P K (Memref.whole main_arg2) (Memref.whole cc0_scratch2) cc0_scratch9 c fk 5 rfl ?_
  refine step_ret c ?_
  iintro H
  isplitr; · ipureintro; rfl
  iexact H

set_option maxRecDepth 20000 in
theorem part13 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v150 : IVec S256x4096 1) (v369 : FVec F S4096x128 .bf16) (FR : sProp 𝕄) :
    iprop(Base P K c ∗ Here (Memref.whole main_arg2) (Memref.whole cc0_scratch2) cc0_scratch9 c fk 5 ∗ Going (Memref.whole main_arg3) (Memref.whole cc0_scratch3) cc0_scratch10 c fv 5 ∗ FR) ⊢ wp frame (wpE (defs₀ (F := F)) 𝒱₀ (c : Thread nD τ) none) Set.univ
      (k0_part13 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v150 v369)
      fun r => iprop(⌜r = ⟨k0_pay28 v76 v150 v369, k0_pay29 v76 v150 v369, k0_pay30 (kv (Memref.whole main_arg3) fv 5)⟩⌝ ∗ Base P K c ∗ Going (Memref.whole main_arg2) (Memref.whole cc0_scratch2) cc0_scratch9 c fk 6 ∗ Going (Memref.whole main_arg3) (Memref.whole cc0_scratch3) cc0_scratch10 c fv 6 ∗ FR) := by
  rw [k0_part13_eq_skeleton]
  unfold k0_part13_skel
  refine step_free P K (Memref.whole main_arg2) (Memref.whole cc0_scratch2) cc0_scratch9 c fk 5 ?_
  refine step_go P K (Memref.whole main_arg2) (Memref.whole cc0_scratch2) cc0_scratch9 c fk 6 rfl rfl rfl credit_k ?_
  refine swap ?_
  refine step_come P K (Memref.whole main_arg3) (Memref.whole cc0_scratch3) cc0_scratch10 c fv 5 rfl rfl level_v ?_
  refine swap ?_
  refine swap ?_
  refine step_look P K (Memref.whole main_arg3) (Memref.whole cc0_scratch3) cc0_scratch10 c fv 5 rfl ?_
  refine swap ?_
  refine swap ?_
  refine step_free P K (Memref.whole main_arg3) (Memref.whole cc0_scratch3) cc0_scratch10 c fv 5 ?_
  refine swap ?_
  refine swap ?_
  refine step_go P K (Memref.whole main_arg3) (Memref.whole cc0_scratch3) cc0_scratch10 c fv 6 rfl rfl rfl credit_v ?_
  refine swap ?_
  refine step_ret c ?_
  iintro H
  isplitr; · ipureintro; rfl
  iexact H

set_option maxRecDepth 20000 in
theorem part14 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v150 : IVec S256x4096 1) (v381 : FVec F S256x4096 .f32) (v383 : FVec F S256x1 .f32) (v392 : FVec F S4096x128 .bf16) (FR : sProp 𝕄) :
    iprop(Base P K c ∗ Going (Memref.whole main_arg2) (Memref.whole cc0_scratch2) cc0_scratch9 c fk 6 ∗ Going (Memref.whole main_arg3) (Memref.whole cc0_scratch3) cc0_scratch10 c fv 6 ∗ FR) ⊢ wp frame (wpE (defs₀ (F := F)) 𝒱₀ (c : Thread nD τ) none) Set.univ
      (k0_part14 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v150 v381 v383 v392)
      fun r => iprop(⌜r = ⟨k0_pay31 v381 v383 v392, k0_pay32 v76 v150 (kv (Memref.whole main_arg2) fk 6), k0_pay33 v76 v150 (kv (Memref.whole main_arg2) fk 6)⟩⌝ ∗ Base P K c ∗ Going (Memref.whole main_arg2) (Memref.whole cc0_scratch2) cc0_scratch9 c fk 7 ∗ Going (Memref.whole main_arg3) (Memref.whole cc0_scratch3) cc0_scratch10 c fv 6 ∗ FR) := by
  rw [k0_part14_eq_skeleton]
  unfold k0_part14_skel
  refine step_come P K (Memref.whole main_arg2) (Memref.whole cc0_scratch2) cc0_scratch9 c fk 6 rfl rfl level_k ?_
  refine step_look P K (Memref.whole main_arg2) (Memref.whole cc0_scratch2) cc0_scratch9 c fk 6 rfl ?_
  refine step_free P K (Memref.whole main_arg2) (Memref.whole cc0_scratch2) cc0_scratch9 c fk 6 ?_
  refine step_go P K (Memref.whole main_arg2) (Memref.whole cc0_scratch2) cc0_scratch9 c fk 7 rfl rfl rfl credit_k ?_
  refine step_ret c ?_
  iintro H
  isplitr; · ipureintro; rfl
  iexact H

set_option maxRecDepth 20000 in
theorem part15 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} (v76 : FVec F S256x1024 .f32) (v423 : FVec F S256x4096 .f32) (v425 : FVec F S256x1 .f32) (FR : sProp 𝕄) :
    iprop(Base P K c ∗ Going (Memref.whole main_arg2) (Memref.whole cc0_scratch2) cc0_scratch9 c fk 7 ∗ Going (Memref.whole main_arg3) (Memref.whole cc0_scratch3) cc0_scratch10 c fv 6 ∗ FR) ⊢ wp frame (wpE (defs₀ (F := F)) 𝒱₀ (c : Thread nD τ) none) Set.univ
      (k0_part15 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 v76 v423 v425)
      fun r => iprop(⌜r = ⟨k0_pay34 v423 v425 (kv (Memref.whole main_arg3) fv 6), k0_pay35 v76 (kv (Memref.whole main_arg2) fk 7), FloatOps.ofBits .f32 0x00000000#32⟩⌝ ∗ Base P K c ∗ Here (Memref.whole main_arg2) (Memref.whole cc0_scratch2) cc0_scratch9 c fk 7 ∗ Going (Memref.whole main_arg3) (Memref.whole cc0_scratch3) cc0_scratch10 c fv 7 ∗ FR) := by
  rw [k0_part15_eq_skeleton]
  unfold k0_part15_skel
  refine swap ?_
  refine step_come P K (Memref.whole main_arg3) (Memref.whole cc0_scratch3) cc0_scratch10 c fv 6 rfl rfl level_v ?_
  refine swap ?_
  refine swap ?_
  refine step_look P K (Memref.whole main_arg3) (Memref.whole cc0_scratch3) cc0_scratch10 c fv 6 rfl ?_
  refine swap ?_
  refine swap ?_
  refine step_free P K (Memref.whole main_arg3) (Memref.whole cc0_scratch3) cc0_scratch10 c fv 6 ?_
  refine swap ?_
  refine swap ?_
  refine step_go P K (Memref.whole main_arg3) (Memref.whole cc0_scratch3) cc0_scratch10 c fv 7 rfl rfl rfl credit_v ?_
  refine swap ?_
  refine step_come P K (Memref.whole main_arg2) (Memref.whole cc0_scratch2) cc0_scratch9 c fk 7 rfl rfl level_k ?_
  refine step_look P K (Memref.whole main_arg2) (Memref.whole cc0_scratch2) cc0_scratch9 c fk 7 rfl ?_
  refine step_ret c ?_
  iintro H
  isplitr; · ipureintro; rfl
  iexact H

set_option maxRecDepth 20000 in
theorem part16 (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} {f4 : Buf (Elt F) ((Memref.whole main_arg4 : Memref sig .tc .hbm S16384x1024 .f32).view.loc (c : Thread nD τ))} (v150 : IVec S256x4096 1) (v192 : FVec F S256x128 .f32) (v234 : FVec F S256x128 .f32) (v276 : FVec F S256x128 .f32) (v318 : FVec F S256x128 .f32) (v360 : FVec F S256x128 .f32) (v402 : FVec F S256x128 .f32) (v444 : FVec F S256x128 .f32) (v457 : FVec F S256x4096 .f32) (cst_368 : F .f32) (FR : sProp 𝕄) :
    iprop(Base P K c ∗ Here (Memref.whole main_arg2) (Memref.whole cc0_scratch2) cc0_scratch9 c fk 7 ∗ Going (Memref.whole main_arg3) (Memref.whole cc0_scratch3) cc0_scratch10 c fv 7 ∗ Fl c cc0_scratch8.sem (woSrc c) f4 (Memref.whole cc0_scratch1) ∗ Any c (Memref.whole cc0_scratch4) ∗ Any c (Memref.whole cc0_scratch5) ∗ FR) ⊢ wp frame (wpE (defs₀ (F := F)) 𝒱₀ (c : Thread nD τ) none) Set.univ
      (k0_part16 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c v150 v192 v234 v276 v318 v360 v402 v444 v457 cst_368)
      fun r => iprop(Base P K c ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (k0_pay36 v150 v192 v234 v276 v318 v360 v402 v444 v457 cst_368 (kv (Memref.whole main_arg3) fv 7)) ∗ Has c (Memref.whole cc0_scratch5) (k0_pay37 (woVal c f4) (k0_pay36 v150 v192 v234 v276 v318 v360 v402 v444 v457 cst_368 (kv (Memref.whole main_arg3) fv 7))) ∗ FR) := by
  rw [k0_part16_eq_skeleton]
  unfold k0_part16_skel
  refine swap ?_
  refine step_come P K (Memref.whole main_arg3) (Memref.whole cc0_scratch3) cc0_scratch10 c fv 7 rfl rfl level_v ?_
  refine swap ?_
  refine swap ?_
  refine step_look P K (Memref.whole main_arg3) (Memref.whole cc0_scratch3) cc0_scratch10 c fv 7 rfl ?_
  refine swap ?_
  refine via (iprop(Any c (Memref.whole cc0_scratch4) ∗ (Base P K c ∗ Fl c cc0_scratch8.sem (woSrc c) f4 (Memref.whole cc0_scratch1) ∗ Here (Memref.whole main_arg2) (Memref.whole cc0_scratch2) cc0_scratch9 c fk 7 ∗ Here (Memref.whole main_arg3) (Memref.whole cc0_scratch3) cc0_scratch10 c fv 7 ∗ Any c (Memref.whole cc0_scratch5) ∗ FR))) ?_ ?_
  · iintro ⟨HB, HK, HV, HO, HT, HA, HF⟩
    isplitl [HT]; · iexact HT
    isplitl [HB]; · iexact HB
    isplitl [HO]; · iexact HO
    isplitl [HK]; · iexact HK
    isplitl [HV]; · iexact HV
    isplitl [HA]; · iexact HA
    iexact HF
  refine step_dead c ?_
  refine step_store c (by decide) ?_
  refine via (iprop(Base P K c ∗ Fl c cc0_scratch8.sem (woSrc c) f4 (Memref.whole cc0_scratch1) ∗ (Has c (Memref.whole cc0_scratch4) (k0_pay36 v150 v192 v234 v276 v318 v360 v402 v444 v457 cst_368 (kv (Memref.whole main_arg3) fv 7)) ∗ Here (Memref.whole main_arg2) (Memref.whole cc0_scratch2) cc0_scratch9 c fk 7 ∗ Here (Memref.whole main_arg3) (Memref.whole cc0_scratch3) cc0_scratch10 c fv 7 ∗ Any c (Memref.whole cc0_scratch5) ∗ FR))) ?_ ?_
  · iintro ⟨HT, HB, HO, H⟩
    isplitl [HB]; · iexact HB
    isplitl [HO]; · iexact HO
    isplitl [HT]; · iexact HT
    iexact H
  refine step_land P K c (by decide) ?_
  refine via (iprop(Has c (Memref.whole cc0_scratch1) (woVal c f4) ∗ (Has c (Memref.whole cc0_scratch4) (k0_pay36 v150 v192 v234 v276 v318 v360 v402 v444 v457 cst_368 (kv (Memref.whole main_arg3) fv 7)) ∗ Zero c cc0_scratch8.sem ∗ At c (woSrc c) f4 ∗ Base P K c ∗ Here (Memref.whole main_arg2) (Memref.whole cc0_scratch2) cc0_scratch9 c fk 7 ∗ Here (Memref.whole main_arg3) (Memref.whole cc0_scratch3) cc0_scratch10 c fv 7 ∗ Any c (Memref.whole cc0_scratch5) ∗ FR))) ?_ ?_
  · iintro ⟨HB, ⟨Hz, Hh, Hs⟩, HT, H⟩
    isplitl [Hh]; · iexact Hh
    isplitl [HT]; · iexact HT
    isplitl [Hz]; · iexact Hz
    isplitl [Hs]; · iexact Hs
    isplitl [HB]; · iexact HB
    iexact H
  refine step_load c (by decide) ?_
  refine via (iprop(Has c (Memref.whole cc0_scratch4) (k0_pay36 v150 v192 v234 v276 v318 v360 v402 v444 v457 cst_368 (kv (Memref.whole main_arg3) fv 7)) ∗ ((Zero c cc0_scratch8.sem ∗ Has c (Memref.whole cc0_scratch1) (woVal c f4) ∗ At c (woSrc c) f4) ∗ Base P K c ∗ Here (Memref.whole main_arg2) (Memref.whole cc0_scratch2) cc0_scratch9 c fk 7 ∗ Here (Memref.whole main_arg3) (Memref.whole cc0_scratch3) cc0_scratch10 c fv 7 ∗ Any c (Memref.whole cc0_scratch5) ∗ FR))) ?_ ?_
  · iintro ⟨Hh, HT, Hz, Hs, H⟩
    isplitl [HT]; · iexact HT
    isplitr [H]
    · isplitl [Hz]; · iexact Hz
      isplitl [Hh]; · iexact Hh
      iexact Hs
    iexact H
  refine step_load c (by decide) ?_
  refine via (iprop(Any c (Memref.whole cc0_scratch5) ∗ (Has c (Memref.whole cc0_scratch4) (k0_pay36 v150 v192 v234 v276 v318 v360 v402 v444 v457 cst_368 (kv (Memref.whole main_arg3) fv 7)) ∗ (Zero c cc0_scratch8.sem ∗ Has c (Memref.whole cc0_scratch1) (woVal c f4) ∗ At c (woSrc c) f4) ∗ Base P K c ∗ Here (Memref.whole main_arg2) (Memref.whole cc0_scratch2) cc0_scratch9 c fk 7 ∗ Here (Memref.whole main_arg3) (Memref.whole cc0_scratch3) cc0_scratch10 c fv 7 ∗ FR))) ?_ ?_
  · iintro ⟨HT, HO, HB, HK, HV, HA, HF⟩
    isplitl [HA]; · iexact HA
    isplitl [HT]; · iexact HT
    isplitl [HO]; · iexact HO
    isplitl [HB]; · iexact HB
    isplitl [HK]; · iexact HK
    isplitl [HV]; · iexact HV
    iexact HF
  refine step_dead c ?_
  refine step_store c (by decide) ?_
  refine step_ret c ?_
  iintro ⟨HA, HT, HO, HB, HK, HV, HF⟩
  isplitl [HB]; · iexact HB
  isplitl [HK]; · iexact HK
  isplitl [HV]; · iexact HV
  isplitl [HO]; · iexact HO
  isplitl [HT]; · iexact HT
  isplitl [HA]; · iexact HA
  iexact HF

end Cert.KernelIdeal.Body

end
-- ==== Proof.Signals.lean ====
/-
# The first signals
-/
module

public import proofs.«01_k».proof.Proof.Bundles

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi k0_cond1 k0_cond2 k0_cond3 k0_cond4 k0_cond5 k0_cond6 k0_cond7 k0_cond8 k0_cond9 k0_cond10 k0_cond11 k0_cond12 k0_cond13 k0_cond14 k0_cond15 k0_cond16

set_option maxRecDepth 20000 in
theorem part1 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ SigSt c 0 ∗ FR) ⊢ wp frame (wpE (defs₀ (F := F)) 𝒱₀ (c : Thread nD τ) none) Set.univ
      (k0_part1 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 )
      fun r => iprop(⌜r = ⟨c, mw c, SemArray.scalar (sig.barrier 0 rfl)⟩⌝ ∗ Ctx P K ∗ SigSt c 8 ∗ FR) := by
  rw [k0_part1_eq_skeleton]
  unfold k0_part1_skel
  refine step_device c ?_
  refine step_signal (F := F) P K c ⟨0, by decide⟩ (by revert c; decide +kernel) _ (fun _ => Fin.ext k0_dev1_eq) ?_
  refine step_signal (F := F) P K c ⟨1, by decide⟩ (by revert c; decide +kernel) _ (fun _ => Fin.ext k0_dev2_eq) ?_
  refine step_signal (F := F) P K c ⟨2, by decide⟩ (by revert c; decide +kernel) _ (fun _ => Fin.ext k0_dev3_eq) ?_
  refine step_signal (F := F) P K c ⟨3, by decide⟩ (by revert c; decide +kernel) _ (fun _ => Fin.ext k0_dev4_eq) ?_
  refine step_signal (F := F) P K c ⟨4, by decide⟩ (by revert c; decide +kernel) _ (fun _ => Fin.ext k0_dev5_eq) ?_
  refine step_signal (F := F) P K c ⟨5, by decide⟩ (by revert c; decide +kernel) _ (fun _ => Fin.ext k0_dev6_eq) ?_
  refine step_signal (F := F) P K c ⟨6, by decide⟩ (by revert c; decide +kernel) _ (fun _ => Fin.ext k0_dev7_eq) ?_
  refine step_signal (F := F) P K c ⟨7, by decide⟩ (by revert c; decide +kernel) _ (fun _ => Fin.ext k0_dev8_eq) ?_
  refine step_ret c ?_
  iintro H
  isplitr; · ipureintro; rfl
  iexact H

end Cert.KernelIdeal.Body

end
-- ==== Proof.ExchangeA.lean ====
/-
# The reduce-scatter's copies and waits, part by part
-/
module

public import proofs.«01_k».proof.Proof.Bundles

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi k0_cond17 k0_cond18 k0_cond19 k0_cond20 k0_cond21 k0_cond22 k0_cond23 k0_cond24 k0_cond25 k0_cond26 k0_cond27 k0_cond28 k0_cond29 k0_cond30 k0_cond31 k0_cond32

set_option maxRecDepth 20000 in
theorem part17 (c : Dev nD) (x0 : Memref sig .tc .vmem S1x256x1024 .f32) (h0 : x0.IsWhole) (x5 : Memref sig .tc .vmem S1x256x1024 .f32) (h5 : x5.IsWhole) (FR : sProp 𝕄) :
    iprop((Ctx P K ∗ owesE c (OA c 0 + OR c 0) ∗ cred (tallyAt (barCell c) () 15) ∗ atPos ER (barCell c) 0 ∅ 0) ∗ Ctx P K ∗ RsTok c ∗ (oth c fun j => cPts c j fullShare (P c)) ∗ FR) ⊢ wp frame (wpE (defs₀ (F := F)) 𝒱₀ (c : Thread nD τ) none) Set.univ
      (k0_part17 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (SemArray.scalar (sig.barrier 0 rfl)))
      fun r => iprop(⌜r = 7#32⌝ ∗ Ctx P K ∗ RsSt P c 7 ∗ atPos ER (barCell c) 1 ∅ 0 ∗ FR) := by
  rw [k0_part17_eq_skeleton]
  unfold k0_part17_skel
  refine step_op c (barrier P K c) fun _ => ?_
  refine via (iprop(Ctx P K ∗ RsSt P c 0 ∗ atPos ER (barCell c) 1 ∅ 0 ∗ FR)) ?_ ?_
  · iintro ⟨⟨HO, Hat, Hr⟩, #HC, Ht, Hc, HF⟩
    ihave HS := (rs_start P c) $$ [HO Ht Hc Hr]
    · isplitl [HO]; · iexact HO
      isplitl [Ht]; · iexact Ht
      isplitl [Hc]; · iexact Hc
      iexact Hr
    isplitr; · iexact HC
    isplitl [HS]; · iexact HS
    isplitl [Hat]; · iexact Hat
    iexact HF
  refine step_rs P K c ⟨0, by decide⟩ (by revert c; decide +kernel) _ (fun _ => Fin.ext k0_dev17_eq) _ _ (fun _ => rfl) (fun _ => sem_of_off _ _ _ (k0_off3_eq c) _) (fun _ => rfl) (fun _ => rSlot_of_off _ _ (k0_off4_eq c) _) ?_
  refine step_rs P K c ⟨1, by decide⟩ (by revert c; decide +kernel) _ (fun _ => Fin.ext k0_dev18_eq) _ _ (fun _ => rfl) (fun _ => sem_of_off _ _ _ (k0_off5_eq c) _) (fun _ => rfl) (fun _ => rSlot_of_off _ _ (k0_off6_eq c) _) ?_
  refine step_rs P K c ⟨2, by decide⟩ (by revert c; decide +kernel) _ (fun _ => Fin.ext k0_dev19_eq) _ _ (fun _ => rfl) (fun _ => sem_of_off _ _ _ (k0_off7_eq c) _) (fun _ => rfl) (fun _ => rSlot_of_off _ _ (k0_off8_eq c) _) ?_
  refine step_rs P K c ⟨3, by decide⟩ (by revert c; decide +kernel) _ (fun _ => Fin.ext k0_dev20_eq) _ _ (fun _ => rfl) (fun _ => sem_of_off _ _ _ (k0_off9_eq c) _) (fun _ => rfl) (fun _ => rSlot_of_off _ _ (k0_off10_eq c) _) ?_
  refine step_rs P K c ⟨4, by decide⟩ (by revert c; decide +kernel) _ (fun _ => Fin.ext k0_dev21_eq) _ _ (fun _ => rfl) (fun _ => sem_of_off _ _ _ (k0_off11_eq c) _) (fun _ => rfl) (fun _ => rSlot_of_off _ _ (k0_off12_eq c) _) ?_
  refine step_rs P K c ⟨5, by decide⟩ (by revert c; decide +kernel) _ (fun _ => Fin.ext k0_dev22_eq) _ _ (fun _ => rfl) (fun _ => sem_of_off _ _ _ (k0_off13_eq c) _) (fun _ => rfl) (fun _ => rSlot_of_off _ _ (k0_off14_eq c) _) ?_
  refine step_rs P K c ⟨6, by decide⟩ (by revert c; decide +kernel) _ (fun _ => Fin.ext k0_dev23_eq) _ _ (fun _ => rfl) (fun _ => sem_of_off _ _ _ (k0_off15_eq c) _) (fun _ => rfl) (fun _ => rSlot_of_off _ _ (k0_off16_eq c) _) ?_
  refine step_ret c ?_
  iintro H
  isplitr; · ipureintro; rfl
  iexact H

set_option maxRecDepth 20000 in
theorem part18 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ RsSt P c 7 ∗ FR) ⊢ wp frame (wpE (defs₀ (F := F)) 𝒱₀ (c : Thread nD τ) none) Set.univ
      (k0_part18 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) 7#32)
      fun r => iprop(⌜r = Scalar.extui (Scalar.cmpi .ne (mw c) 14#32)⌝ ∗ Ctx P K ∗ RsSt P c 14 ∗ FR) := by
  rw [k0_part18_eq_skeleton]
  unfold k0_part18_skel
  refine step_rs P K c ⟨7, by decide⟩ (by revert c; decide +kernel) _ (fun _ => Fin.ext k0_dev24_eq) _ _ (fun _ => rfl) (fun _ => sem_of_off _ _ _ (k0_off17_eq c) _) (fun _ => rfl) (fun _ => rSlot_of_off _ _ (k0_off18_eq c) _) ?_
  refine step_rs P K c ⟨8, by decide⟩ (by revert c; decide +kernel) _ (fun _ => Fin.ext k0_dev25_eq) _ _ (fun _ => rfl) (fun _ => sem_of_off _ _ _ (k0_off19_eq c) _) (fun _ => rfl) (fun _ => rSlot_of_off _ _ (k0_off20_eq c) _) ?_
  refine step_rs P K c ⟨9, by decide⟩ (by revert c; decide +kernel) _ (fun _ => Fin.ext k0_dev26_eq) _ _ (fun _ => rfl) (fun _ => sem_of_off _ _ _ (k0_off21_eq c) _) (fun _ => rfl) (fun _ => rSlot_of_off _ _ (k0_off22_eq c) _) ?_
  refine step_rs P K c ⟨10, by decide⟩ (by revert c; decide +kernel) _ (fun _ => Fin.ext k0_dev27_eq) _ _ (fun _ => rfl) (fun _ => sem_of_off _ _ _ (k0_off23_eq c) _) (fun _ => rfl) (fun _ => rSlot_of_off _ _ (k0_off24_eq c) _) ?_
  refine step_rs P K c ⟨11, by decide⟩ (by revert c; decide +kernel) _ (fun _ => Fin.ext k0_dev28_eq) _ _ (fun _ => rfl) (fun _ => sem_of_off _ _ _ (k0_off25_eq c) _) (fun _ => rfl) (fun _ => rSlot_of_off _ _ (k0_off26_eq c) _) ?_
  refine step_rs P K c ⟨12, by decide⟩ (by revert c; decide +kernel) _ (fun _ => Fin.ext k0_dev29_eq) _ _ (fun _ => rfl) (fun _ => sem_of_off _ _ _ (k0_off27_eq c) _) (fun _ => rfl) (fun _ => rSlot_of_off _ _ (k0_off28_eq c) _) ?_
  refine step_rs P K c ⟨13, by decide⟩ (by revert c; decide +kernel) _ (fun _ => Fin.ext k0_dev30_eq) _ _ (fun _ => rfl) (fun _ => sem_of_off _ _ _ (k0_off29_eq c) _) (fun _ => rfl) (fun _ => rSlot_of_off _ _ (k0_off30_eq c) _) ?_
  refine step_ret c ?_
  iintro H
  isplitr; · ipureintro; rfl
  iexact H

set_option maxRecDepth 20000 in
theorem part19 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ RsSt P c 14 ∗ Wcr 1 c ∗ Wat 1 c ∗ cPts c c fullShare (P c) ∗ (∃ f, rPts c c f) ∗ FR) ⊢ wp frame (wpE (defs₀ (F := F)) 𝒱₀ (c : Thread nD τ) none) Set.univ
      (k0_part19 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (Scalar.extui (Scalar.cmpi .ne (mw c) 14#32)))
      fun r => iprop(⌜r = ⟨Scalar.extui (Scalar.cmpi .ne (mw c) 3#32), 0#32⟩⌝ ∗ Ctx P K ∗ WtSt P 1 c 3 ∗ Wcr 0 c ∗ cPts c c fullShare (P c) ∗ rPts c c (rsAll P c) ∗ FR) := by
  rw [k0_part19_eq_skeleton]
  unfold k0_part19_skel
  refine step_rs P K c ⟨14, by decide⟩ (by revert c; decide +kernel) _ (fun _ => Fin.ext k0_dev31_eq) _ _ (fun _ => rfl) (fun _ => sem_of_off _ _ _ (k0_off31_eq c) _) (fun _ => rfl) (fun _ => rSlot_of_off _ _ (k0_off32_eq c) _) ?_
  refine step_rs P K c ⟨15, by decide⟩ (by revert c; decide +kernel) _ (fun _ => Fin.ext k0_dev32_eq) _ _ (fun _ => rfl) (fun _ => sem_of_off _ _ _ (k0_off33_eq c) _) (fun _ => rfl) (fun _ => rSlot_of_off _ _ (k0_off34_eq c) _) ?_
  refine via (iprop(∃ f, cPts c c fullShare (P c) ∗ rPts c c f ∗ Ctx P K ∗ owesE c (OA c 0) ∗ Wcr 0 c ∗ Wcr 1 c ∗ Wat 1 c ∗ FR)) ?_ ?_
  · iintro ⟨#HC, HS, H1, H2, Hc, ⟨%f, Hr⟩, HF⟩
    ihave HS := (rs_end P c) $$ HS
    icases HS with ⟨HO, H0⟩
    iexists f
    isplitl [Hc]; · iexact Hc
    isplitl [Hr]; · iexact Hr
    isplitr; · iexact HC
    isplitl [HO]; · iexact HO
    isplitl [H0]; · iexact H0
    isplitl [H1]; · iexact H1
    isplitl [H2]; · iexact H2
    iexact HF
  refine exists_elim fun f => ?_
  refine step_load_c c (k0_off35_eq c) ?_
  refine via (iprop(rPts c c f ∗ cPts c c fullShare (P c) ∗ Ctx P K ∗ owesE c (OA c 0) ∗ Wcr 0 c ∗ Wcr 1 c ∗ Wat 1 c ∗ FR)) ?_ ?_
  · iintro ⟨Hc, Hr, H⟩
    isplitl [Hr]; · iexact Hr
    isplitl [Hc]; · iexact Hc
    iexact H
  refine step_load_r c (k0_off35_eq c) ?_
  refine step_store_r c (k0_off35_eq c) (rsAll P c) (store_own P c) ?_
  refine via (iprop(Ctx P K ∗ WtSt P 1 c 0 ∗ Wcr 0 c ∗ cPts c c fullShare (P c) ∗ rPts c c (rsAll P c) ∗ FR)) ?_ ?_
  · iintro ⟨Hr, Hc, #HC, HO, H0, H1, H2, HF⟩
    ihave HS := (wt_start P 1 c) $$ [HO H1 H2]
    · isplitl [HO]; · iexact HO
      isplitl [H1]; · iexact H1
      iexact H2
    isplitr; · iexact HC
    isplitl [HS]; · iexact HS
    isplitl [H0]; · iexact H0
    isplitl [Hc]; · iexact Hc
    isplitl [Hr]; · iexact Hr
    iexact HF
  refine step_wait P K 1 c ⟨0, by decide⟩ (by revert c; decide +kernel) _ (fun _ => rfl) (fun _ => credit_r_of_off _ _) ?_
  refine step_wait P K 1 c ⟨1, by decide⟩ (by revert c; decide +kernel) _ (fun _ => rfl) (fun _ => credit_r_of_off _ _) ?_
  refine step_wait P K 1 c ⟨2, by decide⟩ (by revert c; decide +kernel) _ (fun _ => rfl) (fun _ => credit_r_of_off _ _) ?_
  refine step_ret c ?_
  iintro H
  isplitr; · ipureintro; rfl
  iexact H

set_option maxRecDepth 20000 in
theorem part20 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 1 c 3 ∗ FR) ⊢ wp frame (wpE (defs₀ (F := F)) 𝒱₀ (c : Thread nD τ) none) Set.univ
      (k0_part20 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 (mw c) (Scalar.extui (Scalar.cmpi .ne (mw c) 3#32)) 0#32)
      fun r => iprop(⌜r = ⟨Scalar.extui (Scalar.cmpi .ne (mw c) 9#32), 0#32⟩⌝ ∗ Ctx P K ∗ WtSt P 1 c 9 ∗ FR) := by
  rw [k0_part20_eq_skeleton]
  unfold k0_part20_skel
  refine step_wait P K 1 c ⟨3, by decide⟩ (by revert c; decide +kernel) _ (fun _ => rfl) (fun _ => credit_r_of_off _ _) ?_
  refine step_wait P K 1 c ⟨4, by decide⟩ (by revert c; decide +kernel) _ (fun _ => rfl) (fun _ => credit_r_of_off _ _) ?_
  refine step_wait P K 1 c ⟨5, by decide⟩ (by revert c; decide +kernel) _ (fun _ => rfl) (fun _ => credit_r_of_off _ _) ?_
  refine step_wait P K 1 c ⟨6, by decide⟩ (by revert c; decide +kernel) _ (fun _ => rfl) (fun _ => credit_r_of_off _ _) ?_
  refine step_wait P K 1 c ⟨7, by decide⟩ (by revert c; decide +kernel) _ (fun _ => rfl) (fun _ => credit_r_of_off _ _) ?_
  refine step_wait P K 1 c ⟨8, by decide⟩ (by revert c; decide +kernel) _ (fun _ => rfl) (fun _ => credit_r_of_off _ _) ?_
  refine step_ret c ?_
  iintro H
  isplitr; · ipureintro; rfl
  iexact H

set_option maxRecDepth 20000 in
theorem part21 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 1 c 9 ∗ FR) ⊢ wp frame (wpE (defs₀ (F := F)) 𝒱₀ (c : Thread nD τ) none) Set.univ
      (k0_part21 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 (mw c) (Scalar.extui (Scalar.cmpi .ne (mw c) 9#32)) 0#32)
      fun r => iprop(⌜r = ⟨Scalar.extui (Scalar.cmpi .ne (mw c) 15#32), 0#32⟩⌝ ∗ Ctx P K ∗ WtSt P 1 c 15 ∗ FR) := by
  rw [k0_part21_eq_skeleton]
  unfold k0_part21_skel
  refine step_wait P K 1 c ⟨9, by decide⟩ (by revert c; decide +kernel) _ (fun _ => rfl) (fun _ => credit_r_of_off _ _) ?_
  refine step_wait P K 1 c ⟨10, by decide⟩ (by revert c; decide +kernel) _ (fun _ => rfl) (fun _ => credit_r_of_off _ _) ?_
  refine step_wait P K 1 c ⟨11, by decide⟩ (by revert c; decide +kernel) _ (fun _ => rfl) (fun _ => credit_r_of_off _ _) ?_
  refine step_wait P K 1 c ⟨12, by decide⟩ (by revert c; decide +kernel) _ (fun _ => rfl) (fun _ => credit_r_of_off _ _) ?_
  refine step_wait P K 1 c ⟨13, by decide⟩ (by revert c; decide +kernel) _ (fun _ => rfl) (fun _ => credit_r_of_off _ _) ?_
  refine step_wait P K 1 c ⟨14, by decide⟩ (by revert c; decide +kernel) _ (fun _ => rfl) (fun _ => credit_r_of_off _ _) ?_
  refine step_ret c ?_
  iintro H
  isplitr; · ipureintro; rfl
  iexact H

end Cert.KernelIdeal.Body

end
-- ==== Proof.ExchangeB.lean ====
/-
# The reduction and the all-gather's copies, part by part
-/
module

public import proofs.«01_k».proof.Proof.Bundles

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi k0_cond49 k0_cond50 k0_cond51 k0_cond52 k0_cond53 k0_cond54 k0_cond55 k0_cond56 k0_cond57 k0_cond58 k0_cond59 k0_cond60 k0_cond61 k0_cond62 k0_cond63 k0_cond64

set_option maxRecDepth 20000 in
theorem part22 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 1 c 15 ∗ cPts c c fullShare (P c) ∗ rPts c c (rsAll P c) ∗ AgTok c ∗ FR) ⊢ wp frame (wpE (defs₀ (F := F)) 𝒱₀ (c : Thread nD τ) none) Set.univ
      (k0_part22 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (Scalar.extui (Scalar.cmpi .ne (mw c) 15#32)) 0#32)
      fun r => iprop(Ctx P K ∗ AgSt P c 6 ∗ Wend 1 c ∗ RW c (rsAll P c) ∗ cPts c c (shareOf c) (agAll P) ∗ FR) := by
  rw [k0_part22_eq_skeleton]
  unfold k0_part22_skel
  refine step_wait P K 1 c ⟨15, by decide⟩ (by revert c; decide +kernel) _ (fun _ => rfl) (fun _ => credit_r_of_off _ _) ?_
  refine via (iprop(RW c (rsAll P c) ∗ cPts c c fullShare (P c) ∗ Ctx P K ∗ owesE c (OA c 0) ∗ Wend 1 c ∗ (oth c fun j => iprop(∃ f, cPts j c fullShare f)) ∗ AgTok c ∗ FR)) ?_ ?_
  · iintro ⟨#HC, HS, Hc, Hr, Ht, HF⟩
    ihave HS := (wt_end P 1 c) $$ HS
    icases HS with ⟨HO, He, Hp⟩
    ihave Hg := (rs_got P c) $$ [Hr Hp]
    · isplitl [Hr]; · iexact Hr
      iexact Hp
    icases Hg with ⟨Hr, Hx⟩
    isplitl [Hr]; · iexact Hr
    isplitl [Hc]; · iexact Hc
    isplitr; · iexact HC
    isplitl [HO]; · iexact HO
    isplitl [He]; · iexact He
    isplitl [Hx]; · iexact Hx
    isplitl [Ht]; · iexact Ht
    iexact HF
  refine step_load_rw c ?_
  refine via (iprop(cPts c c fullShare (P c) ∗ RW c (rsAll P c) ∗ Ctx P K ∗ owesE c (OA c 0) ∗ Wend 1 c ∗ (oth c fun j => iprop(∃ f, cPts j c fullShare f)) ∗ AgTok c ∗ FR)) ?_ ?_
  · iintro ⟨Hr, Hc, H⟩
    isplitl [Hc]; · iexact Hc
    isplitl [Hr]; · iexact Hr
    iexact H
  refine step_load_c c (k0_off35_eq c) ?_
  refine step_store_c c (k0_off35_eq c) (agAll P) (store_red P c) ?_
  rw [c_share]
  refine via (iprop(Ctx P K ∗ AgSt P c 0 ∗ Wend 1 c ∗ RW c (rsAll P c) ∗ cPts c c (shareOf c) (agAll P) ∗ FR)) ?_ ?_
  · iintro ⟨⟨Hc, Hs⟩, Hr, #HC, HO, He, Hx, Ht, HF⟩
    ihave HS := (ag_start P c) $$ [HO Ht Hs Hx]
    · isplitl [HO]; · iexact HO
      isplitl [Ht]; · iexact Ht
      isplitl [Hs]; · iexact Hs
      iexact Hx
    isplitr; · iexact HC
    isplitl [HS]; · iexact HS
    isplitl [He]; · iexact He
    isplitl [Hr]; · iexact Hr
    isplitl [Hc]; · iexact Hc
    iexact HF
  refine step_ag P K c ⟨0, by decide⟩ (by revert c; decide +kernel) _ (fun _ => Fin.ext k0_dev33_eq) _ _ (fun _ => rfl) (fun _ => sem_of_off _ _ _ (k0_off36_eq c) _) (fun _ => cSlot_of_off _ _ (k0_off37_eq c) _) (fun _ => cSlot_of_off _ _ (k0_off37_eq c) _) ?_
  refine step_ag P K c ⟨1, by decide⟩ (by revert c; decide +kernel) _ (fun _ => Fin.ext k0_dev34_eq) _ _ (fun _ => rfl) (fun _ => sem_of_off _ _ _ (k0_off38_eq c) _) (fun _ => cSlot_of_off _ _ (k0_off39_eq c) _) (fun _ => cSlot_of_off _ _ (k0_off39_eq c) _) ?_
  refine step_ag P K c ⟨2, by decide⟩ (by revert c; decide +kernel) _ (fun _ => Fin.ext k0_dev35_eq) _ _ (fun _ => rfl) (fun _ => sem_of_off _ _ _ (k0_off40_eq c) _) (fun _ => cSlot_of_off _ _ (k0_off41_eq c) _) (fun _ => cSlot_of_off _ _ (k0_off41_eq c) _) ?_
  refine step_ag P K c ⟨3, by decide⟩ (by revert c; decide +kernel) _ (fun _ => Fin.ext k0_dev36_eq) _ _ (fun _ => rfl) (fun _ => sem_of_off _ _ _ (k0_off42_eq c) _) (fun _ => cSlot_of_off _ _ (k0_off43_eq c) _) (fun _ => cSlot_of_off _ _ (k0_off43_eq c) _) ?_
  refine step_ag P K c ⟨4, by decide⟩ (by revert c; decide +kernel) _ (fun _ => Fin.ext k0_dev37_eq) _ _ (fun _ => rfl) (fun _ => sem_of_off _ _ _ (k0_off44_eq c) _) (fun _ => cSlot_of_off _ _ (k0_off45_eq c) _) (fun _ => cSlot_of_off _ _ (k0_off45_eq c) _) ?_
  refine step_ag P K c ⟨5, by decide⟩ (by revert c; decide +kernel) _ (fun _ => Fin.ext k0_dev38_eq) _ _ (fun _ => rfl) (fun _ => sem_of_off _ _ _ (k0_off46_eq c) _) (fun _ => cSlot_of_off _ _ (k0_off47_eq c) _) (fun _ => cSlot_of_off _ _ (k0_off47_eq c) _) ?_
  refine step_ret c ?_
  exact .rfl

set_option maxRecDepth 20000 in
theorem part23 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ AgSt P c 6 ∗ FR) ⊢ wp frame (wpE (defs₀ (F := F)) 𝒱₀ (c : Thread nD τ) none) Set.univ
      (k0_part23 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c))
      fun r => iprop(⌜r = Scalar.extui (Scalar.cmpi .ne (mw c) 14#32)⌝ ∗ Ctx P K ∗ AgSt P c 14 ∗ FR) := by
  rw [k0_part23_eq_skeleton]
  unfold k0_part23_skel
  refine step_ag P K c ⟨6, by decide⟩ (by revert c; decide +kernel) _ (fun _ => Fin.ext k0_dev39_eq) _ _ (fun _ => rfl) (fun _ => sem_of_off _ _ _ (k0_off48_eq c) _) (fun _ => cSlot_of_off _ _ (k0_off49_eq c) _) (fun _ => cSlot_of_off _ _ (k0_off49_eq c) _) ?_
  refine step_ag P K c ⟨7, by decide⟩ (by revert c; decide +kernel) _ (fun _ => Fin.ext k0_dev40_eq) _ _ (fun _ => rfl) (fun _ => sem_of_off _ _ _ (k0_off50_eq c) _) (fun _ => cSlot_of_off _ _ (k0_off51_eq c) _) (fun _ => cSlot_of_off _ _ (k0_off51_eq c) _) ?_
  refine step_ag P K c ⟨8, by decide⟩ (by revert c; decide +kernel) _ (fun _ => Fin.ext k0_dev41_eq) _ _ (fun _ => rfl) (fun _ => sem_of_off _ _ _ (k0_off52_eq c) _) (fun _ => cSlot_of_off _ _ (k0_off53_eq c) _) (fun _ => cSlot_of_off _ _ (k0_off53_eq c) _) ?_
  refine step_ag P K c ⟨9, by decide⟩ (by revert c; decide +kernel) _ (fun _ => Fin.ext k0_dev42_eq) _ _ (fun _ => rfl) (fun _ => sem_of_off _ _ _ (k0_off54_eq c) _) (fun _ => cSlot_of_off _ _ (k0_off55_eq c) _) (fun _ => cSlot_of_off _ _ (k0_off55_eq c) _) ?_
  refine step_ag P K c ⟨10, by decide⟩ (by revert c; decide +kernel) _ (fun _ => Fin.ext k0_dev43_eq) _ _ (fun _ => rfl) (fun _ => sem_of_off _ _ _ (k0_off56_eq c) _) (fun _ => cSlot_of_off _ _ (k0_off57_eq c) _) (fun _ => cSlot_of_off _ _ (k0_off57_eq c) _) ?_
  refine step_ag P K c ⟨11, by decide⟩ (by revert c; decide +kernel) _ (fun _ => Fin.ext k0_dev44_eq) _ _ (fun _ => rfl) (fun _ => sem_of_off _ _ _ (k0_off58_eq c) _) (fun _ => cSlot_of_off _ _ (k0_off59_eq c) _) (fun _ => cSlot_of_off _ _ (k0_off59_eq c) _) ?_
  refine step_ag P K c ⟨12, by decide⟩ (by revert c; decide +kernel) _ (fun _ => Fin.ext k0_dev45_eq) _ _ (fun _ => rfl) (fun _ => sem_of_off _ _ _ (k0_off60_eq c) _) (fun _ => cSlot_of_off _ _ (k0_off61_eq c) _) (fun _ => cSlot_of_off _ _ (k0_off61_eq c) _) ?_
  refine step_ag P K c ⟨13, by decide⟩ (by revert c; decide +kernel) _ (fun _ => Fin.ext k0_dev46_eq) _ _ (fun _ => rfl) (fun _ => sem_of_off _ _ _ (k0_off62_eq c) _) (fun _ => cSlot_of_off _ _ (k0_off63_eq c) _) (fun _ => cSlot_of_off _ _ (k0_off63_eq c) _) ?_
  refine step_ret c ?_
  iintro H
  isplitr; · ipureintro; rfl
  iexact H

set_option maxRecDepth 20000 in
theorem part24 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ AgSt P c 14 ∗ Wcr 3 c ∗ Wat 3 c ∗ FR) ⊢ wp frame (wpE (defs₀ (F := F)) 𝒱₀ (c : Thread nD τ) none) Set.univ
      (k0_part24 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (Scalar.extui (Scalar.cmpi .ne (mw c) 14#32)))
      fun r => iprop(Ctx P K ∗ WtSt P 3 c 5 ∗ Wcr 2 c ∗ FR) := by
  rw [k0_part24_eq_skeleton]
  unfold k0_part24_skel
  refine step_ag P K c ⟨14, by decide⟩ (by revert c; decide +kernel) _ (fun _ => Fin.ext k0_dev47_eq) _ _ (fun _ => rfl) (fun _ => sem_of_off _ _ _ (k0_off64_eq c) _) (fun _ => cSlot_of_off _ _ (k0_off65_eq c) _) (fun _ => cSlot_of_off _ _ (k0_off65_eq c) _) ?_
  refine step_ag P K c ⟨15, by decide⟩ (by revert c; decide +kernel) _ (fun _ => Fin.ext k0_dev48_eq) _ _ (fun _ => rfl) (fun _ => sem_of_off _ _ _ (k0_off66_eq c) _) (fun _ => cSlot_of_off _ _ (k0_off67_eq c) _) (fun _ => cSlot_of_off _ _ (k0_off67_eq c) _) ?_
  refine via (iprop(Ctx P K ∗ WtSt P 3 c 0 ∗ Wcr 2 c ∗ FR)) ?_ ?_
  · iintro ⟨#HC, HS, H1, H2, HF⟩
    ihave HS := (ag_end P c) $$ HS
    icases HS with ⟨HO, H0⟩
    ihave HT := (wt_start P 3 c) $$ [HO H1 H2]
    · isplitl [HO]; · iexact HO
      isplitl [H1]; · iexact H1
      iexact H2
    isplitr; · iexact HC
    isplitl [HT]; · iexact HT
    isplitl [H0]; · iexact H0
    iexact HF
  refine step_wait P K 3 c ⟨0, by decide⟩ (by revert c; decide +kernel) _ (fun _ => rfl) (fun _ => credit_c_of_off _ _) ?_
  refine step_wait P K 3 c ⟨1, by decide⟩ (by revert c; decide +kernel) _ (fun _ => rfl) (fun _ => credit_c_of_off _ _) ?_
  refine step_wait P K 3 c ⟨2, by decide⟩ (by revert c; decide +kernel) _ (fun _ => rfl) (fun _ => credit_c_of_off _ _) ?_
  refine step_wait P K 3 c ⟨3, by decide⟩ (by revert c; decide +kernel) _ (fun _ => rfl) (fun _ => credit_c_of_off _ _) ?_
  refine step_wait P K 3 c ⟨4, by decide⟩ (by revert c; decide +kernel) _ (fun _ => rfl) (fun _ => credit_c_of_off _ _) ?_
  refine step_ret c ?_
  exact .rfl

end Cert.KernelIdeal.Body

end
-- ==== Proof.ExchangeC.lean ====
/-
# The all-gather's waits and the senders' waits, part by part
-/
module

public import proofs.«01_k».proof.Proof.Bundles

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi k0_cond81 k0_cond82 k0_cond83 k0_cond84 k0_cond85 k0_cond86 k0_cond87 k0_cond88 k0_cond89 k0_cond90 k0_cond91 k0_cond92 k0_cond93 k0_cond94 k0_cond95 k0_cond96 k0_cond97 k0_cond98 k0_cond99 k0_cond100 k0_cond101 k0_cond102 k0_cond103 k0_cond104 k0_cond105 k0_cond106 k0_cond107 k0_cond108 k0_cond109 k0_cond110 k0_cond111 k0_cond112

set_option maxRecDepth 20000 in
theorem part25 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 3 c 5 ∗ FR) ⊢ wp frame (wpE (defs₀ (F := F)) 𝒱₀ (c : Thread nD τ) none) Set.univ
      (k0_part25 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 (mw c))
      fun r => iprop(Ctx P K ∗ WtSt P 3 c 11 ∗ FR) := by
  rw [k0_part25_eq_skeleton]
  unfold k0_part25_skel
  refine step_wait P K 3 c ⟨5, by decide⟩ (by revert c; decide +kernel) _ (fun _ => rfl) (fun _ => credit_c_of_off _ _) ?_
  refine step_wait P K 3 c ⟨6, by decide⟩ (by revert c; decide +kernel) _ (fun _ => rfl) (fun _ => credit_c_of_off _ _) ?_
  refine step_wait P K 3 c ⟨7, by decide⟩ (by revert c; decide +kernel) _ (fun _ => rfl) (fun _ => credit_c_of_off _ _) ?_
  refine step_wait P K 3 c ⟨8, by decide⟩ (by revert c; decide +kernel) _ (fun _ => rfl) (fun _ => credit_c_of_off _ _) ?_
  refine step_wait P K 3 c ⟨9, by decide⟩ (by revert c; decide +kernel) _ (fun _ => rfl) (fun _ => credit_c_of_off _ _) ?_
  refine step_wait P K 3 c ⟨10, by decide⟩ (by revert c; decide +kernel) _ (fun _ => rfl) (fun _ => credit_c_of_off _ _) ?_
  refine step_ret c ?_
  exact .rfl

set_option maxRecDepth 20000 in
theorem part26 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 3 c 11 ∗ Wcr 0 c ∗ Wat 0 c ∗ FR) ⊢ wp frame (wpE (defs₀ (F := F)) 𝒱₀ (c : Thread nD τ) none) Set.univ
      (k0_part26 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c))
      fun r => iprop(⌜r = Scalar.cmpi .ne (mw c) 1#32⌝ ∗ Ctx P K ∗ WtSt P 0 c 1 ∗ Wend 3 c ∗ (oth c fun j => pay P c j (3 : Fin 4).val) ∗ FR) := by
  rw [k0_part26_eq_skeleton]
  unfold k0_part26_skel
  refine step_wait P K 3 c ⟨11, by decide⟩ (by revert c; decide +kernel) _ (fun _ => rfl) (fun _ => credit_c_of_off _ _) ?_
  refine step_wait P K 3 c ⟨12, by decide⟩ (by revert c; decide +kernel) _ (fun _ => rfl) (fun _ => credit_c_of_off _ _) ?_
  refine step_wait P K 3 c ⟨13, by decide⟩ (by revert c; decide +kernel) _ (fun _ => rfl) (fun _ => credit_c_of_off _ _) ?_
  refine step_wait P K 3 c ⟨14, by decide⟩ (by revert c; decide +kernel) _ (fun _ => rfl) (fun _ => credit_c_of_off _ _) ?_
  refine step_wait P K 3 c ⟨15, by decide⟩ (by revert c; decide +kernel) _ (fun _ => rfl) (fun _ => credit_c_of_off _ _) ?_
  refine via (iprop(Ctx P K ∗ WtSt P 0 c 0 ∗ Wend 3 c ∗ (oth c fun j => pay P c j (3 : Fin 4).val) ∗ FR)) ?_ ?_
  · iintro ⟨#HC, HS, H1, H2, HF⟩
    ihave HS := (wt_end P 3 c) $$ HS
    icases HS with ⟨HO, He, Hp⟩
    ihave HT := (wt_start P 0 c) $$ [HO H1 H2]
    · isplitl [HO]; · iexact HO
      isplitl [H1]; · iexact H1
      iexact H2
    isplitr; · iexact HC
    isplitl [HT]; · iexact HT
    isplitl [He]; · iexact He
    isplitl [Hp]; · iexact Hp
    iexact HF
  refine step_wait P K 0 c ⟨0, by decide⟩ (by revert c; decide +kernel) _ (fun _ => rfl) (fun _ => credit_c_of_off _ _) ?_
  refine step_ret c ?_
  iintro H
  isplitr; · ipureintro; rfl
  iexact H

set_option maxRecDepth 20000 in
theorem part27 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 0 c 1 ∗ FR) ⊢ wp frame (wpE (defs₀ (F := F)) 𝒱₀ (c : Thread nD τ) none) Set.univ
      (k0_part27 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (Scalar.cmpi .ne (mw c) 1#32))
      fun r => iprop(⌜r = ⟨Scalar.extui (Scalar.cmpi .ne (mw c) 8#32), 0#32⟩⌝ ∗ Ctx P K ∗ WtSt P 0 c 8 ∗ FR) := by
  rw [k0_part27_eq_skeleton]
  unfold k0_part27_skel
  refine step_wait P K 0 c ⟨1, by decide⟩ (by revert c; decide +kernel) _ (fun _ => rfl) (fun _ => credit_c_of_off _ _) ?_
  refine step_wait P K 0 c ⟨2, by decide⟩ (by revert c; decide +kernel) _ (fun _ => rfl) (fun _ => credit_c_of_off _ _) ?_
  refine step_wait P K 0 c ⟨3, by decide⟩ (by revert c; decide +kernel) _ (fun _ => rfl) (fun _ => credit_c_of_off _ _) ?_
  refine step_wait P K 0 c ⟨4, by decide⟩ (by revert c; decide +kernel) _ (fun _ => rfl) (fun _ => credit_c_of_off _ _) ?_
  refine step_wait P K 0 c ⟨5, by decide⟩ (by revert c; decide +kernel) _ (fun _ => rfl) (fun _ => credit_c_of_off _ _) ?_
  refine step_wait P K 0 c ⟨6, by decide⟩ (by revert c; decide +kernel) _ (fun _ => rfl) (fun _ => credit_c_of_off _ _) ?_
  refine step_wait P K 0 c ⟨7, by decide⟩ (by revert c; decide +kernel) _ (fun _ => rfl) (fun _ => credit_c_of_off _ _) ?_
  refine step_ret c ?_
  iintro H
  isplitr; · ipureintro; rfl
  iexact H

set_option maxRecDepth 20000 in
theorem part28 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 0 c 8 ∗ FR) ⊢ wp frame (wpE (defs₀ (F := F)) 𝒱₀ (c : Thread nD τ) none) Set.univ
      (k0_part28 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (Scalar.extui (Scalar.cmpi .ne (mw c) 8#32)) 0#32)
      fun r => iprop(⌜r = Scalar.cmpi .ne (mw c) 0#32⌝ ∗ Ctx P K ∗ WtSt P 0 c 16 ∗ FR) := by
  rw [k0_part28_eq_skeleton]
  unfold k0_part28_skel
  refine step_wait P K 0 c ⟨8, by decide⟩ (by revert c; decide +kernel) _ (fun _ => rfl) (fun _ => credit_c_of_off _ _) ?_
  refine step_wait P K 0 c ⟨9, by decide⟩ (by revert c; decide +kernel) _ (fun _ => rfl) (fun _ => credit_c_of_off _ _) ?_
  refine step_wait P K 0 c ⟨10, by decide⟩ (by revert c; decide +kernel) _ (fun _ => rfl) (fun _ => credit_c_of_off _ _) ?_
  refine step_wait P K 0 c ⟨11, by decide⟩ (by revert c; decide +kernel) _ (fun _ => rfl) (fun _ => credit_c_of_off _ _) ?_
  refine step_wait P K 0 c ⟨12, by decide⟩ (by revert c; decide +kernel) _ (fun _ => rfl) (fun _ => credit_c_of_off _ _) ?_
  refine step_wait P K 0 c ⟨13, by decide⟩ (by revert c; decide +kernel) _ (fun _ => rfl) (fun _ => credit_c_of_off _ _) ?_
  refine step_wait P K 0 c ⟨14, by decide⟩ (by revert c; decide +kernel) _ (fun _ => rfl) (fun _ => credit_c_of_off _ _) ?_
  refine step_wait P K 0 c ⟨15, by decide⟩ (by revert c; decide +kernel) _ (fun _ => rfl) (fun _ => credit_c_of_off _ _) ?_
  refine step_ret c ?_
  iintro H
  isplitr; · ipureintro; rfl
  iexact H

set_option maxRecDepth 20000 in
theorem part29 (c : Dev nD) (x0 : Memref sig .tc .vmem S1x256x1024 .f32) (h0 : x0.IsWhole) (x5 : Memref sig .tc .vmem S1x256x1024 .f32) (h5 : x5.IsWhole) (FR : sProp 𝕄) :
    iprop(Ctx P K ∗ WtSt P 0 c 16 ∗ Wcr 2 c ∗ Wat 2 c ∗ FR) ⊢ wp frame (wpE (defs₀ (F := F)) 𝒱₀ (c : Thread nD τ) none) Set.univ
      (k0_part29 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c) (Scalar.cmpi .ne (mw c) 0#32))
      fun r => iprop(Ctx P K ∗ WtSt P 2 c 8 ∗ Wend 0 c ∗ FR) := by
  rw [k0_part29_eq_skeleton]
  unfold k0_part29_skel
  refine via (iprop(Ctx P K ∗ WtSt P 2 c 0 ∗ Wend 0 c ∗ FR)) ?_ ?_
  · iintro ⟨#HC, HS, H1, H2, HF⟩
    ihave HS := (wt_end P 0 c) $$ HS
    icases HS with ⟨HO, He, -⟩
    ihave HT := (wt_start P 2 c) $$ [HO H1 H2]
    · isplitl [HO]; · iexact HO
      isplitl [H1]; · iexact H1
      iexact H2
    isplitr; · iexact HC
    isplitl [HT]; · iexact HT
    isplitl [He]; · iexact He
    iexact HF
  refine step_wait P K 2 c ⟨0, by decide⟩ (by revert c; decide +kernel) _ (fun _ => rfl) (fun _ => credit_c_of_off _ _) ?_
  refine step_wait P K 2 c ⟨1, by decide⟩ (by revert c; decide +kernel) _ (fun _ => rfl) (fun _ => credit_c_of_off _ _) ?_
  refine step_wait P K 2 c ⟨2, by decide⟩ (by revert c; decide +kernel) _ (fun _ => rfl) (fun _ => credit_c_of_off _ _) ?_
  refine step_wait P K 2 c ⟨3, by decide⟩ (by revert c; decide +kernel) _ (fun _ => rfl) (fun _ => credit_c_of_off _ _) ?_
  refine step_wait P K 2 c ⟨4, by decide⟩ (by revert c; decide +kernel) _ (fun _ => rfl) (fun _ => credit_c_of_off _ _) ?_
  refine step_wait P K 2 c ⟨5, by decide⟩ (by revert c; decide +kernel) _ (fun _ => rfl) (fun _ => credit_c_of_off _ _) ?_
  refine step_wait P K 2 c ⟨6, by decide⟩ (by revert c; decide +kernel) _ (fun _ => rfl) (fun _ => credit_c_of_off _ _) ?_
  refine step_wait P K 2 c ⟨7, by decide⟩ (by revert c; decide +kernel) _ (fun _ => rfl) (fun _ => credit_c_of_off _ _) ?_
  refine step_ret c ?_
  exact .rfl

set_option maxRecDepth 20000 in
theorem part30 (c : Dev nD) (x0 : Memref sig .tc .vmem S1x256x1024 .f32) (h0 : x0.IsWhole) (x5 : Memref sig .tc .vmem S1x256x1024 .f32) (h5 : x5.IsWhole) {q : PosShare TreeShare} (f : Buf (Elt F) (x5.view.loc (c : Thread nD τ))) (FR : sProp 𝕄) :
    iprop(Ctx P K ∗ WtSt P 2 c 8 ∗ (oth c fun j => pay P c j (3 : Fin 4).val) ∗ cPts c c (shareOf c) (agAll P) ∗ (x5.view.loc (c : Thread nD τ) ↦[x5.view.set]{q} f) ∗ FR) ⊢ wp frame (wpE (defs₀ (F := F)) 𝒱₀ (c : Thread nD τ) none) Set.univ
      (k0_part30 (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 c (mw c))
      fun r => iprop(⌜r = k0_pay40 (agAll P)⌝ ∗ Ctx P K ∗ owesE c (0 : CellTallies nD τ sig Unit) ∗ Wend 2 c ∗ CW c (agAll P) ∗ (x5.view.loc (c : Thread nD τ) ↦[x5.view.set]{q} f) ∗ FR) := by
  rw [k0_part30_eq_skeleton]
  unfold k0_part30_skel
  refine step_wait P K 2 c ⟨8, by decide⟩ (by clear f; revert c; decide +kernel) _ (fun _ => rfl) (fun _ => credit_c_of_off _ _) ?_
  refine step_wait P K 2 c ⟨9, by decide⟩ (by clear f; revert c; decide +kernel) _ (fun _ => rfl) (fun _ => credit_c_of_off _ _) ?_
  refine step_wait P K 2 c ⟨10, by decide⟩ (by clear f; revert c; decide +kernel) _ (fun _ => rfl) (fun _ => credit_c_of_off _ _) ?_
  refine step_wait P K 2 c ⟨11, by decide⟩ (by clear f; revert c; decide +kernel) _ (fun _ => rfl) (fun _ => credit_c_of_off _ _) ?_
  refine step_wait P K 2 c ⟨12, by decide⟩ (by clear f; revert c; decide +kernel) _ (fun _ => rfl) (fun _ => credit_c_of_off _ _) ?_
  refine step_wait P K 2 c ⟨13, by decide⟩ (by clear f; revert c; decide +kernel) _ (fun _ => rfl) (fun _ => credit_c_of_off _ _) ?_
  refine step_wait P K 2 c ⟨14, by decide⟩ (by clear f; revert c; decide +kernel) _ (fun _ => rfl) (fun _ => credit_c_of_off _ _) ?_
  refine step_wait P K 2 c ⟨15, by decide⟩ (by clear f; revert c; decide +kernel) _ (fun _ => rfl) (fun _ => credit_c_of_off _ _) ?_
  refine via (iprop(CW c (agAll P) ∗ (x5.view.loc (c : Thread nD τ) ↦[x5.view.set]{q} f) ∗ Ctx P K ∗ owesE c (0 : CellTallies nD τ sig Unit) ∗ Wend 2 c ∗ FR)) ?_ ?_
  · iintro ⟨#HC, HS, H3, Hc, Hx, HF⟩
    ihave HS := (wt_end P 2 c) $$ HS
    icases HS with ⟨HO, He, Hp⟩
    ihave HW := (ag_got P c) $$ [Hc Hp H3]
    · isplitl [Hc]; · iexact Hc
      isplitl [Hp]; · iexact Hp
      iexact H3
    isplitl [HW]; · iexact HW
    isplitl [Hx]; · iexact Hx
    isplitr; · iexact HC
    isplitl [HO]; · iexact HO
    isplitl [He]; · iexact He
    iexact HF
  refine step_load_cw c ?_
  refine via (iprop((x5.view.loc (c : Thread nD τ) ↦[x5.view.set]{q} f) ∗ CW c (agAll P) ∗ Ctx P K ∗ owesE c (0 : CellTallies nD τ sig Unit) ∗ Wend 2 c ∗ FR)) ?_ ?_
  · iintro ⟨HW, Hx, H⟩
    isplitl [Hx]; · iexact Hx
    isplitl [HW]; · iexact HW
    iexact H
  refine step_load_dead c ?_
  refine step_ret c ?_
  iintro ⟨Hx, HW, HC, HO, He, HF⟩
  isplitr; · ipureintro; rfl
  isplitl [HC]; · iexact HC
  isplitl [HO]; · iexact HO
  isplitl [He]; · iexact He
  isplitl [HW]; · iexact HW
  isplitl [Hx]; · iexact Hx
  iexact HF

end Cert.KernelIdeal.Body

end
-- ==== Proof.Body.lean ====
/-
# The body of one device, from its parts
-/
module

public import proofs.«01_k».proof.Proof.Compute
public import proofs.«01_k».proof.Proof.Signals
public import proofs.«01_k».proof.Proof.ExchangeA
public import proofs.«01_k».proof.Proof.ExchangeB
public import proofs.«01_k».proof.Proof.ExchangeC

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

attribute [local irreducible] Scalar.cmpi k0_cond1

/-! ## What a device computes -/

/-- The window of positions each row attends to. -/
def maskOf : IVec S256x4096 1 :=
  k0_pay9 (k0_pay6 (iota .tc S256x4096 32 [0] iota_S256x4096_d0_w32) 64#32 k0_pay2 k0_pay3 (Scalar.extui (Scalar.cmpi .sgt 64#32 0#32)) (Scalar.extui (Scalar.cmpi .slt 64#32 0#32)))
    (Scalar.select (Scalar.cmpi .eq 3#32 0#32) 1#32 3#32)
    (k0_pay7 (iota .tc S256x4096 32 [0] iota_S256x4096_d0_w32) 64#32 k0_pay2 k0_pay3 (Scalar.extui (Scalar.cmpi .sgt 64#32 0#32)) (Scalar.extui (Scalar.cmpi .slt 64#32 0#32))) k0_pay8

/-- The eight heads' results side by side, from the queries, the keys and the values. -/
def ctxOf (q : FVec F S256x1024 .f32) (k v : Fin 8 → Vec F S1x4096x128 .f32) : FVec F S256x1024 .bf16 :=
  k0_pay36 maskOf
    (k0_pay12 maskOf (k0_pay10 q (k 0)) (k0_pay11 (F := F)) (v 0))
    (k0_pay16 (k0_pay13 q maskOf (k 1)) (k0_pay14 q maskOf (k 1)) (k0_pay15 (v 1)))
    (k0_pay19 (k0_pay17 q maskOf (k 2)) (k0_pay18 q maskOf (k 2)) (v 2))
    (k0_pay23 (k0_pay20 q maskOf (k 3)) (k0_pay21 q maskOf (k 3)) (k0_pay22 (v 3)))
    (k0_pay26 (k0_pay24 q maskOf (k 4)) (k0_pay25 q maskOf (k 4)) (v 4))
    (k0_pay31 (k0_pay28 q maskOf (k0_pay27 (k 5))) (k0_pay29 q maskOf (k0_pay27 (k 5))) (k0_pay30 (v 5)))
    (k0_pay34 (k0_pay32 q maskOf (k 6)) (k0_pay33 q maskOf (k 6)) (v 6))
    (k0_pay35 q (k 7)) (FloatOps.ofBits .f32 0x00000000#32) (v 7)

/-- A device's contribution to the sum over the devices, in sixteen chunks of rows. -/
def partOf (x : Vec F S1x256x1024 .f32) (wq : Vec F S1024x1024 .f32) (k v : Fin 8 → Vec F S1x4096x128 .f32) (wo : Vec F S1024x1024 .f32) : CB F :=
  k0_pay37 wo (ctxOf (k0_pay1 x wq) k v)

/-! ## Calls -/

/-- A part that gives a known value, then the rest. -/
theorem call (c : Dev nD) {α β : Type} {a : Prog (TpuEff nD τ sig (Elt F) Λ₀ .tc) β} {k : β → Prog (TpuEff nD τ sig (Elt F) Λ₀ .tc) α} {Q : α → sProp 𝕄}
    {A B : sProp 𝕄} {v : β} (hop : A ⊢ wp frame (wpE (defs₀ (F := F)) 𝒱₀ (c : Thread nD τ) none) Set.univ a fun r => iprop(⌜r = v⌝ ∗ B))
    (H : B ⊢ wp frame (wpE (defs₀ (F := F)) 𝒱₀ (c : Thread nD τ) none) Set.univ (k v) Q) :
    A ⊢ wp frame (wpE (defs₀ (F := F)) 𝒱₀ (c : Thread nD τ) none) Set.univ (a >>= k) Q := by
  rw [wp_bind]
  iintro HA
  ihave HW := hop $$ HA
  iapply (wp_wand _ _ _) $$ HW
  iintro %b ⟨%hb, HB⟩
  subst hb
  iapply H $$ HB

/-- A part that gives nothing, then the rest. -/
theorem call0 (c : Dev nD) {α β : Type} {a : Prog (TpuEff nD τ sig (Elt F) Λ₀ .tc) β} {k : β → Prog (TpuEff nD τ sig (Elt F) Λ₀ .tc) α} {Q : α → sProp 𝕄}
    {A B : sProp 𝕄} (hop : A ⊢ wp frame (wpE (defs₀ (F := F)) 𝒱₀ (c : Thread nD τ) none) Set.univ a fun _ => B)
    (H : ∀ r, B ⊢ wp frame (wpE (defs₀ (F := F)) 𝒱₀ (c : Thread nD τ) none) Set.univ (k r) Q) :
    A ⊢ wp frame (wpE (defs₀ (F := F)) 𝒱₀ (c : Thread nD τ) none) Set.univ (a >>= k) Q := by
  rw [wp_bind]
  iintro HA
  ihave HW := hop $$ HA
  iapply (wp_wand _ _ _) $$ HW
  iintro %b HB
  iapply (H b) $$ HB

/-- The contribution, as its chunks. -/
theorem has_chunks (c : Dev nD) (f : CB F) : (Has c (Memref.whole cc0_scratch5) f : sProp 𝕄) ⊢ iprop(cPts c c fullShare f ∗ oth c fun j => cPts c j fullShare f) := by
  refine via (CW c f) ?_ (Entails.of_eq (c_whole c f))
  unfold Has
  iintro ⟨%g, H, %hg⟩
  have e : g = f := hg
  subst e
  iapply (Entails.of_eq (congrArg (fun S => (((c : Thread nD τ).loc cc0_scratch5) ↦[S]{fullShare} g : sProp 𝕄)) (View.set_whole _))) $$ H

variable {P K}
set_option maxRecDepth 20000 in
/-- One device's run. -/
theorem body (c : Dev nD) (x0 : Memref sig .tc .vmem S1x256x1024 .f32) (h0 : x0.IsWhole) (x5 : Memref sig .tc .vmem S1x256x1024 .f32) (h5 : x5.IsWhole) {fk : Buf (Elt F) ((Memref.whole main_arg2 : Memref sig .tc .hbm S1x4096x8x128 .f32).view.loc (c : Thread nD τ))} {fv : Buf (Elt F) ((Memref.whole main_arg3 : Memref sig .tc .hbm S1x4096x8x128 .f32).view.loc (c : Thread nD τ))} {f1 : Buf (Elt F) ((Memref.whole main_arg1 : Memref sig .tc .hbm S1024x16384 .f32).view.loc (c : Thread nD τ))} {f4 : Buf (Elt F) ((Memref.whole main_arg4 : Memref sig .tc .hbm S16384x1024 .f32).view.loc (c : Thread nD τ))} {f5 : Buf (Elt F) (x5.view.loc (c : Thread nD τ))} (xv : Vec F S1x256x1024 .f32)
    (hP : P c = partOf xv (wqVal c f1) (kv (Memref.whole main_arg2) fk) (kv (Memref.whole main_arg3) fv) (woVal c f4)) :
    iprop(Ctx P K ∗ SigSt c 0 ∗ (Zero c cc0_scratch7.sem ∗ At c (wqSrc c) f1 ∗ Any c (Memref.whole cc0_scratch0)) ∗ (Zero c cc0_scratch8.sem ∗ At c (woSrc c) f4 ∗ Any c (Memref.whole cc0_scratch1)) ∗ Rest (Memref.whole main_arg2) (Memref.whole cc0_scratch2) cc0_scratch9 c fk ∗ Rest (Memref.whole main_arg3) (Memref.whole cc0_scratch3) cc0_scratch10 c fv ∗ Has c x0 xv ∗ Any c (Memref.whole cc0_scratch4) ∗ Any c (Memref.whole cc0_scratch5) ∗ cred (tallyAt (barCell c) () 15) ∗ atPos ER (barCell c) 0 ∅ 0 ∗ RsTok c ∗ AgTok c ∗ Wcr 1 c ∗ Wcr 3 c ∗ Wat 0 c ∗ Wat 1 c ∗ Wat 2 c ∗ Wat 3 c ∗ (∃ f, rPts c c f) ∗ (x5.view.loc (c : Thread nD τ) ↦[x5.view.set]{fullShare} f5)) ⊢ wp frame (wpE (defs₀ (F := F)) 𝒱₀ (c : Thread nD τ) none) Set.univ
      (cc0_body (F := F) x0 h0 (Memref.whole main_arg1) (Memref.isWhole_whole _) (Memref.whole main_arg2) (Memref.isWhole_whole _) (Memref.whole main_arg3) (Memref.isWhole_whole _) (Memref.whole main_arg4) (Memref.isWhole_whole _) x5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14)
      fun _ => iprop(owesE c (0 : CellTallies nD τ sig Unit) ∗ atPos ER (barCell c) 1 ∅ 0 ∗ Wend 0 c ∗ Wend 1 c ∗ Wend 2 c ∗ Wend 3 c ∗ CW c (agAll P) ∗ RW c (rsAll P c) ∗ Here (Memref.whole main_arg2) (Memref.whole cc0_scratch2) cc0_scratch9 c fk 7 ∗ Here (Memref.whole main_arg3) (Memref.whole cc0_scratch3) cc0_scratch10 c fv 7 ∗ (Zero c cc0_scratch7.sem ∗ Has c (Memref.whole cc0_scratch0) (wqVal c f1) ∗ At c (wqSrc c) f1) ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ Has c x0 xv ∗ Has c x5 (k0_pay40 (agAll P))) := by
  rw [cc0_body_eq_skeleton]
  unfold cc0_body_skel
  refine call c (part1 P K c x0 h0 x5 h5 _) ?_
  refine call0 c (part2 P K c x0 h0 x5 h5 _) fun _ => ?_
  refine via (iprop(Base P K c ∗ Rest (Memref.whole main_arg2) (Memref.whole cc0_scratch2) cc0_scratch9 c fk ∗ Rest (Memref.whole main_arg3) (Memref.whole cc0_scratch3) cc0_scratch10 c fv ∗ Fl c cc0_scratch7.sem (wqSrc c) f1 (Memref.whole cc0_scratch0) ∗ Has c x0 xv ∗ Fl c cc0_scratch8.sem (woSrc c) f4 (Memref.whole cc0_scratch1) ∗ Any c (Memref.whole cc0_scratch4) ∗ Any c (Memref.whole cc0_scratch5) ∗ cred (tallyAt (barCell c) () 15) ∗ atPos ER (barCell c) 0 ∅ 0 ∗ RsTok c ∗ AgTok c ∗ Wcr 1 c ∗ Wcr 3 c ∗ Wat 0 c ∗ Wat 1 c ∗ Wat 2 c ∗ Wat 3 c ∗ (∃ f, rPts c c f) ∗ (x5.view.loc (c : Thread nD τ) ↦[x5.view.set]{fullShare} f5))) ?_ ?_
  · iintro ⟨HBase, HFQ, HFO, HKRest, HVRest, HX, HCT, HCA, HBC, HBA, HRT, HAT, HW1, HW3, HA0, HA1, HA2, HA3, HRC, HXP⟩
    isplitl [HBase]; · iexact HBase
    isplitl [HKRest]; · iexact HKRest
    isplitl [HVRest]; · iexact HVRest
    isplitl [HFQ]; · iexact HFQ
    isplitl [HX]; · iexact HX
    isplitl [HFO]; · iexact HFO
    isplitl [HCT]; · iexact HCT
    isplitl [HCA]; · iexact HCA
    isplitl [HBC]; · iexact HBC
    isplitl [HBA]; · iexact HBA
    isplitl [HRT]; · iexact HRT
    isplitl [HAT]; · iexact HAT
    isplitl [HW1]; · iexact HW1
    isplitl [HW3]; · iexact HW3
    isplitl [HA0]; · iexact HA0
    isplitl [HA1]; · iexact HA1
    isplitl [HA2]; · iexact HA2
    isplitl [HA3]; · iexact HA3
    isplitl [HRC]; · iexact HRC
    iexact HXP
  refine call c (part3 P K c x0 h0 x5 h5 xv _) ?_
  refine call c (part4 c x0 h0 x5 h5 _ _ _ _ _ _ _) ?_
  refine call c (part5 P K c x0 h0 x5 h5 _ _ _ _ _ _) ?_
  refine call c (part6 P K c x0 h0 x5 h5 _ _ _ _) ?_
  refine call c (part7 P K c x0 h0 x5 h5 _ _ _) ?_
  refine call c (part8 P K c x0 h0 x5 h5 _ _ _ _ _ _) ?_
  refine call c (part9 P K c x0 h0 x5 h5 _ _ _) ?_
  refine call c (part10 P K c x0 h0 x5 h5 _ _ _ _) ?_
  refine call c (part11 P K c x0 h0 x5 h5 _ _ _ _ _ _) ?_
  refine call c (part12 P K c x0 h0 x5 h5 _ _ _) ?_
  refine call c (part13 P K c x0 h0 x5 h5 _ _ _ _) ?_
  refine call c (part14 P K c x0 h0 x5 h5 _ _ _ _ _ _) ?_
  refine call c (part15 P K c x0 h0 x5 h5 _ _ _ _) ?_
  refine via (iprop(Base P K c ∗ Here (Memref.whole main_arg2) (Memref.whole cc0_scratch2) cc0_scratch9 c fk 7 ∗ Going (Memref.whole main_arg3) (Memref.whole cc0_scratch3) cc0_scratch10 c fv 7 ∗ Fl c cc0_scratch8.sem (woSrc c) f4 (Memref.whole cc0_scratch1) ∗ Any c (Memref.whole cc0_scratch4) ∗ Any c (Memref.whole cc0_scratch5) ∗ (Zero c cc0_scratch7.sem ∗ Has c (Memref.whole cc0_scratch0) (wqVal c f1) ∗ At c (wqSrc c) f1) ∗ Has c x0 xv ∗ cred (tallyAt (barCell c) () 15) ∗ atPos ER (barCell c) 0 ∅ 0 ∗ RsTok c ∗ AgTok c ∗ Wcr 1 c ∗ Wcr 3 c ∗ Wat 0 c ∗ Wat 1 c ∗ Wat 2 c ∗ Wat 3 c ∗ (∃ f, rPts c c f) ∗ (x5.view.loc (c : Thread nD τ) ↦[x5.view.set]{fullShare} f5))) ?_ ?_
  · iintro ⟨HBase, HKHere7, HVGoing7, HEQ, HX, HFO, HCT, HCA, HBC, HBA, HRT, HAT, HW1, HW3, HA0, HA1, HA2, HA3, HRC, HXP⟩
    isplitl [HBase]; · iexact HBase
    isplitl [HKHere7]; · iexact HKHere7
    isplitl [HVGoing7]; · iexact HVGoing7
    isplitl [HFO]; · iexact HFO
    isplitl [HCT]; · iexact HCT
    isplitl [HCA]; · iexact HCA
    isplitl [HEQ]; · iexact HEQ
    isplitl [HX]; · iexact HX
    isplitl [HBC]; · iexact HBC
    isplitl [HBA]; · iexact HBA
    isplitl [HRT]; · iexact HRT
    isplitl [HAT]; · iexact HAT
    isplitl [HW1]; · iexact HW1
    isplitl [HW3]; · iexact HW3
    isplitl [HA0]; · iexact HA0
    isplitl [HA1]; · iexact HA1
    isplitl [HA2]; · iexact HA2
    isplitl [HA3]; · iexact HA3
    isplitl [HRC]; · iexact HRC
    iexact HXP
  refine call0 c (part16 P K c x0 h0 x5 h5 _ _ _ _ _ _ _ _ _ _ _) fun _ => ?_
  refine via (iprop(Base P K c ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ Has c (Memref.whole cc0_scratch5) (P c) ∗ (Zero c cc0_scratch7.sem ∗ Has c (Memref.whole cc0_scratch0) (wqVal c f1) ∗ At c (wqSrc c) f1) ∗ Has c x0 xv ∗ cred (tallyAt (barCell c) () 15) ∗ atPos ER (barCell c) 0 ∅ 0 ∗ RsTok c ∗ AgTok c ∗ Wcr 1 c ∗ Wcr 3 c ∗ Wat 0 c ∗ Wat 1 c ∗ Wat 2 c ∗ Wat 3 c ∗ (∃ f, rPts c c f) ∗ (x5.view.loc (c : Thread nD τ) ↦[x5.view.set]{fullShare} f5))) (Entails.of_eq (by rw [hP]; rfl)) ?_
  refine via (iprop((Ctx P K ∗ owesE c (OA c 0 + OR c 0) ∗ cred (tallyAt (barCell c) () 15) ∗ atPos ER (barCell c) 0 ∅ 0) ∗ Ctx P K ∗ RsTok c ∗ (oth c fun j => cPts c j fullShare (P c)) ∗ cPts c c fullShare (P c) ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv ∗ AgTok c ∗ Wcr 1 c ∗ Wcr 3 c ∗ Wat 0 c ∗ Wat 1 c ∗ Wat 2 c ∗ Wat 3 c ∗ (∃ f, rPts c c f) ∗ (x5.view.loc (c : Thread nD τ) ↦[x5.view.set]{fullShare} f5))) ?_ ?_
  · unfold Base
    iintro ⟨⟨#HC, HO⟩, HKHere7, HVHere7, HEO, HHT, HHA, HEQ, HX, HBC, HBA, HRT, HAT, HW1, HW3, HA0, HA1, HA2, HA3, HRC, HXP⟩
    ihave HA := (has_chunks c (P c)) $$ HHA
    icases HA with ⟨HCC, HCO⟩
    isplitl [HO HBC HBA]
    · isplitr; · iexact HC
      isplitl [HO]; · iexact HO
      isplitl [HBC]; · iexact HBC
      iexact HBA
    isplitr; · iexact HC
    isplitl [HRT]; · iexact HRT
    isplitl [HCO]; · iexact HCO
    isplitl [HCC]; · iexact HCC
    isplitl [HKHere7]; · iexact HKHere7
    isplitl [HVHere7]; · iexact HVHere7
    isplitl [HEO]; · iexact HEO
    isplitl [HHT]; · iexact HHT
    isplitl [HEQ]; · iexact HEQ
    isplitl [HX]; · iexact HX
    isplitl [HAT]; · iexact HAT
    isplitl [HW1]; · iexact HW1
    isplitl [HW3]; · iexact HW3
    isplitl [HA0]; · iexact HA0
    isplitl [HA1]; · iexact HA1
    isplitl [HA2]; · iexact HA2
    isplitl [HA3]; · iexact HA3
    isplitl [HRC]; · iexact HRC
    iexact HXP
  refine call c (part17 P K c x0 h0 x5 h5 _) ?_
  refine call c (part18 P K c x0 h0 x5 h5 _) ?_
  refine via (iprop(Ctx P K ∗ RsSt P c 14 ∗ Wcr 1 c ∗ Wat 1 c ∗ cPts c c fullShare (P c) ∗ (∃ f, rPts c c f) ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv ∗ AgTok c ∗ Wcr 3 c ∗ Wat 0 c ∗ Wat 2 c ∗ Wat 3 c ∗ (x5.view.loc (c : Thread nD τ) ↦[x5.view.set]{fullShare} f5))) ?_ ?_
  · iintro ⟨#HC, HRs14, HBE, HCC, HKHere7, HVHere7, HEO, HHT, HEQ, HX, HAT, HW1, HW3, HA0, HA1, HA2, HA3, HRC, HXP⟩
    isplitr; · iexact HC
    isplitl [HRs14]; · iexact HRs14
    isplitl [HW1]; · iexact HW1
    isplitl [HA1]; · iexact HA1
    isplitl [HCC]; · iexact HCC
    isplitl [HRC]; · iexact HRC
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    isplitl [HX]; · iexact HX
    isplitl [HAT]; · iexact HAT
    isplitl [HW3]; · iexact HW3
    isplitl [HA0]; · iexact HA0
    isplitl [HA2]; · iexact HA2
    isplitl [HA3]; · iexact HA3
    iexact HXP
  refine call c (part19 P K c x0 h0 x5 h5 _) ?_
  refine call c (part20 P K c x0 h0 x5 h5 _) ?_
  refine call c (part21 P K c x0 h0 x5 h5 _) ?_
  refine via (iprop(Ctx P K ∗ WtSt P 1 c 15 ∗ cPts c c fullShare (P c) ∗ rPts c c (rsAll P c) ∗ AgTok c ∗ Wcr 0 c ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv ∗ Wcr 3 c ∗ Wat 0 c ∗ Wat 2 c ∗ Wat 3 c ∗ (x5.view.loc (c : Thread nD τ) ↦[x5.view.set]{fullShare} f5))) ?_ ?_
  · iintro ⟨#HC, HWt1_15, HW0, HCC, HRR, HBE, HKHere7, HVHere7, HEO, HHT, HEQ, HX, HAT, HW3, HA0, HA2, HA3, HXP⟩
    isplitr; · iexact HC
    isplitl [HWt1_15]; · iexact HWt1_15
    isplitl [HCC]; · iexact HCC
    isplitl [HRR]; · iexact HRR
    isplitl [HAT]; · iexact HAT
    isplitl [HW0]; · iexact HW0
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    isplitl [HX]; · iexact HX
    isplitl [HW3]; · iexact HW3
    isplitl [HA0]; · iexact HA0
    isplitl [HA2]; · iexact HA2
    isplitl [HA3]; · iexact HA3
    iexact HXP
  refine call0 c (part22 P K c x0 h0 x5 h5 _) fun _ => ?_
  refine call c (part23 P K c x0 h0 x5 h5 _) ?_
  refine via (iprop(Ctx P K ∗ AgSt P c 14 ∗ Wcr 3 c ∗ Wat 3 c ∗ Wend 1 c ∗ RW c (rsAll P c) ∗ cPts c c (shareOf c) (agAll P) ∗ Wcr 0 c ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv ∗ Wat 0 c ∗ Wat 2 c ∗ (x5.view.loc (c : Thread nD τ) ↦[x5.view.set]{fullShare} f5))) ?_ ?_
  · iintro ⟨#HC, HAg14, HE1, HRW, HCS, HW0, HBE, HKHere7, HVHere7, HEO, HHT, HEQ, HX, HW3, HA0, HA2, HA3, HXP⟩
    isplitr; · iexact HC
    isplitl [HAg14]; · iexact HAg14
    isplitl [HW3]; · iexact HW3
    isplitl [HA3]; · iexact HA3
    isplitl [HE1]; · iexact HE1
    isplitl [HRW]; · iexact HRW
    isplitl [HCS]; · iexact HCS
    isplitl [HW0]; · iexact HW0
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    isplitl [HX]; · iexact HX
    isplitl [HA0]; · iexact HA0
    isplitl [HA2]; · iexact HA2
    iexact HXP
  refine call0 c (part24 P K c x0 h0 x5 h5 _) fun _ => ?_
  refine call0 c (part25 P K c x0 h0 x5 h5 _) fun _ => ?_
  refine via (iprop(Ctx P K ∗ WtSt P 3 c 11 ∗ Wcr 0 c ∗ Wat 0 c ∗ Wcr 2 c ∗ Wend 1 c ∗ RW c (rsAll P c) ∗ cPts c c (shareOf c) (agAll P) ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv ∗ Wat 2 c ∗ (x5.view.loc (c : Thread nD τ) ↦[x5.view.set]{fullShare} f5))) ?_ ?_
  · iintro ⟨#HC, HWt3_11, HW2, HE1, HRW, HCS, HW0, HBE, HKHere7, HVHere7, HEO, HHT, HEQ, HX, HA0, HA2, HXP⟩
    isplitr; · iexact HC
    isplitl [HWt3_11]; · iexact HWt3_11
    isplitl [HW0]; · iexact HW0
    isplitl [HA0]; · iexact HA0
    isplitl [HW2]; · iexact HW2
    isplitl [HE1]; · iexact HE1
    isplitl [HRW]; · iexact HRW
    isplitl [HCS]; · iexact HCS
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    isplitl [HX]; · iexact HX
    isplitl [HA2]; · iexact HA2
    iexact HXP
  refine call c (part26 P K c x0 h0 x5 h5 _) ?_
  refine call c (part27 P K c x0 h0 x5 h5 _) ?_
  refine call c (part28 P K c x0 h0 x5 h5 _) ?_
  refine via (iprop(Ctx P K ∗ WtSt P 0 c 16 ∗ Wcr 2 c ∗ Wat 2 c ∗ Wend 3 c ∗ (oth c fun j => pay P c j (3 : Fin 4).val) ∗ Wend 1 c ∗ RW c (rsAll P c) ∗ cPts c c (shareOf c) (agAll P) ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv ∗ (x5.view.loc (c : Thread nD τ) ↦[x5.view.set]{fullShare} f5))) ?_ ?_
  · iintro ⟨#HC, HWt0_16, HE3, HP3, HW2, HE1, HRW, HCS, HBE, HKHere7, HVHere7, HEO, HHT, HEQ, HX, HA2, HXP⟩
    isplitr; · iexact HC
    isplitl [HWt0_16]; · iexact HWt0_16
    isplitl [HW2]; · iexact HW2
    isplitl [HA2]; · iexact HA2
    isplitl [HE3]; · iexact HE3
    isplitl [HP3]; · iexact HP3
    isplitl [HE1]; · iexact HE1
    isplitl [HRW]; · iexact HRW
    isplitl [HCS]; · iexact HCS
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    isplitl [HX]; · iexact HX
    iexact HXP
  refine call0 c (part29 P K c x0 h0 x5 h5 _) fun _ => ?_
  refine via (iprop(Ctx P K ∗ WtSt P 2 c 8 ∗ (oth c fun j => pay P c j (3 : Fin 4).val) ∗ cPts c c (shareOf c) (agAll P) ∗ (x5.view.loc (c : Thread nD τ) ↦[x5.view.set]{fullShare} f5) ∗ Wend 0 c ∗ Wend 3 c ∗ Wend 1 c ∗ RW c (rsAll P c) ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv)) ?_ ?_
  · iintro ⟨#HC, HWt2_8, HE0, HE3, HP3, HE1, HRW, HCS, HBE, HKHere7, HVHere7, HEO, HHT, HEQ, HX, HXP⟩
    isplitr; · iexact HC
    isplitl [HWt2_8]; · iexact HWt2_8
    isplitl [HP3]; · iexact HP3
    isplitl [HCS]; · iexact HCS
    isplitl [HXP]; · iexact HXP
    isplitl [HE0]; · iexact HE0
    isplitl [HE3]; · iexact HE3
    isplitl [HE1]; · iexact HE1
    isplitl [HRW]; · iexact HRW
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    iexact HX
  refine call c (part30 P K c x0 h0 x5 h5 f5 _) ?_
  refine via (iprop(Any c x5 ∗ Ctx P K ∗ owesE c (0 : CellTallies nD τ sig Unit) ∗ Wend 2 c ∗ CW c (agAll P) ∗ Wend 0 c ∗ Wend 3 c ∗ Wend 1 c ∗ RW c (rsAll P c) ∗ atPos ER (barCell c) 1 ∅ 0 ∗ Here (Memref.whole main_arg2) (Memref.whole cc0_scratch2) cc0_scratch9 c fk 7 ∗ Here (Memref.whole main_arg3) (Memref.whole cc0_scratch3) cc0_scratch10 c fv 7 ∗ (Zero c cc0_scratch8.sem ∗ Has c (Memref.whole cc0_scratch1) (woVal c f4) ∗ At c (woSrc c) f4) ∗ Has c (Memref.whole cc0_scratch4) (ctxOf (k0_pay1 xv (wqVal c f1)) (kv (Memref.whole main_arg2) fk) (kv (Memref.whole main_arg3) fv)) ∗ (Zero c cc0_scratch7.sem ∗ Has c (Memref.whole cc0_scratch0) (wqVal c f1) ∗ At c (wqSrc c) f1) ∗ Has c x0 xv)) ?_ ?_
  · iintro ⟨HC, HOz, HE2, HCW, HXP, HE0, HE3, HE1, HRW, HBE, HKHere7, HVHere7, HEO, HHT, HEQ, HX⟩
    isplitl [HXP]; · unfold Any; iexists f5; iexact HXP
    isplitl [HC]; · iexact HC
    isplitl [HOz]; · iexact HOz
    isplitl [HE2]; · iexact HE2
    isplitl [HCW]; · iexact HCW
    isplitl [HE0]; · iexact HE0
    isplitl [HE3]; · iexact HE3
    isplitl [HE1]; · iexact HE1
    isplitl [HRW]; · iexact HRW
    isplitl [HBE]; · iexact HBE
    isplitl [HKHere7]; · iexact HKHere7
    isplitl [HVHere7]; · iexact HVHere7
    isplitl [HEO]; · iexact HEO
    isplitl [HHT]; · iexact HHT
    isplitl [HEQ]; · iexact HEQ
    iexact HX
  refine step_store c (by decide) ?_
  refine step_ret c ?_
  iintro ⟨HXE, -, HOz, HE2, HCW, HE0, HE3, HE1, HRW, HBE, HKHere7, HVHere7, HEO, HHT, HEQ, HX⟩
  isplitl [HOz]; · iexact HOz
  isplitl [HBE]; · iexact HBE
  isplitl [HE0]; · iexact HE0
  isplitl [HE1]; · iexact HE1
  isplitl [HE2]; · iexact HE2
  isplitl [HE3]; · iexact HE3
  isplitl [HCW]; · iexact HCW
  isplitl [HRW]; · iexact HRW
  isplitl [HKHere7]; · iexact HKHere7
  isplitl [HVHere7]; · iexact HVHere7
  isplitl [HEQ]; · iexact HEQ
  isplitl [HEO]; · iexact HEO
  isplitl [HHT]; · iexact HHT
  isplitl [HX]; · iexact HX
  iexact HXE

end Cert.KernelIdeal.Body

end
-- ==== Proof.Resources.lean ====
/-
# What a device is handed, in the form its run takes it

The launch hands a device its buffers whole. Its run holds the two weight arrays in two pieces (the block it copies, and
the rest), the double buffers by halves, and its receive buffer slot by slot.
-/
module

public import proofs.«01_k».proof.Proof.Body

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

/-! ## Whole buffers -/

/-- A buffer whole, at some contents. -/
abbrev Some (c : Dev nD) (b : Ref sig .tc) : sProp 𝕄 := iprop(∃ f : Buf (Elt F) ((c : Thread nD τ).loc b), ((c : Thread nD τ).loc b) ↦{fullShare} f)

theorem whole_set (c : Dev nD) (b : Ref sig .tc) (f : Buf (Elt F) ((c : Thread nD τ).loc b)) :
    (((c : Thread nD τ).loc b) ↦[(View.whole b).set]{fullShare} f : sProp 𝕄) = (((c : Thread nD τ).loc b) ↦{fullShare} f) := by
  rw [View.set_whole]

theorem some_any (c : Dev nD) (b : Ref sig .tc) : (Some c b : sProp 𝕄) = Any c (Memref.whole b) := by
  unfold Any
  exact congrArg _ (funext fun f => (whole_set c b f).symm)

theorem at_whole (c : Dev nD) (b : Ref sig .tc) (f : Buf (Elt F) ((c : Thread nD τ).loc b)) :
    (At c (Memref.whole b) f : sProp 𝕄) = (((c : Thread nD τ).loc b) ↦{fullShare} f) := whole_set c b f

/-! ## The weights: the block copied, and the rest -/

/-- The part of the query weights, of the output weights, that a device does not copy. -/
abbrev wqRest (c : Dev nD) (f : Buf (Elt F) ((c : Thread nD τ).loc main_arg1)) : sProp 𝕄 :=
  ((c : Thread nD τ).loc main_arg1) ↦[Finset.univ \ (wqSrc c).view.set]{fullShare} f
abbrev woRest (c : Dev nD) (f : Buf (Elt F) ((c : Thread nD τ).loc main_arg4)) : sProp 𝕄 :=
  ((c : Thread nD τ).loc main_arg4) ↦[Finset.univ \ (woSrc c).view.set]{fullShare} f

theorem wq_split (c : Dev nD) (f : Buf (Elt F) ((c : Thread nD τ).loc main_arg1)) :
    (((c : Thread nD τ).loc main_arg1) ↦{fullShare} f : sProp 𝕄) ⊣⊢ iprop(At c (wqSrc c) f ∗ wqRest c f) :=
  pointsTo_split_subset (ℓ := (c : Thread nD τ).loc main_arg1) (q := fullShare) (f := f) (Finset.subset_univ (wqSrc c).view.set)
theorem wo_split (c : Dev nD) (f : Buf (Elt F) ((c : Thread nD τ).loc main_arg4)) :
    (((c : Thread nD τ).loc main_arg4) ↦{fullShare} f : sProp 𝕄) ⊣⊢ iprop(At c (woSrc c) f ∗ woRest c f) :=
  pointsTo_split_subset (ℓ := (c : Thread nD τ).loc main_arg4) (q := fullShare) (f := f) (Finset.subset_univ (woSrc c).view.set)

/-! ## The double buffers: two halves -/

abbrev halfRect (s : Fin 2) : Rect S2x4096x128 := Rect.unit (s := S2x4096x128) ![s.val, 0, 0] S1x4096x128.size (by revert s; decide)

theorem half_mem (s : Fin 2) (i : S2x4096x128.Idx) : i ∈ (halfRect s).set ↔ (i 0).val = s.val := by
  rw [Rect.mem_set_unit]
  constructor
  · intro h
    have h0 := h 0
    have h1 : s.val ≤ (i 0).val := h0.1
    have h2 : (i 0).val < s.val + 1 := h0.2
    omega
  · intro e a
    match a with
    | ⟨0, _⟩ => exact ⟨le_of_eq e.symm, by show (i 0).val < s.val + 1; omega⟩
    | ⟨1, h⟩ => exact ⟨Nat.zero_le _, (Nat.zero_add 4096).symm ▸ (i ⟨1, h⟩).isLt⟩
    | ⟨2, h⟩ => exact ⟨Nat.zero_le _, (Nat.zero_add 128).symm ▸ (i ⟨2, h⟩).isLt⟩
theorem half_disj (s s' : Fin 2) (h : s ≠ s') : Disjoint (halfRect s).set (halfRect s').set := by
  rw [Finset.disjoint_left]
  intro i hi hi'
  exact h (Fin.ext (((half_mem s i).mp hi).symm.trans ((half_mem s' i).mp hi')))
theorem half_cover : (Finset.univ : Finset (Fin 2)).biUnion (fun s => (halfRect s).set) = Finset.univ := by
  ext i
  simp only [Finset.mem_biUnion, Finset.mem_univ, true_and, iff_true]
  exact ⟨⟨(i 0).val, (i 0).isLt⟩, (half_mem _ i).mpr rfl⟩

theorem two (Φ : Fin 2 → sProp 𝕄) : bigSep Finset.univ Φ = iprop(Φ 0 ∗ Φ 1) := bigSep_fin_two Φ

/-- Halves as sets of a buffer of two, whichever. -/
theorem halves_in {ℓ : Loc nD τ sig} (I : Fin 2 → Finset (Idx ℓ)) (hd : ∀ s s', s ≠ s' → Disjoint (I s) (I s')) (hc : Finset.univ.biUnion I = Finset.univ) :
    (iprop(∃ f : Buf (Elt F) ℓ, ℓ ↦{fullShare} f) : sProp 𝕄) ⊢ iprop((∃ f : Buf (Elt F) ℓ, ℓ ↦[I 0]{fullShare} f) ∗ (∃ f : Buf (Elt F) ℓ, ℓ ↦[I 1]{fullShare} f)) := by
  iintro ⟨%f, H⟩
  ihave H := (Entails.of_eq ((Ring.pointsTo_blocks I hd hc f).trans (two _))) $$ H
  icases H with ⟨H0, H1⟩
  isplitl [H0]
  · iexists f; iexact H0
  iexists f; iexact H1
theorem halves_out {ℓ : Loc nD τ sig} (I : Fin 2 → Finset (Idx ℓ)) (hd : ∀ s s', s ≠ s' → Disjoint (I s) (I s')) (hc : Finset.univ.biUnion I = Finset.univ) :
    iprop((∃ f : Buf (Elt F) ℓ, ℓ ↦[I 0]{fullShare} f) ∗ (∃ f : Buf (Elt F) ℓ, ℓ ↦[I 1]{fullShare} f)) ⊢ (iprop(∃ f : Buf (Elt F) ℓ, ℓ ↦{fullShare} f) : sProp 𝕄) := by
  iintro ⟨⟨%f, H0⟩, H1⟩
  iapply (Ring.pointsTo_blocks_join_exists I hd hc f)
  iapply (Entails.of_eq (two (fun s => (iprop(∃ f : Buf (Elt F) ℓ, ℓ ↦[I s]{fullShare} f) : sProp 𝕄))).symm)
  isplitl [H0]
  · iexists f; iexact H0
  iexact H1

theorem half_set2 (s : Fin 2) : (half (Memref.whole cc0_scratch2) s).view.set = (halfRect s).set :=
  (Memref.set_view_squeeze _ _).trans (View.set_slice_whole _ _)
theorem half_set3 (s : Fin 2) : (half (Memref.whole cc0_scratch3) s).view.set = (halfRect s).set :=
  (Memref.set_view_squeeze _ _).trans (View.set_slice_whole _ _)

abbrev Halves (c : Dev nD) (B : Memref sig .tc .vmem S2x4096x128 .f32) : sProp 𝕄 := iprop(Any c (half B 0) ∗ Any c (half B 1))

theorem half_any2 (c : Dev nD) (s : Fin 2) : (Any c (half (Memref.whole cc0_scratch2) s) : sProp 𝕄)
    = iprop(∃ f : Buf (Elt F) ((c : Thread nD τ).loc cc0_scratch2), ((c : Thread nD τ).loc cc0_scratch2) ↦[(halfRect s).set]{fullShare} f) := by
  unfold Any; rw [half_set2]
theorem half_any3 (c : Dev nD) (s : Fin 2) : (Any c (half (Memref.whole cc0_scratch3) s) : sProp 𝕄)
    = iprop(∃ f : Buf (Elt F) ((c : Thread nD τ).loc cc0_scratch3), ((c : Thread nD τ).loc cc0_scratch3) ↦[(halfRect s).set]{fullShare} f) := by
  unfold Any; rw [half_set3]

theorem k_in (c : Dev nD) : (Some c cc0_scratch2 : sProp 𝕄) ⊢ Halves c (Memref.whole cc0_scratch2) := by
  unfold Halves; rw [half_any2, half_any2]
  exact halves_in (ℓ := (c : Thread nD τ).loc cc0_scratch2) (fun s => (halfRect s).set) half_disj half_cover
theorem v_in (c : Dev nD) : (Some c cc0_scratch3 : sProp 𝕄) ⊢ Halves c (Memref.whole cc0_scratch3) := by
  unfold Halves; rw [half_any3, half_any3]
  exact halves_in (ℓ := (c : Thread nD τ).loc cc0_scratch3) (fun s => (halfRect s).set) half_disj half_cover
theorem k_out (c : Dev nD) : (Halves c (Memref.whole cc0_scratch2) : sProp 𝕄) ⊢ Some c cc0_scratch2 := by
  unfold Halves; rw [half_any2, half_any2]
  exact halves_out (ℓ := (c : Thread nD τ).loc cc0_scratch2) (fun s => (halfRect s).set) half_disj half_cover
theorem v_out (c : Dev nD) : (Halves c (Memref.whole cc0_scratch3) : sProp 𝕄) ⊢ Some c cc0_scratch3 := by
  unfold Halves; rw [half_any3, half_any3]
  exact halves_out (ℓ := (c : Thread nD τ).loc cc0_scratch3) (fun s => (halfRect s).set) half_disj half_cover

/-! ## The signals' start -/

/-- The duties of the barrier signals. -/
def BarTok (c : Dev nD) : sProp 𝕄 := oth c fun j => dutyTok ER (barCell j) 0 c

/-- A device signals with its receive buffer's slots: its own stays. -/
theorem sig_start (c : Dev nD) :
    iprop(owesE c (O₀ c) ∗ BarTok c ∗ Some c cc0_scratch6) ⊢ (iprop(SigSt c 0 ∗ ∃ f, rPts c c f) : sProp 𝕄) := by
  unfold SigSt St BarTok
  rw [stage_start]
  show _ ⊢ iprop((owesE c (O₀ c) ∗ oth c (sigPre c)) ∗ _)
  iintro ⟨HO, Ht, ⟨%f, Hr⟩⟩
  ihave Hr := (Entails.of_eq (r_whole c f)) $$ Hr
  icases Hr with ⟨Hc, Hr⟩
  isplitr [Hc]
  · isplitl [HO]; · iexact HO
    ihave H := (Entails.of_eq (oth_sep c (fun j => dutyTok ER (barCell j) 0 c) fun j => rPts c j f).symm) $$ [Ht Hr]
    · isplitl [Ht]; · iexact Ht
      iexact Hr
    iapply (oth_mono c (Φ := fun j => iprop(dutyTok ER (barCell j) 0 c ∗ rPts c j f)) (Ψ := sigPre c) (fun j => by
      unfold sigPre
      iintro ⟨H1, H2⟩
      isplitl [H1]; · iexact H1
      iexists f; iexact H2)) $$ H
  iexists f; iexact Hc

/-! ## The semaphores of a device's own copies -/

/-- The semaphores of the local copies, all at zero. -/
def Locals (c : Dev nD) : sProp 𝕄 :=
  iprop(Zero c cc0_scratch7.sem ∗ Zero c cc0_scratch8.sem ∗ (Zero c (turn cc0_scratch9 0) ∗ Zero c (turn cc0_scratch9 1))
    ∗ (Zero c (turn cc0_scratch10 0) ∗ Zero c (turn cc0_scratch10 1)))

/-! ## All of it -/

/-- A device's scratch and its arrays in memory, whole. -/
def Bufs (c : Dev nD) (f1 : Buf (Elt F) ((c : Thread nD τ).loc main_arg1)) (fk : Buf (Elt F) ((c : Thread nD τ).loc main_arg2))
    (fv : Buf (Elt F) ((c : Thread nD τ).loc main_arg3)) (f4 : Buf (Elt F) ((c : Thread nD τ).loc main_arg4)) : sProp 𝕄 :=
  iprop((Some c cc0_scratch0 ∗ Some c cc0_scratch1 ∗ Some c cc0_scratch2 ∗ Some c cc0_scratch3 ∗ Some c cc0_scratch4 ∗ Some c cc0_scratch5 ∗ Some c cc0_scratch6)
    ∗ (((c : Thread nD τ).loc main_arg1) ↦{fullShare} f1) ∗ (((c : Thread nD τ).loc main_arg2) ↦{fullShare} fk)
    ∗ (((c : Thread nD τ).loc main_arg3) ↦{fullShare} fv) ∗ (((c : Thread nD τ).loc main_arg4) ↦{fullShare} f4))

/-- The same as the run takes them, the receive buffer apart. -/
def Parts (c : Dev nD) (f1 : Buf (Elt F) ((c : Thread nD τ).loc main_arg1)) (fk : Buf (Elt F) ((c : Thread nD τ).loc main_arg2))
    (fv : Buf (Elt F) ((c : Thread nD τ).loc main_arg3)) (f4 : Buf (Elt F) ((c : Thread nD τ).loc main_arg4)) : sProp 𝕄 :=
  iprop((Zero c cc0_scratch7.sem ∗ At c (wqSrc c) f1 ∗ Any c (Memref.whole cc0_scratch0)) ∗ (Zero c cc0_scratch8.sem ∗ At c (woSrc c) f4 ∗ Any c (Memref.whole cc0_scratch1))
    ∗ Rest (Memref.whole main_arg2) (Memref.whole cc0_scratch2) cc0_scratch9 c fk ∗ Rest (Memref.whole main_arg3) (Memref.whole cc0_scratch3) cc0_scratch10 c fv
    ∗ Any c (Memref.whole cc0_scratch4) ∗ Any c (Memref.whole cc0_scratch5) ∗ wqRest c f1 ∗ woRest c f4)

theorem parts_in (c : Dev nD) (f1 : Buf (Elt F) ((c : Thread nD τ).loc main_arg1)) (fk : Buf (Elt F) ((c : Thread nD τ).loc main_arg2))
    (fv : Buf (Elt F) ((c : Thread nD τ).loc main_arg3)) (f4 : Buf (Elt F) ((c : Thread nD τ).loc main_arg4)) :
    iprop(Locals c ∗ Bufs c f1 fk fv f4) ⊢ (iprop(Some c cc0_scratch6 ∗ Parts c f1 fk fv f4) : sProp 𝕄) := by
  unfold Locals Bufs Parts Rest
  iintro ⟨⟨Z7, Z8, ⟨Z90, Z91⟩, ⟨Z100, Z101⟩⟩, ⟨H0, H1, H2, H3, H4, H5, H6⟩, A1, A2, A3, A4⟩
  ihave H0 := (Entails.of_eq (some_any c cc0_scratch0)) $$ H0
  ihave H1 := (Entails.of_eq (some_any c cc0_scratch1)) $$ H1
  ihave H4 := (Entails.of_eq (some_any c cc0_scratch4)) $$ H4
  ihave H5 := (Entails.of_eq (some_any c cc0_scratch5)) $$ H5
  ihave H2 := (k_in c) $$ H2
  icases H2 with ⟨H20, H21⟩
  ihave H3 := (v_in c) $$ H3
  icases H3 with ⟨H30, H31⟩
  ihave A1 := (wq_split c f1).1 $$ A1
  icases A1 with ⟨A1, A1'⟩
  ihave A4 := (wo_split c f4).1 $$ A4
  icases A4 with ⟨A4, A4'⟩
  ihave A2 := (Entails.of_eq (at_whole c main_arg2 fk).symm) $$ A2
  ihave A3 := (Entails.of_eq (at_whole c main_arg3 fv).symm) $$ A3
  isplitl [H6]; · iexact H6
  isplitl [Z7 A1 H0]
  · isplitl [Z7]; · iexact Z7
    isplitl [A1]; · iexact A1
    iexact H0
  isplitl [Z8 A4 H1]
  · isplitl [Z8]; · iexact Z8
    isplitl [A4]; · iexact A4
    iexact H1
  isplitl [A2 Z90 Z91 H20 H21]
  · isplitl [A2]; · iexact A2
    isplitl [Z90 H20]
    · isplitl [Z90]; · iexact Z90
      iexact H20
    isplitl [Z91]; · iexact Z91
    iexact H21
  isplitl [A3 Z100 Z101 H30 H31]
  · isplitl [A3]; · iexact A3
    isplitl [Z100 H30]
    · isplitl [Z100]; · iexact Z100
      iexact H30
    isplitl [Z101]; · iexact Z101
    iexact H31
  isplitl [H4]; · iexact H4
  isplitl [H5]; · iexact H5
  isplitl [A1']; · iexact A1'
  iexact A4'

theorem parts_out (c : Dev nD) (f1 : Buf (Elt F) ((c : Thread nD τ).loc main_arg1)) (fk : Buf (Elt F) ((c : Thread nD τ).loc main_arg2))
    (fv : Buf (Elt F) ((c : Thread nD τ).loc main_arg3)) (f4 : Buf (Elt F) ((c : Thread nD τ).loc main_arg4)) :
    iprop(Some c cc0_scratch6 ∗ Parts c f1 fk fv f4) ⊢ (iprop(Locals c ∗ Bufs c f1 fk fv f4) : sProp 𝕄) := by
  unfold Locals Bufs Parts Rest
  iintro ⟨H6, ⟨Z7, A1, H0⟩, ⟨Z8, A4, H1⟩, ⟨A2, ⟨Z90, H20⟩, ⟨Z91, H21⟩⟩, ⟨A3, ⟨Z100, H30⟩, ⟨Z101, H31⟩⟩, H4, H5, A1', A4'⟩
  isplitl [Z7 Z8 Z90 Z91 Z100 Z101]
  · isplitl [Z7]; · iexact Z7
    isplitl [Z8]; · iexact Z8
    isplitl [Z90 Z91]
    · isplitl [Z90]; · iexact Z90
      iexact Z91
    isplitl [Z100]; · iexact Z100
    iexact Z101
  isplitl [H0 H1 H20 H21 H30 H31 H4 H5 H6]
  · isplitl [H0]; · iapply (Entails.of_eq (some_any c cc0_scratch0).symm) $$ H0
    isplitl [H1]; · iapply (Entails.of_eq (some_any c cc0_scratch1).symm) $$ H1
    isplitl [H20 H21]
    · iapply (k_out c)
      isplitl [H20]; · iexact H20
      iexact H21
    isplitl [H30 H31]
    · iapply (v_out c)
      isplitl [H30]; · iexact H30
      iexact H31
    isplitl [H4]; · iapply (Entails.of_eq (some_any c cc0_scratch4).symm) $$ H4
    isplitl [H5]; · iapply (Entails.of_eq (some_any c cc0_scratch5).symm) $$ H5
    iexact H6
  isplitl [A1 A1']
  · iapply (wq_split c f1).2
    isplitl [A1]; · iexact A1
    iexact A1'
  isplitl [A2]; · iapply (Entails.of_eq (at_whole c main_arg2 fk)) $$ A2
  isplitl [A3]; · iapply (Entails.of_eq (at_whole c main_arg3 fv)) $$ A3
  iapply (wo_split c f4).2
  isplitl [A4]; · iexact A4
  iexact A4'

end Cert.KernelIdeal.Body

end
-- ==== Proof.Cells.lean ====
/-
# A device's semaphores and cells

The launch lists a device's semaphores; the run takes them family by family, and closes their cells at the end.
-/
module

public import proofs.«01_k».proof.Proof.Resources

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

/-! ## Over a device's cells -/

theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem six (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

abbrev OwnCell : Type := Option (Fin 4 × Dev nD)

theorem of_opt {α : Type} [Fintype α] [DecidableEq α] (Φ : Option α → sProp 𝕄) : bigSep Finset.univ Φ = iprop(Φ none ∗ bigSep Finset.univ fun a => Φ (some a)) := by
  rw [bigSep_erase (Finset.mem_univ (none : Option α)), show (Finset.univ.erase (none : Option α)) = Finset.univ.map Function.Embedding.some from by
    ext x; cases x <;> simp, bigSep_map]
  rfl

/-- A family of a device's cells: its own index, and the others'. -/
def pair (c : Dev nD) (Φ : OwnCell → sProp 𝕄) (k : Fin 4) : sProp 𝕄 := iprop(Φ (some (k, c)) ∗ oth c fun j => Φ (some (k, j)))

theorem of_cells (c : Dev nD) (Φ : OwnCell → sProp 𝕄) :
    bigSep Finset.univ Φ = iprop(Φ none ∗ pair c Φ 0 ∗ pair c Φ 1 ∗ pair c Φ 2 ∗ pair c Φ 3) := by
  rw [of_opt, bigSep_univ_prod, four]
  unfold pair
  simp only [oth_at c]

theorem oth_congr (c : Dev nD) {Φ Ψ : Dev nD → sProp 𝕄} (h : ∀ j, j ≠ c → Φ j = Ψ j) : oth c Φ = oth c Ψ := by
  unfold oth; exact bigSep_congr fun j hj => h j (Finset.ne_of_mem_erase hj)

/-- The waiting rights a device starts from: its barrier's, the other devices' cells', and its own index's. -/
def Self (c : Dev nD) : sProp 𝕄 :=
  iprop(atPos ER (cell 0 c c) 0 ∅ 0 ∗ atPos ER (cell 1 c c) 0 ∅ 0 ∗ atPos ER (cell 2 c c) 0 ∅ 0 ∗ atPos ER (cell 3 c c) 0 ∅ 0)

theorem at_start (c : Dev nD) :
    (bigSep Finset.univ fun o : OwnCell => (atPos ER (kcell (c, o)) 0 ∅ 0 : sProp 𝕄))
      ⊢ iprop(atPos ER (barCell c) 0 ∅ 0 ∗ Wat 0 c ∗ Wat 1 c ∗ Wat 2 c ∗ Wat 3 c ∗ Self c) := by
  rw [of_cells c]
  unfold pair Self Wat
  iintro ⟨HB, ⟨S0, H0⟩, ⟨S1, H1⟩, ⟨S2, H2⟩, ⟨S3, H3⟩⟩
  isplitl [HB]; · iexact HB
  isplitl [H0]; · iexact H0
  isplitl [H1]; · iexact H1
  isplitl [H2]; · iexact H2
  isplitl [H3]; · iexact H3
  isplitl [S0]; · iexact S0
  isplitl [S1]; · iexact S1
  isplitl [S2]; · iexact S2
  iexact S3

/-- The round a cell ends in: its one round over, unless nobody pays into it. -/
def lastRound (c : Dev nD) : OwnCell → ℕ
  | none => 1
  | some (_, j) => if j = c then 0 else 1

theorem at_end (c : Dev nD) :
    iprop(atPos ER (barCell c) 1 ∅ 0 ∗ Wend 0 c ∗ Wend 1 c ∗ Wend 2 c ∗ Wend 3 c ∗ Self c)
      ⊢ (bigSep Finset.univ fun o : OwnCell => (atPos ER (kcell (c, o)) (lastRound c o) ∅ 0 : sProp 𝕄)) := by
  rw [of_cells c]
  unfold pair Self Wend
  have hs (k : Fin 4) : (atPos ER (kcell (c, some (k, c))) (lastRound c (some (k, c))) ∅ 0 : sProp 𝕄) = atPos ER (cell k c c) 0 ∅ 0 := by
    show atPos ER (cell k c c) (if c = c then 0 else 1) ∅ 0 = _
    rw [if_pos rfl]
  have ho (k : Fin 4) : (oth c fun j => (atPos ER (kcell (c, some (k, j))) (lastRound c (some (k, j))) ∅ 0 : sProp 𝕄)) = oth c fun j => atPos ER (cell k c j) 1 ∅ 0 :=
    oth_congr c fun j hj => by
      show atPos ER (cell k c j) (if j = c then 0 else 1) ∅ 0 = _
      rw [if_neg hj]
  simp only [hs, ho]
  iintro ⟨HB, H0, H1, H2, H3, ⟨S0, S1, S2, S3⟩⟩
  isplitl [HB]; · iexact HB
  isplitl [H0 S0]
  · isplitl [S0]; · iexact S0
    iexact H0
  isplitl [H1 S1]
  · isplitl [S1]; · iexact S1
    iexact H1
  isplitl [H2 S2]
  · isplitl [S2]; · iexact S2
    iexact H2
  isplitl [S3]; · iexact S3
  iexact H3

theorem last_none (c : Dev nD) (o : OwnCell) : ∀ r, lastRound c o ≤ r → (sched (F := F) P).duties (kcell (c, o)) r = ∅ := by
  match o with
  | none => exact fun r hr => duties_later P _ r hr
  | some (k, j) =>
    by_cases h : j = c
    · subst h; exact fun r _ => duties_self_all P j k r (Nat.zero_le _)
    · intro r hr
      refine duties_later P _ r ?_
      have e : lastRound c (some (k, j)) = 1 := if_neg h
      rwa [e] at hr

/-- A device closes its cells: their counters at zero are its own again. -/
theorem close (c : Dev nD) :
    iprop(Ctx P K ∗ (atPos ER (barCell c) 1 ∅ 0 ∗ Wend 0 c ∗ Wend 1 c ∗ Wend 2 c ∗ Wend 3 c ∗ Self c))
      ⊢ |={Set.univ}=> (bigSep Finset.univ fun o : OwnCell => (semVal (kcell (c, o)) 0 : sProp 𝕄)) := by
  refine via _ ?_ (cells_close ER (sched P) Finset.univ (fun o : OwnCell => kcell (c, o)) (fun o => K (c, o)) (fun o _ => Set.mem_univ _) (fun o _ h => h)
    (lastRound c) fun o _ => last_none P c o)
  iintro ⟨#HC, H⟩
  ihave H := (at_end c) $$ H
  iapply (bigSep_with_persistent (R := Ctx P K) (Φ := fun o : OwnCell => (atPos ER (kcell (c, o)) (lastRound c o) ∅ 0 : sProp 𝕄)) fun o _ => by
    iintro ⟨#HC, H⟩
    isplitr
    · iapply (inv_at P K (c, o)); iexact HC
    iexact H)
  isplitr; · iexact HC
  iexact H

/-! ## A device's own semaphores -/

abbrev Own : Type := Fin 6 ⊕ (Fin 4 × Dev nD)

def oq : Own → DmaSem sig
  | .inl 0 => cc0_scratch7.sem
  | .inl 1 => cc0_scratch8.sem
  | .inl 2 => turn cc0_scratch9 0
  | .inl 3 => turn cc0_scratch9 1
  | .inl 4 => turn cc0_scratch10 0
  | .inl 5 => turn cc0_scratch10 1
  | .inr (k, j) => semAt (fam k) j

abbrev osem : Own → SemLoc sig := fun k => .dma (oq k)

theorem oq_inl (k : Fin 6) : (oq (.inl k)).val = 2 + k.val := by
  revert k; decide
theorem oq_inr (k : Fin 4) (j : Dev nD) : (oq (.inr (k, j))).val = 8 + 16 * k.val + j.val := semAt_val k j

theorem oq_inj : Function.Injective oq := by
  intro a b h
  have h := congrArg Fin.val h
  match a, b with
  | .inl a, .inl b => rw [oq_inl, oq_inl] at h; exact congrArg _ (Fin.ext (by omega))
  | .inl a, .inr (k, j) => rw [oq_inl, oq_inr] at h; have := a.isLt; omega
  | .inr (k, j), .inl a => rw [oq_inl, oq_inr] at h; have := a.isLt; omega
  | .inr (k, j), .inr (k', j') =>
    rw [oq_inr, oq_inr] at h
    have h1 : j.val < 16 := j.isLt
    have h2 : j'.val < 16 := j'.isLt
    have e1 : k = k' := Fin.ext (by omega)
    have e2 : j = j' := Fin.ext (by subst e1; omega)
    rw [e1, e2]

theorem oq_ge (a : Own) : 2 ≤ (oq a).val := by
  match a with
  | .inl a => rw [oq_inl]; omega
  | .inr (k, j) => rw [oq_inr]; omega

theorem stage_lt (w : Fin cfg0.W) (s) : ((cfg0.win w).sem s : DmaSem sig).val < 2 := by
  revert w s; decide

theorem own_facts : Pipeline.OwnSemFacts cfg0.spec osem where
  isScoped := by decide +kernel
  inj := fun a b h => oq_inj (SemLoc.dma.inj h)
  disj := fun k w s h => by
    have h1 := congrArg Fin.val (SemLoc.dma.inj h)
    have h2 := oq_ge k
    have h3 := stage_lt w s
    exact absurd h1 (by
      show (oq k).val ≠ ((cfg0.win w).sem s : DmaSem sig).val
      omega)

abbrev OwnZero (c : Dev nD) : sProp 𝕄 := Pipeline.ownSems0 (Ix := Unit) (Name := ℕ) (U := UU) (Lvl := ℕ) (Val := Elt F) (τ := τ) osem c

/-- A device's semaphores at zero: the local copies', and every cell's. -/
theorem sems_eq (c : Dev nD) :
    (iprop(OwnZero c ∗ unscopedSems0 c) : sProp 𝕄) ⊣⊢ iprop(Locals c ∗ bigSep Finset.univ fun o : OwnCell => semVal (kcell (c, o)) 0) := by
  have h1 : (OwnZero c : sProp 𝕄) = iprop((Zero c cc0_scratch7.sem ∗ Zero c cc0_scratch8.sem ∗ Zero c (turn cc0_scratch9 0) ∗ Zero c (turn cc0_scratch9 1)
      ∗ Zero c (turn cc0_scratch10 0) ∗ Zero c (turn cc0_scratch10 1)) ∗ bigSep Finset.univ fun a : Fin 4 × Dev nD => semVal (cell a.1 c a.2) 0) := by
    unfold OwnZero Pipeline.ownSems0
    rw [bigSep_univ_sum, six]
    rfl
  have h2 : (unscopedSems0 c : sProp 𝕄) = semVal (barCell c) 0 := by
    unfold unscopedSems0; rw [bigSep_eq_bigSepL_of_eq [SemLoc.reg barS] (by decide +kernel) (by decide)]; rfl
  have h3 : (bigSep Finset.univ fun o : OwnCell => (semVal (kcell (c, o)) 0 : sProp 𝕄)) = iprop(semVal (barCell c) 0 ∗ bigSep Finset.univ fun a : Fin 4 × Dev nD => semVal (cell a.1 c a.2) 0) :=
    of_opt _
  rw [h1, h2, h3]
  unfold Locals
  constructor
  · iintro ⟨⟨⟨Z0, Z1, Z2, Z3, Z4, Z5⟩, HC⟩, HB⟩
    isplitr [HC HB]
    · isplitl [Z0]; · iexact Z0
      isplitl [Z1]; · iexact Z1
      isplitl [Z2 Z3]
      · isplitl [Z2]; · iexact Z2
        iexact Z3
      isplitl [Z4]; · iexact Z4
      iexact Z5
    isplitl [HB]; · iexact HB
    iexact HC
  · iintro ⟨⟨Z0, Z1, ⟨Z2, Z3⟩, ⟨Z4, Z5⟩⟩, HB, HC⟩
    isplitr [HB]
    · isplitr [HC]
      · isplitl [Z0]; · iexact Z0
        isplitl [Z1]; · iexact Z1
        isplitl [Z2]; · iexact Z2
        isplitl [Z3]; · iexact Z3
        isplitl [Z4]; · iexact Z4
        iexact Z5
      iexact HC
    iexact HB

end Cert.KernelIdeal.Body

end
-- ==== Proof.Ghost.lean ====
/-
# The launch's ghost state

One element is dealt to the devices; their cells' invariants are made under one update, and each device is handed the
duties it pays.
-/
module

public import proofs.«01_k».proof.Proof.Cells

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (P : Dev nD → CB F) (K : CellIx → ℕ)

/-! ## The launch element -/

theorem kcell_inj : Function.Injective (kcell : CellIx → GSem nD τ sig) := by
  rintro ⟨c, o⟩ ⟨c', o'⟩ h
  have h1 : c = c' := by
    have := congrArg (fun g : GSem nD τ sig => g.1.1) h
    match o, o' with
    | none, none => exact this
    | none, some _ => exact this
    | some _, none => exact this
    | some _, some _ => exact this
  subst h1
  match o, o' with
  | none, none => rfl
  | none, some (k, j) => exact absurd (congrArg Prod.snd h).symm (dma_ne_bar _)
  | some (k, j), none => exact absurd (congrArg Prod.snd h) (dma_ne_bar _)
  | some (k, j), some (k', j') =>
    have e : (Sum.inr (k, j) : Own) = Sum.inr (k', j') := oq_inj (SemLoc.dma.inj (congrArg Prod.snd h))
    rw [Sum.inr.inj e]

def ringCells : Finset (GSem nD τ sig) := Finset.univ.map ⟨kcell, kcell_inj⟩

/-- The duties minted: for every device's barrier and each of its four families, one per device. -/
abbrev TokIx : Type := Dev nD × (Option (Fin 4) × Dev nD)
abbrev tokOf : TokIx → GSem nD τ sig × ℕ × Dev nD := fun x => match x.2.1 with
  | none => (barCell x.1, 0, x.2.2)
  | some k => (cell k x.1 x.2.2, 0, x.2.2)

theorem tokOf_inj : Function.Injective tokOf := by
  rintro ⟨c, o, d⟩ ⟨c', o', d'⟩ h
  match o, o' with
  | none, none =>
    have h1 : c = c' := congrArg (fun x : GSem nD τ sig × ℕ × Dev nD => x.1.1.1) h
    have h2 : d = d' := congrArg (fun x : GSem nD τ sig × ℕ × Dev nD => x.2.2) h
    rw [h1, h2]
  | none, some k => exact absurd (congrArg (fun x : GSem nD τ sig × ℕ × Dev nD => x.1.2) h).symm (dma_ne_bar _)
  | some k, none => exact absurd (congrArg (fun x : GSem nD τ sig × ℕ × Dev nD => x.1.2) h) (dma_ne_bar _)
  | some k, some k' =>
    have e : ((c, some (k, d)) : CellIx) = (c', some (k', d')) := kcell_inj (congrArg (fun x : GSem nD τ sig × ℕ × Dev nD => x.1) h)
    cases e; rfl

def ringToks : Finset (GSem nD τ sig × ℕ × Dev nD) := Finset.univ.map ⟨tokOf, tokOf_inj⟩

def u₀ : UU :=
  (initOf (Pipeline.cells cfgs cellOf_inj) (Pipeline.launchToks cfgs cellOf_inj), (initOf ringCells ringToks, (1 : Counters)))

/-- The duties of a device's own cells as minted. -/
def toks (c : Dev nD) : sProp 𝕄 := bigSep Finset.univ fun x : Option (Fin 4) × Dev nD => dutyTok ER (tokOf (c, x)).1 (tokOf (c, x)).2.1 (tokOf (c, x)).2.2

/-- What the launch element deals a device. -/
def G (c : Dev nD) : sProp 𝕄 :=
  iprop((bigSep Finset.univ fun o : OwnCell => roundState ER (sched P) (kcell (c, o)) 0)
    ∗ (bigSep Finset.univ fun o : OwnCell => atPos ER (kcell (c, o)) 0 ∅ 0) ∗ (bigSep Finset.univ fun o : OwnCell => reached ER (kcell (c, o)) 0) ∗ toks c)

theorem fund_ring : BI.own (ER (F := F) (initOf ringCells ringToks)) ⊢ (|==> bigSep Finset.univ (G P) : sProp 𝕄) := by
  have hX (Φ : GSem nD τ sig → sProp 𝕄) : bigSep ringCells Φ = bigSep Finset.univ fun c : Dev nD => bigSep Finset.univ fun o : OwnCell => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched P) ringCells ringToks) $$ HX with ⟨Hst, Hr, Hat, Htok⟩
  imodintro
  ihave Hst := (Entails.of_eq (hX fun g => roundState ER (sched P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- The launch element is the pipeline's part and every device's. -/
theorem launch_elem : (ownU u₀ : sProp 𝕄)
    ⊢ |={Set.univ}=> iprop(BI.own (EP (F := F) (initOf (Pipeline.cells cfgs cellOf_inj) (Pipeline.launchToks cfgs cellOf_inj))) ∗ bigSep Finset.univ (G P)) := by
  unfold u₀
  iintro Hu
  ihave H := (ownU_pair _ _) $$ Hu
  icases H with ⟨HP, HX⟩
  ihave HX := (Entails.of_eq (show (BI.own ((embR : Emb (UB × Counters) 𝕄) (initOf ringCells ringToks, (1 : Counters))) : sProp 𝕄) = BI.own (ER (F := F) (initOf ringCells ringToks)) from rfl)) $$ HX
  imod (fund_ring P) $$ HX with HG
  imodintro
  isplitl [HP]; · iexact HP
  iexact HG

/-! ## The tokens, to those who pay -/

theorem drop_self (c : Dev nD) (Φ : Dev nD → sProp 𝕄) : bigSep Finset.univ Φ ⊢ oth c Φ := by
  rw [oth_at c]
  iintro ⟨-, H⟩
  iexact H

/-- One family's tokens, dropped of the self ones; -/
theorem keep (Φ : Dev nD → Dev nD → sProp 𝕄) :
    (bigSep Finset.univ fun c : Dev nD => bigSep Finset.univ fun d : Dev nD => Φ c d) ⊢ bigSep Finset.univ fun c : Dev nD => oth c (Φ c) :=
  bigSep_mono fun c _ => drop_self c (Φ c)
/-- and handed to the other end. -/
theorem hand (Φ : Dev nD → Dev nD → sProp 𝕄) :
    (bigSep Finset.univ fun c : Dev nD => bigSep Finset.univ fun d : Dev nD => Φ c d) ⊢ bigSep Finset.univ fun c : Dev nD => oth c fun j => Φ j c :=
  (keep Φ).trans (Entails.of_eq (bigSep_erase_comm Φ))

theorem toks_eq (c : Dev nD) : (toks c : sProp 𝕄) = iprop((bigSep Finset.univ fun d => dutyTok ER (barCell c) 0 d)
    ∗ (bigSep Finset.univ fun d => dutyTok ER (cell 0 c d) 0 d) ∗ (bigSep Finset.univ fun d => dutyTok ER (cell 1 c d) 0 d)
    ∗ (bigSep Finset.univ fun d => dutyTok ER (cell 2 c d) 0 d) ∗ (bigSep Finset.univ fun d => dutyTok ER (cell 3 c d) 0 d)) := by
  unfold toks
  rw [bigSep_univ_prod, of_opt, four]

theorem toks_dealt : (bigSep Finset.univ fun c : Dev nD => (toks c : sProp 𝕄)) ⊢ bigSep Finset.univ fun c : Dev nD => iprop(BarTok c ∗ RsTok c ∗ AgTok c) := by
  rw [bigSep_congr (s := Finset.univ) fun (c : Dev nD) _ => toks_eq (F := F) c]
  rw [bigSep_sep', bigSep_sep', bigSep_sep', bigSep_sep', bigSep_sep', bigSep_sep']
  have eR : (bigSep Finset.univ fun c : Dev nD => (RsTok c : sProp 𝕄)) = iprop((bigSep Finset.univ fun c : Dev nD => oth c fun j => dutyTok ER (cell 0 c j) 0 j)
      ∗ bigSep Finset.univ fun c : Dev nD => oth c fun j => dutyTok ER (cell 1 j c) 0 c) :=
    (bigSep_congr fun c _ => oth_sep c _ _).trans (bigSep_sep' _ _ _)
  have eA : (bigSep Finset.univ fun c : Dev nD => (AgTok c : sProp 𝕄)) = iprop((bigSep Finset.univ fun c : Dev nD => oth c fun j => dutyTok ER (cell 2 c j) 0 j)
      ∗ bigSep Finset.univ fun c : Dev nD => oth c fun j => dutyTok ER (cell 3 j c) 0 c) :=
    (bigSep_congr fun c _ => oth_sep c _ _).trans (bigSep_sep' _ _ _)
  rw [eR, eA]
  iintro ⟨HB, H0, H1, H2, H3⟩
  isplitl [HB]
  · iapply (hand (fun c d : Dev nD => (dutyTok ER (barCell c) 0 d : sProp 𝕄))) $$ HB
  isplitl [H0 H1]
  · isplitl [H0]
    · iapply (keep (fun c d : Dev nD => (dutyTok ER (cell 0 c d) 0 d : sProp 𝕄))) $$ H0
    iapply (hand (fun c d : Dev nD => (dutyTok ER (cell 1 c d) 0 d : sProp 𝕄))) $$ H1
  isplitl [H2]
  · iapply (keep (fun c d : Dev nD => (dutyTok ER (cell 2 c d) 0 d : sProp 𝕄))) $$ H2
  iapply (hand (fun c d : Dev nD => (dutyTok ER (cell 3 c d) 0 d : sProp 𝕄))) $$ H3

/-! ## The global step -/

/-- Every cell's invariant, and that its round 0 is open. -/
def Recs (K : CellIx → ℕ) : sProp 𝕄 :=
  iprop((bigSep Finset.univ fun i => cellInv ER (sched P) (K i) (kcell i)) ∗ bigSep Finset.univ fun i => reached ER (kcell i) 0)

instance Recs_persistent : BI.Persistent (Recs P K) := by unfold Recs; infer_instance

/-- What stays with a device. -/
def Mine (c : Dev nD) : sProp 𝕄 :=
  iprop((bigSep Finset.univ fun o : OwnCell => atPos ER (kcell (c, o)) 0 ∅ 0) ∗ (BarTok c ∗ RsTok c ∗ AgTok c) ∗ Locals c)

theorem mine_eq : (bigSep Finset.univ fun c : Dev nD => (Mine c : sProp 𝕄))
    = iprop((bigSep Finset.univ fun c : Dev nD => bigSep Finset.univ fun o : OwnCell => atPos ER (kcell (c, o)) 0 ∅ 0)
      ∗ (bigSep Finset.univ fun c : Dev nD => iprop(BarTok c ∗ RsTok c ∗ AgTok c)) ∗ bigSep Finset.univ fun c : Dev nD => Locals c) := by
  unfold Mine
  rw [bigSep_sep', bigSep_sep']

def G' (c : Dev nD) : sProp 𝕄 := iprop(∃ K, Recs P K ∗ Mine c)

theorem core_alloc (c : Dev nD) :
    iprop(OwnZero c ∗ unscopedSems0 c ∗ G P c)
      ⊢ |={Set.univ}=> (iprop((bigSep Finset.univ fun o : OwnCell => iprop(∃ κ : ℕ, cellInv ER (sched P) κ (kcell (c, o))))
          ∗ (bigSep Finset.univ fun o : OwnCell => atPos ER (kcell (c, o)) 0 ∅ 0) ∗ (bigSep Finset.univ fun o : OwnCell => reached ER (kcell (c, o)) 0) ∗ toks c ∗ Locals c) : sProp 𝕄) := by
  unfold G
  iintro ⟨Hos, Hus, Hst, Hat, Hr, Htok⟩
  ihave Hv := (sems_eq (F := F) c).1 $$ [Hos Hus]
  · isplitl [Hos]; · iexact Hos
    iexact Hus
  icases Hv with ⟨HL, Hv⟩
  imod (show iprop((bigSep Finset.univ fun o : OwnCell => semVal (kcell (c, o)) 0) ∗ bigSep Finset.univ fun o : OwnCell => roundState ER (sched P) (kcell (c, o)) 0)
      ⊢ (|={Set.univ}=> bigSep Finset.univ fun o : OwnCell => iprop(∃ κ : ℕ, cellInv ER (sched P) κ (kcell (c, o))) : sProp 𝕄) from by
        rw [← bigSep_sep']
        exact (bigSep_mono fun o _ => (Rounds.body_intro ER (sched P) (kcell (c, o))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  isplitl [Htok]; · iexact Htok
  iexact HL

theorem regroup :
    (bigSep Finset.univ fun c : Dev nD => iprop((bigSep Finset.univ fun o : OwnCell => iprop(∃ κ : ℕ, cellInv ER (sched P) κ (kcell (c, o))))
          ∗ (bigSep Finset.univ fun o : OwnCell => atPos ER (kcell (c, o)) 0 ∅ 0) ∗ (bigSep Finset.univ fun o : OwnCell => reached ER (kcell (c, o)) 0) ∗ toks c ∗ Locals c) : sProp 𝕄)
      ⊢ bigSep Finset.univ (G' P) := by
  rw [bigSep_sep', bigSep_sep', bigSep_sep', bigSep_sep', ← bigSep_univ_prod (fun i : CellIx => iprop(∃ κ : ℕ, cellInv ER (sched P) κ (kcell i))),
    ← bigSep_univ_prod (fun i : CellIx => (reached ER (kcell i) 0 : sProp 𝕄))]
  iintro ⟨HI, Hat, #HR, Htok, HL⟩
  ihave HK := (BI.bigSep_exists_pi Finset.univ (fun (i : CellIx) (κ : ℕ) => (cellInv ER (sched P) κ (kcell i) : sProp 𝕄))) $$ HI
  icases HK with ⟨%K, #HI⟩
  ihave Htk := (toks_dealt (F := F)) $$ Htok
  iapply (bigSep_with_persistent (R := Recs P K) (Φ := fun c : Dev nD => (Mine c : sProp 𝕄)) fun c _ => by
    unfold G'
    iintro ⟨#HC, H⟩
    iexists K
    isplitr; · iexact HC
    iexact H)
  isplitr
  · unfold Recs; isplitl; · iexact HI
    iexact HR
  iapply (Entails.of_eq (mine_eq (F := F)).symm)
  isplitl [Hat]; · iexact Hat
  isplitl [Htk]; · iexact Htk
  iexact HL

theorem glob : (bigSep Finset.univ fun c => iprop(OwnZero c ∗ unscopedSems0 c ∗ G P c) : sProp 𝕄) ⊢ |={Set.univ}=> bigSep Finset.univ (G' P) :=
  ((bigSep_mono fun c _ => core_alloc P c).trans (bigSep_fupd _ _)).trans (BI.fupd_mono (regroup P))

end Cert.KernelIdeal.Body

end
-- ==== Proof.Credit.lean ====
/-
# The credits of the launch

What every device owes at launch is credit handed to the devices that wait for it.
-/
module

public import proofs.«01_k».proof.Proof.Ghost

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## What is owed to a device's cells -/

theorem owed_eq (d : Dev nD) (g : Dev nD → GSem nD τ sig) (a : ℕ) (x : GSem nD τ sig) :
    owed d g a 0 x () = ∑ j : Dev nD, if j ≠ d ∧ x = g j then a else 0 := by
  unfold owed
  rw [Finset.sum_apply, Finsupp.finset_sum_apply, others, Finset.sum_filter]
  refine Finset.sum_congr rfl fun j _ => ?_
  by_cases h : j = d
  · rw [if_neg (fun h' => h'.1 h), if_neg (fun h' => h'.1 h)]
  · rw [if_pos ⟨h, Nat.zero_le _⟩, tallyAt_apply]
    by_cases h' : x = g j
    · rw [if_pos ⟨h', rfl⟩, if_pos ⟨h, h'⟩]
    · rw [if_neg (fun e => h' e.1), if_neg (fun e => h' e.2)]

theorem owed_none (d : Dev nD) (g : Dev nD → GSem nD τ sig) (a : ℕ) (x : GSem nD τ sig) (h : ∀ j, x ≠ g j) : owed d g a 0 x () = 0 := by
  rw [owed_eq]
  exact Finset.sum_eq_zero fun j _ => if_neg fun e => h j e.2
theorem owed_one (d j : Dev nD) (g : Dev nD → GSem nD τ sig) (a : ℕ) (x : GSem nD τ sig) (h : ∀ i, x = g i ↔ i = j) :
    owed d g a 0 x () = if j ≠ d then a else 0 := by
  rw [owed_eq, Finset.sum_eq_single j]
  · by_cases e : j = d
    · rw [if_neg (fun h' => h'.1 e), if_neg (fun h' => h' e)]
    · rw [if_pos ⟨e, (h j).mpr rfl⟩, if_pos e]
  · exact fun i _ hi => if_neg fun e => hi ((h i).mp e.2)
  · exact fun e => absurd (Finset.mem_univ _) e

theorem cell_eq {k k' : Fin 4} {c c' j j' : Dev nD} : cell k c j = cell k' c' j' ↔ k = k' ∧ c = c' ∧ j = j' :=
  ⟨fun h => by
    have e : ((c, some (k, j)) : CellIx) = (c', some (k', j')) := kcell_inj h
    cases e; exact ⟨rfl, rfl, rfl⟩, fun ⟨h1, h2, h3⟩ => by rw [h1, h2, h3]⟩
theorem cell_ne_bar (k : Fin 4) (c j d : Dev nD) : cell k c j ≠ barCell d := fun h => dma_ne_bar _ (congrArg Prod.snd h)

theorem owed_bar (d c : Dev nD) : O₀ d (barCell c) () = if c ≠ d then 1 else 0 := by
  show (OA d 0 + OR d 0 + OB d 0) (barCell c) () = _
  rw [Pi.add_apply, Finsupp.add_apply, Pi.add_apply, Finsupp.add_apply, owed_none d _ N _ fun j h => cell_ne_bar _ _ _ _ h.symm,
    owed_none d _ N _ fun j h => cell_ne_bar _ _ _ _ h.symm,
    owed_one d c barCell 1 (barCell c) fun i => ⟨fun h => (congrArg (fun g : GSem nD τ sig => g.1.1) h).symm, fun h => by rw [h]⟩]
  omega

theorem owed_rs (d c j : Dev nD) (h : j ≠ c) : O₀ d (cell 1 c j) () = if d = j then N else 0 := by
  show (OA d 0 + OR d 0 + OB d 0) (cell 1 c j) () = _
  rw [Pi.add_apply, Finsupp.add_apply, Pi.add_apply, Finsupp.add_apply, owed_none d _ N (cell 1 c j) fun i h => absurd (cell_eq.mp h).1 (by decide),
    owed_none d _ 1 _ fun i h => cell_ne_bar _ _ _ _ h]
  by_cases e : d = j
  · subst e
    rw [owed_one d c _ N _ fun i => ⟨fun h => (cell_eq.mp h).2.1.symm, fun h => by rw [h]⟩, if_pos (fun h' => h h'.symm), if_pos rfl]
    omega
  · rw [owed_none d _ N _ fun i h => e (cell_eq.mp h).2.2.symm, if_neg e]

theorem owed_ag (d c j : Dev nD) (h : j ≠ c) : O₀ d (cell 3 c j) () = if d = j then N else 0 := by
  show (OA d 0 + OR d 0 + OB d 0) (cell 3 c j) () = _
  rw [Pi.add_apply, Finsupp.add_apply, Pi.add_apply, Finsupp.add_apply, owed_none d (fun j => cell 1 j d) N (cell 3 c j) fun i h => absurd (cell_eq.mp h).1 (by decide),
    owed_none d _ 1 _ fun i h => cell_ne_bar _ _ _ _ h]
  by_cases e : d = j
  · subst e
    rw [owed_one d c _ N _ fun i => ⟨fun h => (cell_eq.mp h).2.1.symm, fun h => by rw [h]⟩, if_pos (fun h' => h h'.symm), if_pos rfl]
    omega
  · rw [owed_none d _ N _ fun i h => e (cell_eq.mp h).2.2.symm, if_neg e]

theorem launch_of (c : Dev nD) (x : GSem nD τ sig) (a : ℕ) (h : (∑ d : Dev nD, O₀ d x ()) = a) (hx : x = ((c : Thread nD τ), x.2)) :
    tallyOn x (launchCredit (Pipeline.owing O₀) 0 x) = (tallyAt x () a : CellTallies nD τ sig Unit) := by
  unfold tallyAt; refine congrArg _ (Finsupp.ext fun u => ?_); cases u
  rw [hx, Pipeline.launchCredit_owing, Finsupp.single_eq_same, ← hx, h]

theorem launch_bar (c : Dev nD) :
    tallyOn (barCell c) (launchCredit (Pipeline.owing O₀) 0 (barCell c)) = (tallyAt (barCell c) () 15 : CellTallies nD τ sig Unit) :=
  launch_of c _ 15 (by
    rw [Finset.sum_congr rfl fun d _ => owed_bar d c]
    revert c; decide) rfl
theorem launch_rs (c j : Dev nD) (h : j ≠ c) :
    tallyOn (cell 1 c j) (launchCredit (Pipeline.owing O₀) 0 (cell 1 c j)) = (tallyAt (cell 1 c j) () N : CellTallies nD τ sig Unit) :=
  launch_of c _ N (by rw [Finset.sum_congr rfl fun d _ => owed_rs d c j h, Finset.sum_ite_eq' Finset.univ j fun _ => N, if_pos (Finset.mem_univ _)]) rfl
theorem launch_ag (c j : Dev nD) (h : j ≠ c) :
    tallyOn (cell 3 c j) (launchCredit (Pipeline.owing O₀) 0 (cell 3 c j)) = (tallyAt (cell 3 c j) () N : CellTallies nD τ sig Unit) :=
  launch_of c _ N (by rw [Finset.sum_congr rfl fun d _ => owed_ag d c j h, Finset.sum_ite_eq' Finset.univ j fun _ => N, if_pos (Finset.mem_univ _)]) rfl

def cellSem (c : Dev nD) : OwnCell ↪ SemLoc sig :=
  ⟨fun o => (kcell (c, o)).2, fun o o' h => by
    have e : kcell (c, o) = kcell (c, o') := by
      match o, o' with
      | none, none => rfl
      | none, some _ => exact absurd h.symm (dma_ne_bar _)
      | some _, none => exact absurd h (dma_ne_bar _)
      | some _, some _ => exact congrArg (Prod.mk (c : Thread nD τ)) h
    exact (Prod.mk.inj (kcell_inj e)).2⟩

/-- The credits a device starts with: its barrier's fifteen units, and each receive cell's transfer. -/
theorem creds (c : Dev nD) :
    (Pipeline.launchCred O₀ c : sProp 𝕄) ⊢ iprop(cred (tallyAt (barCell c) () 15) ∗ Wcr 1 c ∗ Wcr 3 c) := by
  unfold Pipeline.launchCred Wcr
  refine via _ (bigSep_subset (Finset.subset_univ (Finset.univ.map (cellSem c)))) ?_
  rw [bigSep_map, of_cells c]
  unfold pair
  have e0 : cellSem c none = SemLoc.reg barS := rfl
  have e1 (j : Dev nD) (k : Fin 4) : cellSem c (some (k, j)) = SemLoc.dma (semAt (fam k) j) := rfl
  simp only [e0, e1]
  iintro ⟨HB, -, ⟨-, H1⟩, -, ⟨-, H3⟩⟩
  isplitl [HB]
  · iapply (Entails.of_eq (congrArg cred (launch_bar c))) $$ HB
  isplitl [H1]
  · iapply (Entails.of_eq (oth_congr c fun j hj => congrArg cred (launch_rs c j hj))) $$ H1
  iapply (Entails.of_eq (oth_congr c fun j hj => congrArg cred (launch_ag c j hj))) $$ H3

end Cert.KernelIdeal.Body

end
-- ==== Proof.Device.lean ====
/-
# The run of one device

From what the launch hands it to what it ends with.
-/
module

public import proofs.«01_k».proof.Proof.Credit

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## The contents -/

abbrev inX (c : Dev nD) : Vec F S1x256x1024 .f32 := m ((c : Thread nD τ).loc main_arg0)
abbrev in1 (c : Dev nD) : Buf (Elt F) ((c : Thread nD τ).loc main_arg1) := m ((c : Thread nD τ).loc main_arg1)
abbrev in2 (c : Dev nD) : Buf (Elt F) ((c : Thread nD τ).loc main_arg2) := m ((c : Thread nD τ).loc main_arg2)
abbrev in3 (c : Dev nD) : Buf (Elt F) ((c : Thread nD τ).loc main_arg3) := m ((c : Thread nD τ).loc main_arg3)
abbrev in4 (c : Dev nD) : Buf (Elt F) ((c : Thread nD τ).loc main_arg4) := m ((c : Thread nD τ).loc main_arg4)

/-- A device's partial result. -/
def Pm (c : Dev nD) : CB F :=
  partOf (inX m c) (wqVal c (in1 m c)) (kv (Memref.whole main_arg2) (in2 m c)) (kv (Memref.whole main_arg3) (in3 m c)) (woVal c (in4 m c))

/-- What every device ends with. -/
def outM : Vec F S1x256x1024 .f32 := k0_pay40 (agAll (Pm m))

/-! ## The run of one device -/

/-- What a device's body starts from, but for its scratch, its staging buffers and what it owes. -/
def start (c : Dev nD) : sProp 𝕄 :=
  iprop(G' (Pm m) c ∗ (cred (tallyAt (barCell c) () 15) ∗ Wcr 1 c ∗ Wcr 3 c) ∗ levAts L lv
    ∗ (((c : Thread nD τ).loc main_arg1) ↦{fullShare} in1 m c) ∗ (((c : Thread nD τ).loc main_arg2) ↦{fullShare} in2 m c)
    ∗ (((c : Thread nD τ).loc main_arg3) ↦{fullShare} in3 m c) ∗ (((c : Thread nD τ).loc main_arg4) ↦{fullShare} in4 m c))

def Scratch (c : Dev nD) : sProp 𝕄 :=
  iprop(Some c cc0_scratch0 ∗ Some c cc0_scratch1 ∗ Some c cc0_scratch2 ∗ Some c cc0_scratch3 ∗ Some c cc0_scratch4 ∗ Some c cc0_scratch5 ∗ Some c cc0_scratch6)

def Φ₀ (c : Dev nD) : sProp 𝕄 := iprop(start m c ∗ Scratch c)
def Φ₁ (c : Dev nD) : sProp 𝕄 :=
  iprop((bigSep Finset.univ fun o : OwnCell => semVal (kcell (c, o)) 0) ∗ Locals c ∗ Bufs c (in1 m c) (in2 m c) (in3 m c) (in4 m c))

/-- The body's precondition, from what the device starts from; what it does not use stays aside. -/
theorem enter (c : Dev nD) {f5 : Buf (Elt F) ((c : Thread nD τ).loc cc0_stg1_0)} :
    iprop(Φ₀ m c ∗ owesE c (O₀ c) ∗ Has c (Memref.whole cc0_stg0_0) (inX m c) ∗ (((c : Thread nD τ).loc cc0_stg1_0) ↦{fullShare} f5))
      ⊢ (iprop(∃ K, Ctx (Pm m) K ∗ ((SigSt c 0 ∗ (Zero c cc0_scratch7.sem ∗ At c (wqSrc c) (in1 m c) ∗ Any c (Memref.whole cc0_scratch0)) ∗ (Zero c cc0_scratch8.sem ∗ At c (woSrc c) (in4 m c) ∗ Any c (Memref.whole cc0_scratch1)) ∗ Rest (Memref.whole main_arg2) (Memref.whole cc0_scratch2) cc0_scratch9 c (in2 m c) ∗ Rest (Memref.whole main_arg3) (Memref.whole cc0_scratch3) cc0_scratch10 c (in3 m c) ∗ Has c (Memref.whole cc0_stg0_0) (inX m c) ∗ Any c (Memref.whole cc0_scratch4) ∗ Any c (Memref.whole cc0_scratch5) ∗ cred (tallyAt (barCell c) () 15) ∗ atPos ER (barCell c) 0 ∅ 0 ∗ RsTok c ∗ AgTok c ∗ Wcr 1 c ∗ Wcr 3 c ∗ Wat 0 c ∗ Wat 1 c ∗ Wat 2 c ∗ Wat 3 c ∗ (∃ f, rPts c c f) ∗ At c (Memref.whole cc0_stg1_0) f5)
          ∗ (Self c ∗ wqRest c (in1 m c) ∗ woRest c (in4 m c)))) : sProp 𝕄) := by
  unfold Φ₀ start Scratch G' Mine
  iintro ⟨⟨⟨⟨%K, HRec, Hat, ⟨HBT, HRT, HAT⟩, HL⟩, ⟨HcB, Hc1, Hc3⟩, Hlev, A1, A2, A3, A4⟩, HS⟩, HO, HX, HY⟩
  iexists K
  ihave Hat := (at_start c) $$ Hat
  icases Hat with ⟨HaB, Ha0, Ha1, Ha2, Ha3, Hself⟩
  ihave HP := (parts_in c (in1 m c) (in2 m c) (in3 m c) (in4 m c)) $$ [HL HS A1 A2 A3 A4]
  · isplitl [HL]; · iexact HL
    unfold Bufs
    isplitl [HS]; · iexact HS
    isplitl [A1]; · iexact A1
    isplitl [A2]; · iexact A2
    isplitl [A3]; · iexact A3
    iexact A4
  icases HP with ⟨H6, HP⟩
  ihave HSig := (sig_start c) $$ [HO HBT H6]
  · isplitl [HO]; · iexact HO
    isplitl [HBT]; · iexact HBT
    iexact H6
  icases HSig with ⟨HSig, Hrc⟩
  unfold Parts
  icases HP with ⟨HQ, HW, HKR, HVR, H4, H5, Hwq, Hwo⟩
  isplitl [HRec Hlev]
  · unfold Ctx Recs
    icases HRec with ⟨H1, H2⟩
    isplitl [H1]; · iexact H1
    isplitl [H2]; · iexact H2
    iexact Hlev
  isplitr [Hself Hwq Hwo]
  · isplitl [HSig]; · iexact HSig
    isplitl [HQ]; · iexact HQ
    isplitl [HW]; · iexact HW
    isplitl [HKR]; · iexact HKR
    isplitl [HVR]; · iexact HVR
    isplitl [HX]; · iexact HX
    isplitl [H4]; · iexact H4
    isplitl [H5]; · iexact H5
    isplitl [HcB]; · iexact HcB
    isplitl [HaB]; · iexact HaB
    isplitl [HRT]; · iexact HRT
    isplitl [HAT]; · iexact HAT
    isplitl [Hc1]; · iexact Hc1
    isplitl [Hc3]; · iexact Hc3
    isplitl [Ha0]; · iexact Ha0
    isplitl [Ha1]; · iexact Ha1
    isplitl [Ha2]; · iexact Ha2
    isplitl [Ha3]; · iexact Ha3
    isplitl [Hrc]; · iexact Hrc
    iapply (Entails.of_eq (at_whole c cc0_stg1_0 f5).symm) $$ HY
  isplitl [Hself]; · iexact Hself
  isplitl [Hwq]; · iexact Hwq
  iexact Hwo

/-- What the body leaves is what the device ends with, its cells closed. -/
theorem leave (c : Dev nD) (K : CellIx → ℕ) :
    iprop(Ctx (Pm m) K ∗ (owesE c (0 : CellTallies nD τ sig Unit) ∗ atPos ER (barCell c) 1 ∅ 0 ∗ Wend 0 c ∗ Wend 1 c ∗ Wend 2 c ∗ Wend 3 c ∗ CW c (agAll (Pm m)) ∗ RW c (rsAll (Pm m) c) ∗ Here (Memref.whole main_arg2) (Memref.whole cc0_scratch2) cc0_scratch9 c (in2 m c) 7 ∗ Here (Memref.whole main_arg3) (Memref.whole cc0_scratch3) cc0_scratch10 c (in3 m c) 7 ∗ (Zero c cc0_scratch7.sem ∗ Has c (Memref.whole cc0_scratch0) (wqVal c (in1 m c)) ∗ At c (wqSrc c) (in1 m c)) ∗ (Zero c cc0_scratch8.sem ∗ Has c (Memref.whole cc0_scratch1) (woVal c (in4 m c)) ∗ At c (woSrc c) (in4 m c)) ∗ Has c (Memref.whole cc0_scratch4) (ctxOf (k0_pay1 (inX m c) (wqVal c (in1 m c))) (kv (Memref.whole main_arg2) (in2 m c)) (kv (Memref.whole main_arg3) (in3 m c))) ∗ Has c (Memref.whole cc0_stg0_0) (inX m c) ∗ Has c (Memref.whole cc0_stg1_0) (outM m))
        ∗ (Self c ∗ wqRest c (in1 m c) ∗ woRest c (in4 m c)))
      ⊢ |={Set.univ}=> (iprop(Φ₁ m c ∗ owesE c (0 : CellTallies nD τ sig Unit) ∗ Has c (Memref.whole cc0_stg0_0) (inX m c) ∗ Has c (Memref.whole cc0_stg1_0) (outM m)) : sProp 𝕄) := by
  iintro ⟨#HC, ⟨HO, HaB, H0, H1, H2, H3, HCW, HRW, HKH, HVH, ⟨Z7, HS0, A1⟩, ⟨Z8, HS1, A4⟩, HS4, HX, HY⟩, Hself, Hwq, Hwo⟩
  imod (close (Pm m) K c) $$ [HaB H0 H1 H2 H3 Hself] with Hz
  · isplitr; · iexact HC
    isplitl [HaB]; · iexact HaB
    isplitl [H0]; · iexact H0
    isplitl [H1]; · iexact H1
    isplitl [H2]; · iexact H2
    isplitl [H3]; · iexact H3
    iexact Hself
  imodintro
  isplitr [HO HX HY]
  · unfold Φ₁
    isplitl [Hz]; · iexact Hz
    iapply (parts_out c (in1 m c) (in2 m c) (in3 m c) (in4 m c))
    isplitl [HRW]
    · iexists (rsAll (Pm m) c); iexact HRW
    unfold Parts
    isplitl [Z7 HS0 A1]
    · isplitl [Z7]; · iexact Z7
      isplitl [A1]; · iexact A1
      iapply (any_of_has c _ _) $$ HS0
    isplitl [Z8 HS1 A4]
    · isplitl [Z8]; · iexact Z8
      isplitl [A4]; · iexact A4
      iapply (any_of_has c _ _) $$ HS1
    isplitl [HKH]; · iapply (rest_of_here _ _ _ c _ _) $$ HKH
    isplitl [HVH]; · iapply (rest_of_here _ _ _ c _ _) $$ HVH
    isplitl [HS4]; · iapply (any_of_has c _ _) $$ HS4
    isplitl [HCW]
    · iapply (Entails.of_eq (some_any c cc0_scratch5))
      iexists (agAll (Pm m)); iexact HCW
    isplitl [Hwq]; · iexact Hwq
    iexact Hwo
  isplitl [HO]; · iexact HO
  isplitl [HX]; · iexact HX
  iexact HY

/-- The kernel on a device's own buffers. -/
abbrev bodyOf : Prog (TpuEff nD τ sig (Elt F) Λ₀ .tc) PUnit :=
  cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14

theorem body_run (c : Dev nD) {f5 : Buf (Elt F) ((c : Thread nD τ).loc cc0_stg1_0)} :
    iprop(Φ₀ m c ∗ owesE c (O₀ c) ∗ Has c (Memref.whole cc0_stg0_0) (inX m c) ∗ (((c : Thread nD τ).loc cc0_stg1_0) ↦{fullShare} f5))
      ⊢ wp frame (wpE (defs₀ (F := F)) 𝒱₀ (c : Thread nD τ) none) Set.univ bodyOf
        fun _ => iprop(Φ₁ m c ∗ owesE c (0 : CellTallies nD τ sig Unit) ∗ Has c (Memref.whole cc0_stg0_0) (inX m c) ∗ Has c (Memref.whole cc0_stg1_0) (outM m)) := by
  refine via _ (enter m c) ?_
  iintro ⟨%K, #HC, HM, HR⟩
  iapply (wp_fupd _ _ _ _ _)
  ihave HW := (body (P := Pm m) (K := K) c (Memref.whole cc0_stg0_0) (Memref.isWhole_whole _) (Memref.whole cc0_stg1_0) (Memref.isWhole_whole _) (f5 := f5) (inX m c) rfl) $$ [HM]
  · isplitr; · iexact HC
    iexact HM
  iapply (wp_wand _ _ _) $$ HW
  iintro %b HB
  iapply (leave m c K)
  isplitr; · iexact HC
  isplitl [HB]; · iexact HB
  iexact HR

end Cert.KernelIdeal.Body

end
-- ==== Proof.Launch.lean ====
/-
# The launch

The kernel on sixteen devices: every run ends with every device's result the same sum.
-/
module

public import proofs.«01_k».proof.Proof.Device
public import Idealize.ShloMosaic.Lib.Pipeline.CollectiveSegs
public import Idealize.ShloMosaic.Lib.Quiescent
public import proofs.«01_k».proof.Proof.Gen.KernelIdeal.Points

@[expose] public section

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## The pipeline's proof data -/

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => inX m c
    | ⟨1, _⟩ => outM m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem whole_read {b : Ref sig .tc} (f : b.ty.Contents (Elt F)) {off : Fin b.ty.shape.rank → ℕ} (ho : off = fun _ => 0) (inb) :
    ((Memref.whole b).access (Rect.unit (s := b.ty.shape) off b.ty.shape.size inb)).read (Elt F) f = f :=
  Memref.read_access_unit_zero (Elt F) b ho inb f

theorem idx0 (w : Fin cfg0.W) (t : Fin cfg0.N) (a) : (cfg0.win w).index t a = 0 := by
  revert t; revert a; revert w; decide

theorem in_block (c : Dev nD) (t : Fin cfg0.N) : (dats m ρ 0 c).blockOf 0 t = inX m c :=
  whole_read (b := main_arg0) (inX m c) (funext fun a => by rw [show (cfg0.win 0).index t a = 0 from idx0 0 t a]; exact Nat.zero_mul _) _

theorem before_in (c : Dev nD) (t : Fin cfg0.N) (d) : (dats m ρ 0 c).before 0 t d = inX m c :=
  ((dats m ρ 0 c).before_in_eq_fetched 0 rfl (fun _ => rfl) (fun _ _ _ => rfl) (fun t => (in_block m ρ c t).symm) t d).trans (in_block m ρ c t)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev Stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem held_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := whole_set c b f

theorem stg_has (c : Dev nD) (X : Vec F S1x256x1024 .f32) : (Stg c cc0_stg0_0 X : sProp 𝕄) ⊢ Has c (Memref.whole cc0_stg0_0) X := by
  unfold Has
  iintro ⟨%f, %hf, H⟩
  iexists f
  isplitl [H]; · iapply (Entails.of_eq (held_whole c cc0_stg0_0 f).symm) $$ H
  ipureintro
  exact (View.read_whole _ _).trans hf
theorem has_stg0 (c : Dev nD) (X : Vec F S1x256x1024 .f32) : (Has c (Memref.whole cc0_stg0_0) X : sProp 𝕄) ⊢ Stg c cc0_stg0_0 X := by
  unfold Has
  iintro ⟨%f, H, %hf⟩
  iexists f
  isplitr
  · ipureintro; exact (View.read_whole _ _).symm.trans hf
  iapply (Entails.of_eq (held_whole c cc0_stg0_0 f)) $$ H
theorem has_stg1 (c : Dev nD) (X : Vec F S1x256x1024 .f32) : (Has c (Memref.whole cc0_stg1_0) X : sProp 𝕄) ⊢ Stg c cc0_stg1_0 X := by
  unfold Has
  iintro ⟨%f, H, %hf⟩
  iexists f
  isplitr
  · ipureintro; exact (View.read_whole _ _).symm.trans hf
  iapply (Entails.of_eq (held_whole c cc0_stg1_0 f)) $$ H

def bodyPre (c : Dev nD) : sProp 𝕄 :=
  iprop(Φ₀ m c ∗ (dats m ρ 0 c).owesAt () t0_0.castSucc
    ∗ (∃ d, Stg c cc0_stg0_0 ((dats m ρ 0 c).before (0 : Fin 2) t0_0 d))
    ∗ (∃ d, Stg c cc0_stg1_0 ((dats m ρ 0 c).before (1 : Fin 2) t0_0 d)))

def bodyPost (c : Dev nD) : sProp 𝕄 :=
  iprop(Φ₁ m c ∗ (dats m ρ 0 c).owesAt () t0_0.succ ∗ Stg c cc0_stg0_0 (inX m c) ∗ Stg c cc0_stg1_0 (outM m))

theorem body_ok (c : Dev nD) :
    bodyPre m ρ c ⊢ wp frame (wpE (defs₀ (F := F)) 𝒱₀ (c : Thread nD τ) none) Set.univ bodyOf fun _ => bodyPost m ρ c := by
  unfold bodyPre Pipeline.Dat.owesAt Pipeline.owesWithin
  rw [show (dats m ρ 0 c).owed t0_0.castSucc = O₀ c from rfl]
  iintro ⟨HΦ, ⟨%W, -, HO⟩, ⟨%d, HX⟩, ⟨%d', %f5, -, HY⟩⟩
  rw [before_in]
  ihave HW := (body_run m c (f5 := f5)) $$ [HΦ HO HX HY]
  · isplitl [HΦ]; · iexact HΦ
    isplitl [HO]; · unfold owesE; iexists W; iexact HO
    isplitl [HX]; · iapply (stg_has c (inX m c)) $$ HX
    iexact HY
  iapply (wp_wand _ _ _) $$ HW
  unfold owesE
  iintro %b ⟨HΦ, ⟨%W', HO⟩, HX, HY⟩
  unfold bodyPost Pipeline.Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [HX]; · iapply (has_stg0 c (inX m c)) $$ HX
  iapply (has_stg1 c (outM m)) $$ HY

set_option maxRecDepth 4000 in
theorem body_obligation (c : Dev nD) : Pipeline.BodyObligation (dats (F := F) m ρ 0 c) (defs₀ (F := F)) 𝒱₀ () Set.univ := fun t => by
  rw [show t = t0_0 from fin_N0 t]
  rw [bigSep_W0, bigSep_W0]
  simp only [owns_whole_eq]
  exact body_ok m ρ c

/-! ## The side conditions -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Pm m) c)
      ⊢ |={Set.univ}=> (iprop(start m c ∗ emp) : sProp 𝕄) := by
  rw [Pipeline.unscopedRestP_none, unscopedRest0_eq]
  iintro ⟨⟨A1, A2, A3, A4⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [A1]; · iexact A1
    isplitl [A2]; · iexact A2
    isplitl [A3]; · iexact A3
    iexact A4
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs]; · iexact Hs
  iexact Hr

/-- The arrays in memory, as the launch found them. -/
def Arrs (c : Dev nD) : sProp 𝕄 :=
  iprop((((c : Thread nD τ).loc main_arg1) ↦{fullShare} in1 m c) ∗ (((c : Thread nD τ).loc main_arg2) ↦{fullShare} in2 m c)
    ∗ (((c : Thread nD τ).loc main_arg3) ↦{fullShare} in3 m c) ∗ (((c : Thread nD τ).loc main_arg4) ↦{fullShare} in4 m c))

theorem phi1_exit (c : Dev nD) :
    (dats m ρ 0 c).Φ (Fin.last cfg0.N) ⊢ iprop((unscopedSems0 c ∗ Arrs m c) ∗ OwnZero c ∗ Pipeline.scopedRest cfg0.spec c) := by
  rw [show (dats m ρ 0 c).Φ (Fin.last cfg0.N) = Φ₁ m c from rfl, scopedRest0_eq]
  unfold Φ₁ Bufs
  iintro ⟨Hz, HL, Hscr, HA⟩
  ihave H := (sems_eq (F := F) c).2 $$ [Hz HL]
  · isplitl [HL]; · iexact HL
    iexact Hz
  icases H with ⟨Ho, Hu⟩
  isplitl [Hu HA]
  · isplitl [Hu]; · iexact Hu
    unfold Arrs; iexact HA
  isplitl [Ho]; · iexact Ho
  iexact Hscr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_zero c _ (by
        have h := stage_lt w s
        show (if ((cfg0.win w).sem s : DmaSem sig).val < 8 then 0 else _) ≤ 0
        rw [if_pos (by omega)])
    · show _ ⊢ MayWait (c : Thread nD τ) _ () 0
      rw [MayWait_zero]
      iintro -
      iempintro

/-! ## The run -/

/-- What a device's memory holds at the end. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg1) = in1 m c ∧ s.mem ((c : Thread nD τ).loc main_arg2) = in2 m c
    ∧ s.mem ((c : Thread nD τ).loc main_arg3) = in3 m c ∧ s.mem ((c : Thread nD τ).loc main_arg4) = in4 m c

theorem one_read {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HS⟩
  ihave H := (pointsTo_read_all (q := fullShare) ({()} : Finset Unit) (fun _ => ℓ) (fun _ => f) s') $$ [H HS]
  · isplitl [H]
    · iapply (Entails.of_eq (bigSep_singleton (i := ()) (Φ := fun _ => (ℓ ↦{fullShare} f : sProp 𝕄))).symm) $$ H
    iexact HS
  icases H with ⟨%h, HS⟩
  isplitr; · ipureintro; exact h () (Finset.mem_singleton_self _)
  iexact HS

theorem reads (c : Dev nD) (s' : Phys nD τ sig (Elt F)) :
    iprop((unscopedSems0 c ∗ Arrs m c) ∗ emp ∗ SI s') ⊢ |={Set.univ}=> (iprop(⌜Ends m c s'.mem⌝ ∗ SI s') : sProp 𝕄) := by
  unfold Arrs
  iintro ⟨⟨Hu, A1, A2, A3, A4⟩, -, HS⟩
  imod (Pipeline.unscopedSems0_read (X := unscopedSems0 c) (c := c) fupd_intro s') $$ [Hu HS] with ⟨%hu, HS⟩
  · isplitl [Hu]; · iexact Hu
    iexact HS
  ihave H := (one_read (in1 m c) s') $$ [A1 HS]
  · isplitl [A1]; · iexact A1
    iexact HS
  icases H with ⟨%h1, HS⟩
  ihave H := (one_read (in2 m c) s') $$ [A2 HS]
  · isplitl [A2]; · iexact A2
    iexact HS
  icases H with ⟨%h2, HS⟩
  ihave H := (one_read (in3 m c) s') $$ [A3 HS]
  · isplitl [A3]; · iexact A3
    iexact HS
  icases H with ⟨%h3, HS⟩
  ihave H := (one_read (in4 m c) s') $$ [A4 HS]
  · isplitl [A4]; · iexact A4
    iexact HS
  icases H with ⟨%h4, HS⟩
  imodintro
  isplitr; · ipureintro; exact ⟨hu, h1, h2, h3, h4⟩
  iexact HS

/-- What a window's array ends with. -/
def finalA (c : Dev nD) (w : Fin cfg0.W) : Buf (Elt F) ((cfg0.win w).arr.view.loc (c : Thread nD τ)) := (dats m ρ 0 c).arrAt w cfg0.N

set_option maxRecDepth 8000 in
theorem run_raw : θ_run defs (onTc (τ := τ) (main (F := F))) (s₀ m ρ)
    (fun r => (∀ c : Dev nD, (∀ w : Fin cfg0.W, r.2.mem ((cfg0.win w).arr.view.loc (c : Thread nD τ)) = finalA m ρ c w) ∧ Ends m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Pm m)) (G' := G' (Pm m)) (u₀ := u₀)
    (hu₀ := launch_elem (Pm m))
    (hglob := glob (Pm m))
    (hA := fun _ _ => rfl) (hpf := fun _ k => k.elim0)
    (X := start m) (Y := fun c => iprop(unscopedSems0 c ∗ Arrs m c)) (Z := fun _ => iprop(emp))
    (hX := start_intro m ρ) (hin := phi0_intro m ρ) (hout := phi1_exit m ρ)
    (QY := Ends m)
    (hY := reads m)
    (hQ := fun _ h hs => ⟨fun c => ⟨(h c).1, (h c).2.2⟩, sem_eq_zero hs fun c => (h c).2.2.1⟩)

theorem final_in (c : Dev nD) : finalA m ρ c (0 : Fin 2) = m ((c : Thread nD τ).loc main_arg0) :=
  (dats (F := F) m ρ 0 c).arrAt_in (0 : Fin 2) rfl _

theorem final_out (c : Dev nD) : finalA m ρ c (1 : Fin 2) = outM m := by
  have h : (win0_1.blk t0_0).view.read (Elt F) (finalA m ρ c (1 : Fin 2)) = outM m := by
    unfold finalA
    rw [show cfg0.N = (t0_0 : Fin cfg0.N).val + 1 from N_0, (dats m ρ 0 c).arrAt_succ (1 : Fin 2) t0_0]
    rw [show (cfg0.win (1 : Fin 2)).flush t0_0 = true from by decide +kernel, if_pos rfl]
    exact View.read_write_univ _ _
  refine Eq.trans ?_ h
  exact (whole_read (b := main_v1) (finalA m ρ c (1 : Fin 2)) (funext fun a => by rw [show (cfg0.win 1).index t0_0 a = 0 from idx0 1 t0_0 a]; exact Nat.zero_mul _) _).symm

/-- Every run of the kernel on sixteen devices ends, every device's result the same, the arguments as they were and
    every semaphore at zero. -/
theorem run_main : θ_run defs (onTc (τ := τ) (main (F := F))) ⟨m, fun _ => 0, ρ⟩ (fun r => (∀ c : Dev nD,
      r.2.mem ((c.tc : Thread nD τ).loc main_v1) = outM m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 (1 : Fin 2)).trans (final_out m ρ c), ((h.1 c).1 (0 : Fin 2)).trans (final_in m ρ c),
    (h.1 c).2.2.1, (h.1 c).2.2.2.1, (h.1 c).2.2.2.2.1, (h.1 c).2.2.2.2.2⟩, h.2⟩) (run_raw m ρ)

end Cert.KernelIdeal.Body

end
-- ==== Proof.Frames.lean ====
/-
  The frames: each of the three programs runs to its end, leaves its arguments as they were and every semaphore
  counter at zero. The kernel's two frames are its one run, read at the machine's floats and at the extended reals;
  the reference's is its run on one device.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

/-- The kernel's run on any float values, with its result dropped. -/
theorem run_frame {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩)
    (Cert.KernelIdeal.Body.run_main (F := F) m ρ)

/-- The idealized kernel's frame. -/
theorem frame_ideal : Cert.quiescent_KernelIdeal := fun m ρ _ => run_frame (F := Ideal) m ρ

set_option smartUnfolding false in
set_option maxRecDepth 20000 in
/-- The kernel's frame: the same text, run on the machine's floats. -/
theorem frame_kernel : Cert.quiescent_Kernel := fun m ρ _ => run_frame (F := Bits) m ρ

/-- The reference's frame: it declares no semaphore, and no operation of it writes an argument. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The side conditions of the precondition, of the kernel's blocks. -/
theorem facts_kernel : Cert.Pre_finite_KernelIdeal.Facts := by constructor <;> decide

/-- The side conditions of the precondition, of the reference's arrays. -/
theorem facts_reference : Cert.Pre_finite_ReferenceIdeal.Facts := by constructor <;> decide

/-- The idealized kernel's frame on finite inputs is its frame. -/
theorem frame_ideal_finite [Cert.Pre_finite_KernelIdeal.Facts] : Cert.quiescent_KernelIdeal_pre_finite_KernelIdeal :=
  fun m ρ _ => run_frame (F := Ideal) m ρ

/-- The reference's frame on finite inputs is its frame. -/
theorem frame_reference_finite [Cert.Pre_finite_ReferenceIdeal.Facts] : Cert.quiescent_ReferenceIdeal_pre_finite_ReferenceIdeal :=
  fun m ρ _ => frame_reference m ρ trivial

end Cert.Proof

end
-- ==== Proof.KerRead.lean ====
/-
# The kernel's heads, read at an index

Every head of the body is the same function of its slice of the queries, its keys and its values.
-/
module

public import proofs.«01_k».proof.Proof.Body
public import Idealize.ShloMosaic.Lib.Pointwise

@[expose] public section

noncomputable section

namespace Cert.KernelIdeal.Body

open Cert.KernelIdeal Cert.KernelIdeal.Gen
open Idealize.ShloMosaic
open Idealize.ShloMosaic.TcCoe

/-- The masked exponentials of one head's scores. -/
def headExps (off : Fin 2 → ℕ) (h : S256x1024.Slices off S256x128) (q : FVec Ideal S256x1024 .f32) (k : Vec Ideal S1x4096x128 .f32) : FVec Ideal S256x4096 .f32 :=
  select maskOf (exp (matmul dot_S256x128_S4096x128_S256x4096_1_1_0_0_n_n none (truncf .bf16 (extractStridedSlice S256x128 off q h : FVec Ideal S256x128 .f32) bitsLt_bf16_f32 : FVec Ideal S256x128 .bf16)
    (truncf .bf16 (shapeCast S4096x128 k shapeCasts_S1x4096x128_S4096x128 : FVec Ideal S4096x128 .f32) bitsLt_bf16_f32 : FVec Ideal S4096x128 .bf16) (constant S256x4096 .f32 0x00000000#32 : FVec Ideal S256x4096 .f32)))
    (broadcast S256x4096 (Scalar.ofBits .f32 0x00000000#32 : Ideal .f32))

/-- One head's result. -/
def headOf (off : Fin 2 → ℕ) (h : S256x1024.Slices off S256x128) (q : FVec Ideal S256x1024 .f32) (k v : Vec Ideal S1x4096x128 .f32) : FVec Ideal S256x128 .f32 :=
  divf (matmul dot_S256x4096_S4096x128_S256x128_1_0_0_1_n_n none (truncf .bf16 (headExps off h q k) bitsLt_bf16_f32 : FVec Ideal S256x4096 .bf16)
      (truncf .bf16 (shapeCast S4096x128 v shapeCasts_S1x4096x128_S4096x128 : FVec Ideal S4096x128 .f32) bitsLt_bf16_f32 : FVec Ideal S4096x128 .bf16) (constant S256x128 .f32 0x00000000#32 : FVec Ideal S256x128 .f32))
    (broadcastTo S256x128 (shapeCast S256x1 (multiReduction .add [1] S256 (headExps off h q k) 0x00000000#32 reduces_S256x4096_S256 (.inl rfl) rfl) shapeCasts_S256_S256x1 : FVec Ideal S256x1 .f32) broadcasts_S256x1_S256x128)

/-- Head `h`'s columns of the queries. -/
theorem headSlices (h : Fin 8) : S256x1024.Slices ![0, 128 * h.val] S256x128 := by revert h; decide

/-- The heads' results side by side. -/
theorem ctxOf_eq (q : FVec Ideal S256x1024 .f32) (k v : Fin 8 → Vec Ideal S1x4096x128 .f32) :
    ctxOf q k v = shapeCast S256x1024 (truncf .bf16 (concatenate S256x1024 1
      (List.ofFn fun h : Fin 8 => (⟨S256x128, headOf ![0, 128 * h.val] (headSlices h) q (k h) (v h)⟩ : (s : Shape) × (s.Idx → Ideal .f32)))
      concatenates_S256x128_S256x128_S256x128_S256x128_S256x128_S256x128_S256x128_S256x128_S256x1024_d1 : FVec Ideal S256x1024 .f32) bitsLt_bf16_f32 : FVec Ideal S256x1024 .bf16) shapeCasts_S256x1024_S256x1024 := rfl

/-- A head's score at a row and a position. -/
def headScore (o : ℕ) (ho : o + 128 ≤ 1024) (q : FVec Ideal S256x1024 .f32) (k : Vec Ideal S1x4096x128 .f32) (i : Fin 256) (j : Fin 4096) : EReal :=
  ∑ d : Fin 128, q (ix2 i ⟨o + d.val, by omega⟩) * k (ix3 0 j d)

/-- A head's masked exponential at a row and a position. -/
theorem headExps_apply (o : ℕ) (ho : o + 128 ≤ 1024) (h : S256x1024.Slices ![0, o] S256x128) (q : FVec Ideal S256x1024 .f32) (k : Vec Ideal S1x4096x128 .f32) (i : Fin 256) (j : Fin 4096) :
    headExps ![0, o] h q k (ix2 i j) = if maskOf (ix2 i j) = 1#1 then Ideal.exp (headScore o ho q k i j) else 0 := by
  pointwise [headExps, headScore]
  rfl

/-- A head's result at a row and a column. -/
theorem headOf_apply (o : ℕ) (ho : o + 128 ≤ 1024) (h : S256x1024.Slices ![0, o] S256x128) (q : FVec Ideal S256x1024 .f32) (k v : Vec Ideal S1x4096x128 .f32) (i : Fin 256) (d : Fin 128) :
    headOf ![0, o] h q k v (ix2 i d)
      = Ideal.div (∑ j : Fin 4096, (if maskOf (ix2 i j) = 1#1 then Ideal.exp (headScore o ho q k i j) else 0) * v (ix3 0 j d))
          (∑ j : Fin 4096, if maskOf (ix2 i j) = 1#1 then Ideal.exp (headScore o ho q k i j) else 0) := by
  simp only [← headExps_apply o ho h q k i]
  pointwise [headOf]

end Cert.KernelIdeal.Body
-- ==== Proof.KerValue.lean ====
/-
# What every device ends with, at an index

The sum over the devices of each one's eight heads, projected by its rows of the last matrix.
-/
module

public import proofs.«01_k».proof.Proof.KerRead
public import proofs.«01_k».proof.Proof.Device

@[expose] public section

noncomputable section

namespace Cert.KernelIdeal.Body

open Cert.KernelIdeal Cert.KernelIdeal.Gen
open Idealize.ShloMosaic
open Idealize.ShloMosaic.TcCoe

/-- The heads' results at a row and a column: head `h`'s at its own column. -/
theorem ctxOf_apply (q : FVec Ideal S256x1024 .f32) (k v : Fin 8 → Vec Ideal S1x4096x128 .f32) (i : Fin 256) (h : Fin 8) (d : Fin 128) :
    ctxOf q k v (ix2 i ⟨128 * h.val + d.val, by omega⟩) = headOf ![0, 128 * h.val] (headSlices h) q (k h) (v h) (ix2 i d) := by
  rw [ctxOf_eq, shapeCast_self]
  change concatenate S256x1024 1 (List.ofFn fun h : Fin 8 => (⟨S256x128, headOf ![0, 128 * h.val] (headSlices h) q (k h) (v h)⟩ : (s : Shape) × (s.Idx → Ideal .f32)))
    concatenates_S256x128_S256x128_S256x128_S256x128_S256x128_S256x128_S256x128_S256x128_S256x1024_d1 _ = _
  refine concatenate_ofFn_apply (t := S256x1024) 1 (fun h : Fin 8 => headOf ![0, 128 * h.val] (headSlices h) q (k h) (v h)) _ rfl 128 rfl _ h ?_ (ix2 i d) ?_ ?_
  · change (128 * h.val + d.val) / 128 = h.val; omega
  · change d.val = (128 * h.val + d.val) % 128; omega
  · intro b hb
    match b with
    | ⟨0, _⟩ => rfl
    | ⟨1, _⟩ => exact absurd rfl hb

/-- The queries of a device at a row and a column. -/
theorem pay1_apply (x : Vec Ideal S1x256x1024 .f32) (wq : Vec Ideal S1024x1024 .f32) (i : Fin 256) (r : Fin 1024) :
    k0_pay1 x wq (ix2 i r) = ∑ m : Fin 1024, (x (ix3 0 i m) * Ideal.ofBits .f32 0x3DB504F3#32) * wq (ix2 m r) := by
  pointwise [k0_pay1]

/-- A device's partial result at a chunk, a row of it and a column. -/
theorem pay37_apply (wo : Vec Ideal S1024x1024 .f32) (x : Vec Ideal S256x1024 .bf16) (a b : Fin 16) (n : Fin 1024) :
    k0_pay37 wo x (ix3 a b n) = ∑ r : Fin 1024, x (ix2 ⟨a.val * 16 + b.val, by omega⟩ r) * wo (ix2 r n) := by
  pointwise [k0_pay37]

/-- A reduced chunk is the sum of its slots. -/
theorem pay39_apply (x : Vec Ideal S16x16x1024 .bf16) (b : Fin 16) (n : Fin 1024) :
    k0_pay39 x (ix3 0 b n) = ∑ c : Fin 16, x (ix3 c b n) := by
  pointwise [k0_pay39]

/-- The result, from its sixteen chunks. -/
theorem pay40_apply (x : Vec Ideal S16x16x1024 .bf16) (a b : Fin 16) (n : Fin 1024) :
    k0_pay40 x (ix3 0 ⟨a.val * 16 + b.val, by omega⟩ n) = x (ix3 a b n) := by
  pointwise [k0_pay40]

/-- What every device ends with, from the partial results. -/
theorem outM_apply (m : (ℓ : Loc nD τ sig) → Buf (Elt Ideal) ℓ) (a b : Fin 16) (n : Fin 1024) :
    outM m (ix3 0 ⟨a.val * 16 + b.val, by omega⟩ n) = @Finset.sum (Fin 16) EReal _ Finset.univ fun c => Pm m c (ix3 a b n) := by
  unfold outM
  rw [pay40_apply]
  change k0_pay39 (rsAll (Pm m) a) (at1 (ix3 a b n)) = _
  rw [show at1 (ix3 a b n) = ix3 0 b n from by funext t; match t with | ⟨0, _⟩ => rfl | ⟨1, _⟩ => rfl | ⟨2, _⟩ => rfl, pay39_apply]
  refine Finset.sum_congr rfl fun c _ => ?_
  change Pm m c (at3 a (ix3 c b n)) = _
  rw [show at3 a (ix3 c b n) = ix3 a b n from by funext t; match t with | ⟨0, _⟩ => rfl | ⟨1, _⟩ => rfl | ⟨2, _⟩ => rfl]

/-- A device's columns of the query weights. -/
theorem wqVal_apply (c : Dev nD) (f : Vec Ideal S1024x16384 .f32) (m r : Fin 1024) :
    wqVal (F := Ideal) c f (ix2 m r) = f (ix2 m ⟨1024 * c.val + r.val, by have : c.val < 16 := c.isLt; omega⟩) := by
  change f _ = f _
  congr 1
  funext t
  apply Fin.ext
  match t with
  | ⟨0, _⟩ => change k0_off1 c 0 + 1 * m.val = m.val; rw [k0_off1_eq]; change 0 + 1 * m.val = m.val; omega
  | ⟨1, _⟩ => change k0_off1 c 1 + 1 * r.val = 1024 * c.val + r.val; rw [k0_off1_eq]; change 1024 * c.val + 1 * r.val = _; omega

/-- A device's rows of the output weights. -/
theorem woVal_apply (c : Dev nD) (f : Vec Ideal S16384x1024 .f32) (r n : Fin 1024) :
    woVal (F := Ideal) c f (ix2 r n) = f (ix2 ⟨1024 * c.val + r.val, by have : c.val < 16 := c.isLt; omega⟩ n) := by
  change f _ = f _
  congr 1
  funext t
  apply Fin.ext
  match t with
  | ⟨0, _⟩ => change k0_off2 c 0 + 1 * r.val = 1024 * c.val + r.val; rw [k0_off2_eq]; change 1024 * c.val + 1 * r.val = _; omega
  | ⟨1, _⟩ => change k0_off2 c 1 + 1 * n.val = n.val; rw [k0_off2_eq]; change 0 + 1 * n.val = n.val; omega

/-- Head `h`'s place in the keys or the values: its own column of heads. -/
theorem head_idx (h : Fin 8) (j : Fin 4096) (d : Fin 128) :
    (Rect.unit (s := S1x4096x8x128) ![0, 0, h.val, 0] S1x4096x1x128.size (by revert h; decide)).emb
      (Shape.reshapeEquiv (Shape.Squeezes.numel_eq squeezes_S1x4096x1x128_S4096x128)
        (Shape.reshapeEquiv (Shape.Squeezes.numel_eq squeezes_S1x4096x128_S4096x128).symm (ix3 0 j d))) = ix4 0 j h d := by
  rw [show Shape.reshapeEquiv (Shape.Squeezes.numel_eq squeezes_S1x4096x128_S4096x128).symm (ix3 0 j d : S1x4096x128.Idx) = (ix2 j d : S4096x128.Idx) from by pointwise,
    show Shape.reshapeEquiv (Shape.Squeezes.numel_eq squeezes_S1x4096x1x128_S4096x128) (ix2 j d : S4096x128.Idx) = (ix4 0 j 0 d : S1x4096x1x128.Idx) from by pointwise]
  funext t
  apply Fin.ext
  match t with
  | ⟨0, _⟩ => rfl
  | ⟨1, _⟩ => change 0 + 1 * j.val = j.val; omega
  | ⟨2, _⟩ => change h.val + 1 * 0 = h.val; omega
  | ⟨3, _⟩ => change 0 + 1 * d.val = d.val; omega

/-- Head `h` of the keys. -/
theorem kv_key (c : Dev nD) (f : Vec Ideal S1x4096x8x128 .f32) (h : Fin 8) (j : Fin 4096) (d : Fin 128) :
    kv (F := Ideal) (Memref.whole main_arg2) (c := c) f h (ix3 0 j d) = f (ix4 0 j h d) :=
  congrArg f (head_idx h j d)

/-- Head `h` of the values. -/
theorem kv_value (c : Dev nD) (f : Vec Ideal S1x4096x8x128 .f32) (h : Fin 8) (j : Fin 4096) (d : Fin 128) :
    kv (F := Ideal) (Memref.whole main_arg3) (c := c) f h (ix3 0 j d) = f (ix4 0 j h d) :=
  congrArg f (head_idx h j d)

end Cert.KernelIdeal.Body
-- ==== Proof.RefStages.lean ====
/-
# The reference in stages

The printed result of the reference is one composed term. Here it is cut into the mask, the scores, the weights and the
heads' results, each a function of the arguments.
-/
module

public import proofs.«01_k».proof.Proof.Gen.ReferenceIdeal.Run
public import Idealize.ShloMosaic.Lib.Pointwise

@[expose] public section

noncomputable section

namespace Cert.ReferenceIdeal.Stage

open Cert.ReferenceIdeal Cert.ReferenceIdeal.Gen
open Idealize.ShloMosaic
open Idealize.ShloMosaic.TcCoe

/-- The block of sixty-four positions that each row lies in. -/
def rowBlock : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The block of sixty-four positions that each key lies in. -/
def keyBlock : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

/-- The row's block, over the whole square. -/
def rows : IVec S256x4096 32 := broadcastInDim S256x4096 ![0, 1] bcast_S256x1_S256x4096_0_1 (broadcastInDim S256x1 ![0] bcast_S256_S256x1_0 rowBlock)

/-- The keys' blocks, as one row. -/
def keyRow : IVec S1x4096 32 := broadcastInDim S1x4096 ![1] bcast_S4096_S1x4096_1 keyBlock

/-- The key's block, over the whole square. -/
def keys : IVec S256x4096 32 := broadcastInDim S256x4096 ![0, 1] bcast_S1x4096_S256x4096_0_1 keyRow

/-- The divisor three, guarded against zero. -/
def three : IVec S_ 32 := select (cmpi .eq (id (constantI S_ 32 3#32)) (constantI S_ 32 0#32)) (constantI S_ 32 1#32) (id (constantI S_ 32 3#32))

/-- The sum of the two blocks, truncated remainder by three. -/
def remT : IVec S256x4096 32 := Host.remsi (addi rows keys) (broadcastInDim S256x4096 ![] bcast_S_S256x4096 three)

/-- The positions that attend to one another. -/
def mask : IVec S256x4096 1 :=
  ori (ori (cmpi .eq rows keys) (broadcastInDim S256x4096 ![0, 1] bcast_S1x4096_S256x4096_0_1 (cmpi .eq keyRow (broadcastInDim S1x4096 ![] bcast_S_S1x4096 (constantI S_ 32 0#32)))))
    (cmpi .eq (select (andi (cmpi .ne (cmpi .slt remT (broadcastInDim S256x4096 ![] bcast_S_S256x4096 (constantI S_ 32 0#32)))
          (broadcastInDim S256x4096 ![] bcast_S_S256x4096 (cmpi .slt three (constantI S_ 32 0#32))))
        (cmpi .ne remT (broadcastInDim S256x4096 ![] bcast_S_S256x4096 (constantI S_ 32 0#32))))
      (addi remT (broadcastInDim S256x4096 ![] bcast_S_S256x4096 three)) remT)
      (broadcastInDim S256x4096 ![] bcast_S_S256x4096 (constantI S_ 32 0#32)))

/-- The rows that attend to some position. -/
def kept : IVec S1x1x256x1 1 := broadcastInDim S1x1x256x1 ![2] bcast_S256_S1x1x256x1_2 (Host.reduce IntOp.ori mask (constantI S_ 1 0#1) reducesTo_S256x4096_S256_d1 h_S_)

/-- The scores, −∞ where the mask leaves a position out. -/
def scores (x : FVec Ideal S1x256x1024 .f32) (wq : FVec Ideal S1024x16384 .f32) (k : FVec Ideal S1x4096x128x128 .f32) : FVec Ideal S1x128x256x4096 .f32 :=
  select (broadcastInDim S1x128x256x4096 ![0, 1, 2, 3] bcast_S1x1x256x4096_S1x128x256x4096_0_1_2_3 (broadcastInDim S1x1x256x4096 ![2, 3] bcast_S256x4096_S1x1x256x4096_2_3 mask))
    (mulf (Host.dotGeneral dot_S1x256x128x128_S1x4096x128x128_S1x128x256x4096_3_3_1_1_02_02 none
        (shapeCast S1x256x128x128 (Host.dotGeneral dot_S1x256x1024_S1024x16384_S1x256x16384_2_0_01_1_n_n none x wq : FVec Ideal S1x256x16384 .f32) shapeCasts_S1x256x16384_S1x256x128x128) k)
      (broadcastInDim S1x128x256x4096 ![] bcast_S_S1x128x256x4096 (constant S_ .f32 0x3DB504F3#32)))
    (broadcastInDim S1x128x256x4096 ![] bcast_S_S1x128x256x4096 (id (constant S_ .f32 0xFF800000#32)))

/-- The exponentials of the scores less each row's largest. -/
def exps (t : FVec Ideal S1x128x256x4096 .f32) : FVec Ideal S1x128x256x4096 .f32 :=
  Host.exp (subf t (broadcastInDim S1x128x256x4096 ![0, 1, 2, 3] bcast_S1x128x256x1_S1x128x256x4096_0_1_2_3
    (broadcastInDim S1x128x256x1 ![0, 1, 2] bcast_S1x128x256_S1x128x256x1_0_1_2
      (Host.reduce FloatOps.maximumf t (constant S_ .f32 0xFF800000#32) reducesTo_S1x128x256x4096_S1x128x256_d3 h_S_))))

/-- The weights: each row's exponentials by their sum, in the rows that attend to some position. -/
def weights (e : FVec Ideal S1x128x256x4096 .f32) : FVec Ideal S1x128x256x4096 .f32 :=
  select (broadcastInDim S1x128x256x4096 ![0, 1, 2, 3] bcast_S1x1x256x1_S1x128x256x4096_0_1_2_3 kept)
    (Host.divf e (broadcastInDim S1x128x256x4096 ![0, 1, 2, 3] bcast_S1x128x256x1_S1x128x256x4096_0_1_2_3
      (select (broadcastInDim S1x128x256x1 ![0, 1, 2, 3] bcast_S1x1x256x1_S1x128x256x1_0_1_2_3 kept)
        (broadcastInDim S1x128x256x1 ![0, 1, 2] bcast_S1x128x256_S1x128x256x1_0_1_2 (Host.reduceAdd e (constant S_ .f32 0x00000000#32) reducesTo_S1x128x256x4096_S1x128x256_d3 h_S_))
        (broadcastInDim S1x128x256x1 ![] bcast_S_S1x128x256x1 (id (constant S_ .f32 0x3F800000#32))))))
    (broadcastInDim S1x128x256x4096 ![] bcast_S_S1x128x256x4096 (id (constant S_ .f32 0x00000000#32)))

/-- The heads' results, side by side in each row. -/
def ctx (v : FVec Ideal S1x4096x128x128 .f32) (p : FVec Ideal S1x128x256x4096 .f32) : FVec Ideal S1x256x16384 .f32 :=
  shapeCast S1x256x16384 (transpose S1x256x128x128 [0, 3, 1, 2]
    (Host.dotGeneral dot_S1x4096x128x128_S1x128x256x4096_S1x128x128x256_1_3_3_2_02_01 none v p : FVec Ideal S1x128x128x256 .f32)
    transposes_S1x128x128x256_S1x256x128x128_0_3_1_2) shapeCasts_S1x256x128x128_S1x256x16384

/-- The projection of the heads' results. -/
def out (c : FVec Ideal S1x256x16384 .f32) (wo : FVec Ideal S16384x1024 .f32) : FVec Ideal S1x256x1024 .f32 :=
  Host.dotGeneral dot_S1x256x16384_S16384x1024_S1x256x1024_2_0_01_1_n_n none c wo

set_option maxRecDepth 20000 in
/-- The reference's result, in stages. -/
theorem res_eq (m : (ℓ : Loc nD τ sig) → Buf (Elt Ideal) ℓ) (c : Dev nD) :
    Value.res_main_v44 m c
      = out (ctx (m ((c.tc : Thread nD τ).loc main_arg3)) (weights (exps (scores (m ((c.tc : Thread nD τ).loc main_arg0)) (m ((c.tc : Thread nD τ).loc main_arg1)) (m ((c.tc : Thread nD τ).loc main_arg2))))))
          (m ((c.tc : Thread nD τ).loc main_arg4)) := rfl

end Cert.ReferenceIdeal.Stage
-- ==== Proof.RefRead.lean ====
/-
# The reference's stages, at an index
-/
module

public import proofs.«01_k».proof.Proof.RefStages
public import Idealize.ShloMosaic.Lib.Routing.OpsOrder

@[expose] public section

noncomputable section

namespace Cert.ReferenceIdeal.Stage

open Cert.ReferenceIdeal Cert.ReferenceIdeal.Gen
open Idealize.ShloMosaic
open Idealize.ShloMosaic.TcCoe

/-- The literal for −∞. -/
theorem ofBits_neg_inf : Ideal.ofBits .f32 0xFF800000#32 = ⊥ := by simp [Ideal.ofBits, Ideal.ieee]

/-- A score at a head, a row and a position. -/
theorem scores_apply (x : FVec Ideal S1x256x1024 .f32) (wq : FVec Ideal S1024x16384 .f32) (k : FVec Ideal S1x4096x128x128 .f32) (h : Fin 128) (i : Fin 256) (j : Fin 4096) :
    scores x wq k (ix4 0 h i j) = if mask (ix2 i j) = 1#1
      then (∑ d : Fin 128, (∑ m : Fin 1024, x (ix3 0 i m) * wq (ix2 m ⟨h.val * 128 + d.val, by omega⟩)) * k (ix4 0 j h d)) * Ideal.ofBits .f32 0x3DB504F3#32 else ⊥ := by
  rw [← ofBits_neg_inf]
  pointwise [scores]
  rfl

/-- An exponential at a head, a row and a position. -/
theorem exps_apply (t : FVec Ideal S1x128x256x4096 .f32) (h : Fin 128) (i : Fin 256) (j : Fin 4096) :
    exps t (ix4 0 h i j) = Ideal.exp (t (ix4 0 h i j) - Finset.univ.fold max (⊥ : EReal) fun j' : Fin 4096 => t (ix4 0 h i j')) := by
  rw [← ofBits_neg_inf]
  pointwise [exps]

/-- A weight, in a row that attends to some position. -/
theorem weights_apply (e : FVec Ideal S1x128x256x4096 .f32) (h : Fin 128) (i : Fin 256) (j : Fin 4096) (hk : kept (ix4 0 0 i 0) = 1#1) :
    weights e (ix4 0 h i j) = Ideal.div (e (ix4 0 h i j)) (∑ j' : Fin 4096, e (ix4 0 h i j')) := by
  pointwise [weights]
  rw [hk]
  rfl

/-- A head's result at a row and a column. -/
theorem ctx_apply (v : FVec Ideal S1x4096x128x128 .f32) (p : FVec Ideal S1x128x256x4096 .f32) (i : Fin 256) (h d : Fin 128) :
    ctx v p (ix3 0 i ⟨h.val * 128 + d.val, by omega⟩) = ∑ j : Fin 4096, v (ix4 0 j h d) * p (ix4 0 h i j) := by
  pointwise [ctx]

/-- The projection at a row and a column. -/
theorem out_apply (c : FVec Ideal S1x256x16384 .f32) (wo : FVec Ideal S16384x1024 .f32) (i : Fin 256) (n : Fin 1024) :
    out c wo (ix3 0 i n) = ∑ r : Fin 16384, c (ix3 0 i r) * wo (ix2 r n) := by
  pointwise [out]

end Cert.ReferenceIdeal.Stage
-- ==== Proof.Mask.lean ====
/-
# The mask of the kernel is the reference's

Both programs find the blocks of sixty-four that a row and a position lie in by a rounded-down quotient of signed words,
and compare them. Both quotients are read back as quotients of numbers; then both masks are functions of two blocks.
-/
module

public import proofs.«01_k».proof.Proof.RefStages
public import proofs.«01_k».proof.Proof.KerRead
public import Idealize.ShloMosaic.Lib.Routing.OpsOrder

@[expose] public section

noncomputable section

namespace Cert.Mask

open Idealize.ShloMosaic
open Cert.ReferenceIdeal.Stage
open Cert.KernelIdeal.Gen Cert.KernelIdeal.Body

/-- A quotient of signed words rounded down, from the signs of the two words. -/
def floorDiv (u : ArithUnit) (x d sx sd : BitVec 32) : BitVec 32 :=
  Scalar.select (IntOp.andi (IntOp.cmpi .ne sx sd) (IntOp.cmpi .ne (IntOp.remsi u x d) 0#32)) (IntOp.subi (IntOp.divsi u x d) 1#32) (IntOp.divsi u x d)

/-- A sign, from two comparisons. -/
def signK (x : BitVec 32) : BitVec 32 :=
  IntOp.subi (BitVec.setWidth 32 (IntOp.cmpi .sgt x 0#32)) (BitVec.setWidth 32 (IntOp.cmpi .slt x 0#32))

/-- A sign, by cases. -/
def signR (x : BitVec 32) : BitVec 32 := if x = 0 then 0 else if x.msb = true then -1 else 1

/-- Whether two blocks attend to one another, from a test of the two signs. -/
def meets (u : ArithUnit) (f : BitVec 1 → BitVec 1 → BitVec 1) (a b t : BitVec 32) : BitVec 1 :=
  IntOp.ori (IntOp.ori (IntOp.cmpi .eq a b) (IntOp.cmpi .eq b 0#32))
    (IntOp.cmpi .eq (Scalar.select (IntOp.andi (f (IntOp.cmpi .slt (IntOp.remsi u (IntOp.addi a b) t) 0#32) (IntOp.cmpi .slt t 0#32))
        (IntOp.cmpi .ne (IntOp.remsi u (IntOp.addi a b) t) 0#32)) (IntOp.addi (IntOp.remsi u (IntOp.addi a b) t) t) (IntOp.remsi u (IntOp.addi a b) t)) 0#32)

theorem floorK (n : Fin 4096) : floorDiv .vector (BitVec.ofNat 32 n.val) 64#32 (signK (BitVec.ofNat 32 n.val)) (signK 64#32) = BitVec.ofNat 32 (n.val / 64) := by
  revert n; decide +kernel

theorem floorR (n : Fin 4096) : floorDiv .host (BitVec.ofNat 32 n.val) 64#32 (signR (BitVec.ofNat 32 n.val)) (signR 64#32) = BitVec.ofNat 32 (n.val / 64) := by
  revert n; decide +kernel

theorem meets_eq (a : Fin 4) (b : Fin 64) : meets .vector IntOp.xori (BitVec.ofNat 32 a.val) (BitVec.ofNat 32 b.val) 3#32
    = meets .host (IntOp.cmpi .ne) (BitVec.ofNat 32 a.val) (BitVec.ofNat 32 b.val) 3#32 := by
  revert a b; decide +kernel

theorem meets_first (a : Fin 4) : meets .host (IntOp.cmpi .ne) (BitVec.ofNat 32 a.val) 0#32 3#32 = 1#1 := by
  revert a; decide +kernel

/-- The reference's row block. -/
theorem rows_apply (i : Fin 256) (j : Fin 4096) : rows (ix2 i j) = BitVec.ofNat 32 (i.val / 64) := by
  refine Eq.trans ?_ (floorR ⟨i.val, by omega⟩)
  pointwise [rows, rowBlock]
  rfl

/-- The reference's key block. -/
theorem keyBlock_apply (j : Fin 4096) : keyBlock (ix1 j) = BitVec.ofNat 32 (j.val / 64) := by
  refine Eq.trans ?_ (floorR j)
  pointwise [keyBlock]
  rfl

theorem keys_apply (i : Fin 256) (j : Fin 4096) : keys (ix2 i j) = BitVec.ofNat 32 (j.val / 64) := by
  rw [← keyBlock_apply j]
  pointwise [keys, keyRow]

/-- The reference's mask. -/
theorem mask_apply (i : Fin 256) (j : Fin 4096) :
    mask (ix2 i j) = meets .host (IntOp.cmpi .ne) (BitVec.ofNat 32 (i.val / 64)) (BitVec.ofNat 32 (j.val / 64)) 3#32 := by
  pointwise [mask, remT, keyRow, three, rows_apply, keys_apply, keyBlock_apply]
  rfl

/-- The kernel's row block. -/
theorem pay4_apply (i : Fin 256) (j : Fin 4096) :
    k0_pay4 (iota .tc Cert.KernelIdeal.S256x4096 32 [0] iota_S256x4096_d0_w32) 64#32 k0_pay2 k0_pay3 (Scalar.extui (Scalar.cmpi .sgt 64#32 0#32)) (Scalar.extui (Scalar.cmpi .slt 64#32 0#32)) (ix2 i j)
      = BitVec.ofNat 32 (i.val / 64) := by
  refine Eq.trans ?_ (floorK ⟨i.val, by omega⟩)
  pointwise [k0_pay4, k0_pay3, k0_pay2]
  rfl

/-- The kernel's key block. -/
theorem pay5_apply (i : Fin 256) (j : Fin 4096) : k0_pay5 (ix2 i j) = BitVec.ofNat 32 (j.val / 64) := by
  refine Eq.trans ?_ (floorK j)
  pointwise [k0_pay5]
  rfl

/-- The kernel's mask. -/
theorem maskOf_apply (i : Fin 256) (j : Fin 4096) :
    maskOf (ix2 i j) = meets .vector IntOp.xori (BitVec.ofNat 32 (i.val / 64)) (BitVec.ofNat 32 (j.val / 64)) 3#32 := by
  rw [← pay4_apply i j, ← pay5_apply i j]
  pointwise [maskOf, k0_pay9, k0_pay8, k0_pay7, k0_pay6]
  rfl

/-- The two masks agree. -/
theorem mask_eq (i : Fin 256) (j : Fin 4096) : maskOf (ix2 i j) = mask (ix2 i j) := by
  rw [maskOf_apply, mask_apply]
  exact meets_eq ⟨i.val / 64, by omega⟩ ⟨j.val / 64, by omega⟩

/-- Every row attends to the first position. -/
theorem mask_first (i : Fin 256) : mask (ix2 i 0) = 1#1 := by
  rw [mask_apply]
  exact meets_first ⟨i.val / 64, by omega⟩

/-- Every row attends to some position. -/
theorem kept_eq (i : Fin 256) : kept (ix4 0 0 i 0) = 1#1 := by
  pointwise [kept]
  exact (Routing.fold_ori _ _).2 ⟨0, Finset.mem_univ _, mask_first i⟩

end Cert.Mask
-- ==== Proof.Softmax.lean ====
/-
# Two ways of weighting, one result

The reference subtracts the largest score of a row before it exponentiates; the kernel does not, and divides once at the
end. Over the extended reals both give the same, as long as the scores are real and one position of the row is kept.
-/
module

public import Idealize.ShloMosaic.Lib.Pointwise

@[expose] public section

noncomputable section

namespace Cert.Softmax

open Idealize.ShloMosaic

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals times a nonnegative real constant, term by term. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A quotient of two reals whose divisor is not zero. -/
theorem div_coe (x : EReal) {y : ℝ} (hy : y ≠ 0) : Ideal.div x (y : EReal) = x * ((y⁻¹ : ℝ) : EReal) := by
  unfold Ideal.div
  rw [if_neg (by exact_mod_cast hy), EReal.coe_inv]

/-- The largest of real scores, those left out counting as −∞, is real when one is kept. -/
theorem fold_max_real {n : ℕ} (b : Fin n → Prop) [DecidablePred b] (s : Fin n → ℝ) (j0 : Fin n) (h0 : b j0) :
    ∃ m : ℝ, Finset.univ.fold max (⊥ : EReal) (fun j => if b j then (s j : EReal) else ⊥) = (m : EReal) := by
  set M := Finset.univ.fold max (⊥ : EReal) (fun j => if b j then (s j : EReal) else ⊥) with hM
  have hlo : (s j0 : EReal) ≤ M :=
    (Finset.le_fold_max _).2 (.inr ⟨j0, Finset.mem_univ _, by rw [if_pos h0]⟩)
  have hhi : M < ⊤ :=
    (Finset.fold_max_lt _).2 ⟨bot_lt_top, fun j _ => by
      by_cases hj : b j
      · rw [if_pos hj]; exact EReal.coe_lt_top _
      · rw [if_neg hj]; exact bot_lt_top⟩
  refine ⟨M.toReal, (EReal.coe_toReal hhi.ne fun h => ?_).symm⟩
  rw [h] at hlo
  exact absurd (le_bot_iff.1 hlo) (EReal.coe_ne_bot _)

/-- One row's result: weights from the scores as they are, divided at the end, against weights from the scores less the
    row's largest, divided one by one. -/
theorem row_eq {n : ℕ} (b : Fin n → Prop) [DecidablePred b] (s : Fin n → ℝ) (v : Fin n → EReal) (j0 : Fin n) (h0 : b j0)
    (t : Fin n → EReal) (ht : ∀ j, t j = if b j then (s j : EReal) else ⊥) (M : EReal) (hM : M = Finset.univ.fold max (⊥ : EReal) t) :
    Ideal.div (∑ j, (if b j then Ideal.exp (s j) else 0) * v j) (∑ j, if b j then Ideal.exp (s j) else 0)
      = ∑ j, v j * Ideal.div (Ideal.exp (t j - M)) (∑ k, Ideal.exp (t k - M)) := by
  obtain rfl : t = fun j => if b j then (s j : EReal) else ⊥ := funext ht
  obtain ⟨m, hm⟩ := fold_max_real b s j0 h0
  rw [hm] at hM
  subst hM
  have hk : ∀ j, (if b j then Ideal.exp (s j) else 0) = ((if b j then Real.exp (s j) else 0 : ℝ) : EReal) := fun j => by
    by_cases h : b j <;> simp [h]
  have hr : ∀ j, Ideal.exp ((if b j then (s j : EReal) else ⊥) - (m : EReal))
      = (((if b j then Real.exp (s j) else 0) * Real.exp (-m) : ℝ) : EReal) := fun j => by
    by_cases h : b j
    · rw [if_pos h, if_pos h, ← EReal.coe_sub, Ideal.exp_coe, sub_eq_add_neg, Real.exp_add]
    · rw [if_neg h, if_neg h, zero_mul, EReal.bot_sub, Ideal.exp_bot, EReal.coe_zero]
  simp only [hk, hr]
  set e : Fin n → ℝ := fun j => if b j then Real.exp (s j) else 0 with he
  have he0 : ∀ j, 0 ≤ e j := fun j => by
    simp only [he]; split
    · exact (Real.exp_pos _).le
    · exact le_rfl
  have hD : 0 < ∑ j, e j := Finset.sum_pos' (fun j _ => he0 j) ⟨j0, Finset.mem_univ _, by simp only [he, if_pos h0]; exact Real.exp_pos _⟩
  have hc : Real.exp (-m) ≠ 0 := (Real.exp_pos _).ne'
  change Ideal.div (∑ j, (e j : EReal) * v j) (∑ j, (e j : EReal)) = ∑ j, v j * Ideal.div ((e j * Real.exp (-m) : ℝ) : EReal) (∑ k, ((e k * Real.exp (-m) : ℝ) : EReal))
  rw [← coe_sum, ← coe_sum, ← Finset.sum_mul, div_coe _ hD.ne', sum_mul_coe _ _ (inv_nonneg.2 hD.le)]
  refine Finset.sum_congr rfl fun j _ => ?_
  rw [div_coe _ (mul_ne_zero hD.ne' hc), mul_comm (e j : EReal), mul_assoc, ← EReal.coe_mul, ← EReal.coe_mul]
  congr 2
  field_simp

/-- A score of the kernel, whose input is scaled before the products, is the reference's, scaled after them. -/
theorem score_eq {n d : ℕ} (x : Fin n → ℝ) (w : Fin n → Fin d → ℝ) (k : Fin d → ℝ) (S : ℝ) :
    ∃ s : ℝ, (∑ r, (∑ m, ((x m : EReal) * (S : EReal)) * (w m r : EReal)) * (k r : EReal) = (s : EReal))
      ∧ (∑ r, (∑ m, (x m : EReal) * (w m r : EReal)) * (k r : EReal)) * (S : EReal) = (s : EReal) := by
  refine ⟨(∑ r, (∑ m, x m * w m r) * k r) * S, ?_, ?_⟩
  · simp only [← EReal.coe_mul, ← coe_sum]
    congr 1
    rw [Finset.sum_mul]
    refine Finset.sum_congr rfl fun r _ => ?_
    rw [Finset.sum_mul, Finset.sum_mul, Finset.sum_mul]
    exact Finset.sum_congr rfl fun m _ => by ring
  · simp only [← EReal.coe_mul, ← coe_sum]

end Cert.Softmax
-- ==== Proof.HeadValue.lean ====
/-
# A head of the kernel is a head of the reference

Device `c` computes heads `8c` to `8c + 7`. On real inputs, real query weights and real keys each of them is what the
reference computes, whatever the values hold.
-/
module

public import proofs.«01_k».proof.Proof.KerValue
public import proofs.«01_k».proof.Proof.RefRead
public import proofs.«01_k».proof.Proof.Mask
public import proofs.«01_k».proof.Proof.Softmax

@[expose] public section

noncomputable section

namespace Cert.Value

open Idealize.ShloMosaic
open Cert.KernelIdeal.Gen Cert.KernelIdeal.Body
open Cert.ReferenceIdeal Cert.ReferenceIdeal.Stage

/-- The scale is a real. -/
theorem scale_real : ∃ S : ℝ, Ideal.ofBits .f32 0x3DB504F3#32 = (S : EReal) := by
  simp [Ideal.ofBits, Ideal.ieee, -EReal.coe_mul]

variable (c : Fin 16) (x : FVec Ideal S1x256x1024 .f32) (wq : FVec Ideal S1024x16384 .f32) (k v : FVec Ideal S1x4096x128x128 .f32)
  (wqc : Vec Ideal Cert.KernelIdeal.S1024x1024 .f32) (kc vc : Fin 8 → Vec Ideal Cert.KernelIdeal.S1x4096x128 .f32)

/-- A score of the kernel and the same score of the reference are one real. -/
theorem score_eq (hx : ∀ i, ∃ r : ℝ, x i = (r : EReal)) (hwq : ∀ i, ∃ r : ℝ, wq i = (r : EReal)) (hk : ∀ i, ∃ r : ℝ, k i = (r : EReal))
    (hw : ∀ m r : Fin 1024, wqc (ix2 m r) = wq (ix2 m ⟨1024 * c.val + r.val, by omega⟩))
    (hkc : ∀ (h : Fin 8) (j : Fin 4096) (d : Fin 128), kc h (ix3 0 j d) = k (ix4 0 j ⟨8 * c.val + h.val, by omega⟩ d))
    (h : Fin 8) (i : Fin 256) (j : Fin 4096) :
    ∃ s : ℝ, headScore (128 * h.val) (by omega) (k0_pay1 x wqc) (kc h) i j = (s : EReal)
      ∧ scores x wq k (ix4 0 ⟨8 * c.val + h.val, by omega⟩ i j) = if mask (ix2 i j) = 1#1 then (s : EReal) else ⊥ := by
  choose xr hx using hx
  choose wr hwq using hwq
  choose kr hk using hk
  obtain ⟨S, hS⟩ := scale_real
  obtain ⟨s, h1, h2⟩ := Softmax.score_eq (fun m : Fin 1024 => xr (ix3 0 i m))
    (fun (m : Fin 1024) (d : Fin 128) => wr (ix2 m ⟨(8 * c.val + h.val) * 128 + d.val, by omega⟩)) (fun d : Fin 128 => kr (ix4 0 j ⟨8 * c.val + h.val, by omega⟩ d)) S
  refine ⟨s, ?_, ?_⟩
  · refine Eq.trans ?_ h1
    refine Finset.sum_congr rfl fun d _ => ?_
    rw [pay1_apply, hkc, hk]
    refine congrArg (fun y : EReal => y * (kr (ix4 0 j ⟨8 * c.val + h.val, by omega⟩ d) : EReal)) (Finset.sum_congr rfl fun m _ => ?_)
    have e : (⟨1024 * c.val + (128 * h.val + d.val), by omega⟩ : Fin 16384) = ⟨(8 * c.val + h.val) * 128 + d.val, by omega⟩ :=
      Fin.ext (by change 1024 * c.val + (128 * h.val + d.val) = (8 * c.val + h.val) * 128 + d.val; omega)
    rw [hx, hS, hw, hwq]
    exact congrArg (fun y : Fin 16384 => ((xr (ix3 0 i m) : EReal) * (S : EReal)) * (wr (ix2 m y) : EReal)) e
  · rw [scores_apply, ← h2]
    simp only [hx, hwq, hk, hS]

/-- A head's result of the kernel is the reference's. -/
theorem head_eq (hx : ∀ i, ∃ r : ℝ, x i = (r : EReal)) (hwq : ∀ i, ∃ r : ℝ, wq i = (r : EReal)) (hk : ∀ i, ∃ r : ℝ, k i = (r : EReal))
    (hw : ∀ m r : Fin 1024, wqc (ix2 m r) = wq (ix2 m ⟨1024 * c.val + r.val, by omega⟩))
    (hkc : ∀ (h : Fin 8) (j : Fin 4096) (d : Fin 128), kc h (ix3 0 j d) = k (ix4 0 j ⟨8 * c.val + h.val, by omega⟩ d))
    (hvc : ∀ (h : Fin 8) (j : Fin 4096) (d : Fin 128), vc h (ix3 0 j d) = v (ix4 0 j ⟨8 * c.val + h.val, by omega⟩ d))
    (i : Fin 256) (h : Fin 8) (d : Fin 128) :
    ctxOf (k0_pay1 x wqc) kc vc (ix2 i ⟨128 * h.val + d.val, by omega⟩)
      = ctx v (weights (exps (scores x wq k))) (ix3 0 i ⟨(8 * c.val + h.val) * 128 + d.val, by omega⟩) := by
  choose s h1 h2 using score_eq c x wq k wqc kc hx hwq hk hw hkc h i
  rw [ctxOf_apply, headOf_apply (128 * h.val) (by omega) (headSlices h) (k0_pay1 x wqc) (kc h) (vc h) i d,
    ctx_apply v (weights (exps (scores x wq k))) i ⟨8 * c.val + h.val, by omega⟩ d]
  simp only [h1, hvc, Mask.mask_eq]
  rw [Softmax.row_eq (fun j => mask (ix2 i j) = 1#1) s (fun j => v (ix4 0 j ⟨8 * c.val + h.val, by omega⟩ d)) 0 (Mask.mask_first i)
    (fun j => scores x wq k (ix4 0 ⟨8 * c.val + h.val, by omega⟩ i j)) h2 _ rfl]
  refine Finset.sum_congr rfl fun j _ => ?_
  rw [weights_apply _ _ _ _ (Mask.kept_eq i)]
  simp only [exps_apply]

/-- The results of a device's heads at a row and any of its columns. -/
theorem ctx_eq (hx : ∀ i, ∃ r : ℝ, x i = (r : EReal)) (hwq : ∀ i, ∃ r : ℝ, wq i = (r : EReal)) (hk : ∀ i, ∃ r : ℝ, k i = (r : EReal))
    (hw : ∀ m r : Fin 1024, wqc (ix2 m r) = wq (ix2 m ⟨1024 * c.val + r.val, by omega⟩))
    (hkc : ∀ (h : Fin 8) (j : Fin 4096) (d : Fin 128), kc h (ix3 0 j d) = k (ix4 0 j ⟨8 * c.val + h.val, by omega⟩ d))
    (hvc : ∀ (h : Fin 8) (j : Fin 4096) (d : Fin 128), vc h (ix3 0 j d) = v (ix4 0 j ⟨8 * c.val + h.val, by omega⟩ d))
    (i : Fin 256) (r : Fin 1024) :
    ctxOf (k0_pay1 x wqc) kc vc (ix2 i r) = ctx v (weights (exps (scores x wq k))) (ix3 0 i ⟨1024 * c.val + r.val, by omega⟩) := by
  have e := head_eq c x wq k v wqc kc vc hx hwq hk hw hkc hvc i ⟨r.val / 128, by omega⟩ ⟨r.val % 128, by omega⟩
  rw [show (r : Fin 1024) = ⟨128 * (r.val / 128) + r.val % 128, by omega⟩ from Fin.ext (by change r.val = 128 * (r.val / 128) + r.val % 128; omega)]
  refine e.trans ?_
  congr 2
  apply Fin.ext
  change (8 * c.val + r.val / 128) * 128 + r.val % 128 = 1024 * c.val + (128 * (r.val / 128) + r.val % 128)
  omega

end Cert.Value
-- ==== Proof.Result.lean ====
/-
# The kernel's result is the reference's

The sum over the devices of their sums over a thousand and twenty-four columns is the reference's one sum over all columns.
-/
module

public import proofs.«01_k».proof.Proof.HeadValue

@[expose] public section

noncomputable section

namespace Cert.Value

open Idealize.ShloMosaic
open Idealize.ShloMosaic.TcCoe
open Cert.KernelIdeal.Gen Cert.KernelIdeal.Body
open Cert.ReferenceIdeal Cert.ReferenceIdeal.Stage

/-- A sum over all columns, device by device. -/
theorem sum_devices (f : Fin 16384 → EReal) :
    ∑ R : Fin 16384, f R = ∑ c : Fin 16, ∑ r : Fin 1024, f ⟨1024 * c.val + r.val, by omega⟩ := by
  rw [← Fintype.sum_prod_type' (fun (c : Fin 16) (r : Fin 1024) => f ⟨1024 * c.val + r.val, by omega⟩)]
  refine (Fintype.sum_equiv (finProdFinEquiv (m := 16) (n := 1024)) _ _ fun p => ?_).symm
  refine congrArg f (Fin.ext ?_)
  change 1024 * p.1.val + p.2.val = p.2.val + 1024 * p.1.val
  omega

/-- A device's block of the keys or the values: heads `8c` to `8c + 7`. -/
theorem block_apply (c : Fin 16) (k : FVec Ideal S1x4096x128x128 .f32) (h : Fin 8) (j : Fin 4096) (d : Fin 128) :
    Layout.block ⟨4, ![1, 4096, 8, 128]⟩ ⟨4, ![1, 4096, 128, 128]⟩ 2 16 c k (by decide) (ix4 0 j h d) = k (ix4 0 j ⟨8 * c.val + h.val, by omega⟩ d) := by
  rw [Layout.block_apply]
  refine congrArg k (funext fun t => Fin.ext ?_)
  rw [Layout.Tiles.idx_val]
  match t with
  | ⟨0, _⟩ => rfl
  | ⟨1, _⟩ => rfl
  | ⟨2, _⟩ => change c.val * 8 + h.val = 8 * c.val + h.val; omega
  | ⟨3, _⟩ => rfl

/-- Keys whose blocks are real are real. -/
theorem real_of_blocks (k : FVec Ideal S1x4096x128x128 .f32)
    (h : ∀ (c : Fin 16) (i : (⟨4, ![1, 4096, 8, 128]⟩ : Shape).Idx), ∃ r : ℝ, Layout.block ⟨4, ![1, 4096, 8, 128]⟩ ⟨4, ![1, 4096, 128, 128]⟩ 2 16 c k (by decide) i = (r : EReal)) (i : S1x4096x128x128.Idx) :
    ∃ r : ℝ, k i = (r : EReal) := by
  obtain ⟨z, j, H, d, rfl⟩ : ∃ (z : Fin 1) (j : Fin 4096) (H d : Fin 128), i = ix4 z j H d := ⟨i 0, i 1, i 2, i 3, by
    funext t; match t with | ⟨0, _⟩ => rfl | ⟨1, _⟩ => rfl | ⟨2, _⟩ => rfl | ⟨3, _⟩ => rfl⟩
  obtain rfl : z = 0 := Subsingleton.elim _ _
  obtain ⟨c, l, rfl⟩ : ∃ (c : Fin 16) (l : Fin 8), H = ⟨8 * c.val + l.val, by omega⟩ :=
    ⟨⟨H.val / 8, by omega⟩, ⟨H.val % 8, by omega⟩, Fin.ext (by change H.val = 8 * (H.val / 8) + H.val % 8; omega)⟩
  rw [← block_apply c k l j d]
  exact h c _

variable (m : (ℓ : Loc Cert.KernelIdeal.nD Cert.KernelIdeal.τ Cert.KernelIdeal.sig) → Buf (Elt Ideal) ℓ)
  (x : FVec Ideal S1x256x1024 .f32) (wq : FVec Ideal S1024x16384 .f32) (k v : FVec Ideal S1x4096x128x128 .f32) (wo : FVec Ideal S16384x1024 .f32)

/-- A device's partial result, at an index. -/
theorem part_apply (c : Fin 16) (hx : ∀ i, ∃ r : ℝ, x i = (r : EReal)) (hwq : ∀ i, ∃ r : ℝ, wq i = (r : EReal)) (hk : ∀ i, ∃ r : ℝ, k i = (r : EReal))
    (h0 : inX m c = x) (h1 : in1 m c = wq) (h2 : in2 m c = Layout.block ⟨4, ![1, 4096, 8, 128]⟩ ⟨4, ![1, 4096, 128, 128]⟩ 2 16 c k)
    (h3 : in3 m c = Layout.block ⟨4, ![1, 4096, 8, 128]⟩ ⟨4, ![1, 4096, 128, 128]⟩ 2 16 c v) (h4 : in4 m c = wo) (a b : Fin 16) (n : Fin 1024) :
    @Eq EReal (Pm m c (ix3 a b n)) (∑ r : Fin 1024, ctx v (weights (exps (scores x wq k))) (ix3 0 ⟨a.val * 16 + b.val, by omega⟩ ⟨1024 * c.val + r.val, by omega⟩)
      * wo (ix2 ⟨1024 * c.val + r.val, by omega⟩ n)) := by
  unfold Pm partOf
  rw [h0, h1, h2, h3, h4, pay37_apply]
  refine Finset.sum_congr rfl fun r _ => ?_
  rw [woVal_apply c wo r n, ctx_eq c x wq k v _ _ _ hx hwq hk (fun m r => wqVal_apply c wq m r)
    (fun h j d => (kv_key c _ h j d).trans (block_apply c k h j d)) (fun h j d => (kv_value c _ h j d).trans (block_apply c v h j d))]

/-- What every device ends with is the reference's result. -/
theorem out_eq (hx : ∀ i, ∃ r : ℝ, x i = (r : EReal)) (hwq : ∀ i, ∃ r : ℝ, wq i = (r : EReal)) (hk : ∀ i, ∃ r : ℝ, k i = (r : EReal))
    (h0 : ∀ c, inX m c = x) (h1 : ∀ c, in1 m c = wq) (h2 : ∀ c, in2 m c = Layout.block ⟨4, ![1, 4096, 8, 128]⟩ ⟨4, ![1, 4096, 128, 128]⟩ 2 16 c k)
    (h3 : ∀ c, in3 m c = Layout.block ⟨4, ![1, 4096, 8, 128]⟩ ⟨4, ![1, 4096, 128, 128]⟩ 2 16 c v) (h4 : ∀ c, in4 m c = wo) :
    outM m = out (ctx v (weights (exps (scores x wq k)))) wo := by
  funext y
  obtain ⟨z, i, n, rfl⟩ : ∃ (z : Fin 1) (i : Fin 256) (n : Fin 1024), y = ix3 z i n := ⟨y 0, y 1, y 2, by
    funext t; match t with | ⟨0, _⟩ => rfl | ⟨1, _⟩ => rfl | ⟨2, _⟩ => rfl⟩
  obtain rfl : z = 0 := Subsingleton.elim _ _
  obtain ⟨a, b, rfl⟩ : ∃ a b : Fin 16, i = ⟨a.val * 16 + b.val, by omega⟩ :=
    ⟨⟨i.val / 16, by omega⟩, ⟨i.val % 16, by omega⟩, Fin.ext (by change i.val = i.val / 16 * 16 + i.val % 16; omega)⟩
  rw [outM_apply, out_apply, sum_devices]
  exact Finset.sum_congr rfl fun c _ => part_apply m x wq k v wo c hx hwq hk (h0 c) (h1 c) (h2 c) (h3 c) (h4 c) a b n

end Cert.Value
-- ==== Proof.Finite.lean ====
/-
# Finite inputs

The precondition, read back: every element of the input, of the query weights and of the keys is a real.
-/
module

public import proofs.«01_k».proof.Pre_finite_KernelIdeal
public import Idealize.ShloMosaic.Lib.Pointwise
public import Idealize.ShloMosaic.Lib.ReduceAll

@[expose] public section

noncomputable section

namespace Cert.Finite

open Idealize.ShloMosaic
open Cert.Pre_finite_KernelIdeal Cert.Pre_finite_KernelIdeal.Facts

instance : Subsingleton S_.Idx := ⟨fun a b => funext fun t => absurd t.isLt (Nat.not_lt_zero _)⟩

theorem ofBits_inf : Ideal.ofBits .f32 0x7F800000#32 = ⊤ := by simp [Ideal.ofBits, Ideal.ieee]

/-- An extended real whose absolute value is below +∞ is real. -/
theorem real_of_lt (x : EReal) (h : max x (-x) < ⊤) : ∃ r : ℝ, x = (r : EReal) := by
  induction x with
  | bot => simp at h
  | coe r => exact ⟨r, rfl⟩
  | top => simp at h

/-- One array's test: if every bit is set, every element is real. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32 : FVec Ideal S_ .f32))) (constantI S_ 1 1#1) hr hu j = 1#1) (i : s.Idx) :
    ∃ r : ℝ, x i = (r : EReal) := by
  have h1 := Host.reduce_andi_all _ _ hr hu j h i
  apply real_of_lt
  rw [← ofBits_inf]
  change Ideal.cmp .olt (max (x i) (-(x i))) (Ideal.ofBits .f32 0x7F800000#32) = 1#1 at h1
  by_contra hn
  rw [show Ideal.cmp .olt (max (x i) (-(x i))) (Ideal.ofBits .f32 0x7F800000#32) = BitVec.ofBool (decide (max (x i) (-(x i)) < Ideal.ofBits .f32 0x7F800000#32)) from rfl, decide_eq_false hn] at h1
  exact absurd h1 (by decide)

/-- The precondition, read back. -/
theorem real_of_fn [Facts] (x : FVec Ideal S1x256x1024 .f32) (wq : FVec Ideal S1024x16384 .f32) (k v : FVec Ideal S1x4096x8x128 .f32) (wo : FVec Ideal S16384x1024 .f32)
    (h : fn x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h ix0
  obtain ⟨h12, h3⟩ := IntOp.andi_eq_one.1 h0
  obtain ⟨h1, h2⟩ := IntOp.andi_eq_one.1 h12
  exact ⟨real_of_all x _ _ _ _ h1, real_of_all wq _ _ _ _ h2, real_of_all k _ _ _ _ h3⟩

end Cert.Finite
-- ==== Proof.Algebraic.lean ====
/-
# The value claim

On the same arrays, with finite inputs, query weights and keys, every device ends with the reference's result.
-/
module

public import proofs.«01_k».proof.Defs
public import proofs.«01_k».proof.Proof.Frames
public import proofs.«01_k».proof.Proof.Result
public import proofs.«01_k».proof.Proof.Finite

@[expose] public section

noncomputable section

namespace Cert.Proof

open Idealize.ShloMosaic Idealize.SL.Sem

/-- Over the extended reals the kernel and the reference compute one result. -/
theorem algebraic [Cert.Pre_finite_KernelIdeal.Facts] : Cert.algebraic_KernelIdeal_ReferenceIdeal_pre_finite_KernelIdeal := by
  intro m g m' g' hpre hargs
  have hf := fun c => Finite.real_of_fn _ _ _ _ _ (hpre c)
  have hx := (hf 0).1
  have hwq := (hf 0).2.1
  rw [(hargs 0).1] at hx
  rw [(hargs 0).2.1] at hwq
  have hk := Value.real_of_blocks _ fun c i => by
    have := (hf c).2.2 i
    rw [(hargs c).2.2.1] at this
    exact this
  have e := (Value.out_eq m _ _ _ _ _ hx hwq hk (fun c => (hargs c).1) (fun c => (hargs c).2.1) (fun c => (hargs c).2.2.1)
    (fun c => (hargs c).2.2.2.1) (fun c => (hargs c).2.2.2.2)).trans (Cert.ReferenceIdeal.Stage.res_eq m' 0).symm
  refine ⟨Cert.ReferenceIdeal.Value.res_main_v44 m' 0, ?_, ?_⟩
  · refine (θ_run Cert.KernelIdeal.defs _ _).mono (fun r h c => ?_) (Cert.KernelIdeal.Body.run_main (F := Ideal) m g)
    exact ⟨((h.1 c).1).trans e, (h.1 c).2⟩
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, one by one. -/
theorem claim : Cert.Claim :=
  ⟨Cert.Kernel.Gen.facts, Cert.KernelIdeal.Gen.facts, Cert.ReferenceIdeal.Gen.facts, facts_kernel, facts_reference,
    frame_kernel, frame_ideal, letI := facts_kernel; frame_ideal_finite, frame_reference, letI := facts_reference; frame_reference_finite,
    trivial, letI := facts_kernel; algebraic⟩

end Cert.Proof

end
